-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "neg" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x8192x8x128 : Shape := ⟨4, ![2, 8192, 8, 128]⟩
abbrev S2x8192x8x64 : Shape := ⟨4, ![2, 8192, 8, 64]⟩
abbrev S2x8448x8x128 : Shape := ⟨4, ![2, 8448, 8, 128]⟩
abbrev S2x8448x64 : Shape := ⟨3, ![2, 8448, 64]⟩
abbrev S2x2x2048x5632 : Shape := ⟨4, ![2, 2, 2048, 5632]⟩
abbrev S2x2x5632x2048 : Shape := ⟨4, ![2, 2, 5632, 2048]⟩
abbrev S_ : Shape := ⟨0, ![]⟩

class Facts : Prop where
  bcast_S_S2x8192x8x128 : S_.BroadcastsInDim S2x8192x8x128 (![] : Fin 0 → Fin S2x8192x8x128.rank)
  bcast_S_S2x8192x8x64 : S_.BroadcastsInDim S2x8192x8x64 (![] : Fin 0 → Fin S2x8192x8x64.rank)
  bcast_S_S2x8448x8x128 : S_.BroadcastsInDim S2x8448x8x128 (![] : Fin 0 → Fin S2x8448x8x128.rank)
  bcast_S_S2x8448x64 : S_.BroadcastsInDim S2x8448x64 (![] : Fin 0 → Fin S2x8448x64.rank)

variable [Facts]

def fn {F : FTy → Type} [FloatOps F] (main_arg0 : FVec F S2x8192x8x128 .f32) (main_arg1 : FVec F S2x8192x8x64 .f32) (main_arg2 : FVec F S2x8448x8x128 .f32) (main_arg3 : FVec F S2x8448x64 .f32) (main_arg4 : FVec F S2x8448x8x128 .f32) (main_arg5 : FVec F S2x2x2048x5632 .f32) (main_arg6 : FVec F S2x2x2048x5632 .f32) (main_arg7 : FVec F S2x2x5632x2048 .f32) : IVec S2x8192x8x128 1 × IVec S2x8192x8x64 1 × IVec S2x8448x8x128 1 × IVec S2x8448x64 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_v3 : FVec F S2x8192x8x64 .f32 := Host.absf main_arg1
  let main_cst_0 : FVec F S_ .f32 := constant S_ .f32 0x7F800000#32
  let main_v4 : FVec F S2x8192x8x64 .f32 := broadcastInDim S2x8192x8x64 ![] bcast_S_S2x8192x8x64 main_cst_0
  let main_v5 : IVec S2x8192x8x64 1 := cmpf .olt main_v3 main_v4
  let main_v6 : FVec F S2x8448x8x128 .f32 := Host.absf main_arg2
  let main_cst_1 : FVec F S_ .f32 := constant S_ .f32 0x7F800000#32
  let main_v7 : FVec F S2x8448x8x128 .f32 := broadcastInDim S2x8448x8x128 ![] bcast_S_S2x8448x8x128 main_cst_1
  let main_v8 : IVec S2x8448x8x128 1 := cmpf .olt main_v6 main_v7
  let main_v9 : FVec F S2x8448x64 .f32 := Host.absf main_arg3
  let main_cst_2 : FVec F S_ .f32 := constant S_ .f32 0x7F800000#32
  let main_v10 : FVec F S2x8448x64 .f32 := broadcastInDim S2x8448x64 ![] bcast_S_S2x8448x64 main_cst_2
  let main_v11 : IVec S2x8448x64 1 := cmpf .olt main_v9 main_v10
  (main_v2, main_v5, main_v8, main_v11)
-- ==== Kernel.lean ====
abbrev S2x8192x8x128 : Shape := ⟨4, ![2, 8192, 8, 128]⟩
abbrev S2x8192x8x64 : Shape := ⟨4, ![2, 8192, 8, 64]⟩
abbrev S2x8448x8x128 : Shape := ⟨4, ![2, 8448, 8, 128]⟩
abbrev S2x8448x64 : Shape := ⟨3, ![2, 8448, 64]⟩
abbrev S2x2x2048x5632 : Shape := ⟨4, ![2, 2, 2048, 5632]⟩
abbrev S2x2x5632x2048 : Shape := ⟨4, ![2, 2, 5632, 2048]⟩
abbrev S_ : Shape := ⟨0, ![]⟩
abbrev S2x8192x4x64 : Shape := ⟨4, ![2, 8192, 4, 64]⟩
abbrev S2x8192x4x128 : Shape := ⟨4, ![2, 8192, 4, 128]⟩
abbrev S2x8192x4x1x128 : Shape := ⟨5, ![2, 8192, 4, 1, 128]⟩
abbrev S2x8192x4x2x128 : Shape := ⟨5, ![2, 8192, 4, 2, 128]⟩
abbrev S2x8192x8x256 : Shape := ⟨4, ![2, 8192, 8, 256]⟩
abbrev S16384x2048 : Shape := ⟨2, ![16384, 2048]⟩
abbrev S2x8448x128 : Shape := ⟨3, ![2, 8448, 128]⟩
abbrev S2x8448x1x128 : Shape := ⟨4, ![2, 8448, 1, 128]⟩
abbrev S2x8448x8x256 : Shape := ⟨4, ![2, 8448, 8, 256]⟩
abbrev S2x8448x2048 : Shape := ⟨3, ![2, 8448, 2048]⟩
abbrev S2x8448x1024 : Shape := ⟨3, ![2, 8448, 1024]⟩
abbrev S16384x1024 : Shape := ⟨2, ![16384, 1024]⟩
abbrev S2048x5632 : Shape := ⟨2, ![2048, 5632]⟩
abbrev S5632x2048 : Shape := ⟨2, ![5632, 2048]⟩
abbrev S1024x256 : Shape := ⟨2, ![1024, 256]⟩
abbrev S1x8448x256 : Shape := ⟨3, ![1, 8448, 256]⟩
abbrev S1x8448x128 : Shape := ⟨3, ![1, 8448, 128]⟩
abbrev S1x1x16x5632 : Shape := ⟨4, ![1, 1, 16, 5632]⟩
abbrev S1x1x176x2048 : Shape := ⟨4, ![1, 1, 176, 2048]⟩
abbrev S1024x128 : Shape := ⟨2, ![1024, 128]⟩
abbrev S16x5632 : Shape := ⟨2, ![16, 5632]⟩
abbrev S176x2048 : Shape := ⟨2, ![176, 2048]⟩
abbrev S2x1024x768 : Shape := ⟨3, ![2, 1024, 768]⟩
abbrev S1x768x256 : Shape := ⟨3, ![1, 768, 256]⟩
abbrev S768x256 : Shape := ⟨2, ![768, 256]⟩
abbrev S1024x768 : Shape := ⟨2, ![1024, 768]⟩
abbrev S1x1024x768 : Shape := ⟨3, ![1, 1024, 768]⟩
abbrev S1x768x128 : Shape := ⟨3, ![1, 768, 128]⟩
abbrev S768x128 : Shape := ⟨2, ![768, 128]⟩
abbrev S1x256x768 : Shape := ⟨3, ![1, 256, 768]⟩
abbrev S256x768 : Shape := ⟨2, ![256, 768]⟩
abbrev S256x128 : Shape := ⟨2, ![256, 128]⟩
abbrev S256 : Shape := ⟨1, ![256]⟩
abbrev S256x1 : Shape := ⟨2, ![256, 1]⟩

abbrev nBuf : Space → Nat
  | .hbm => 33
  | .vmem => 24
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8448x8x128, .f32⟩
  | .hbm, ⟨3, _⟩ => ⟨S2x8448x64, .f32⟩
  | .hbm, ⟨4, _⟩ => ⟨S2x8448x8x128, .f32⟩
  | .hbm, ⟨5, _⟩ => ⟨S2x2x2048x5632, .f32⟩
  | .hbm, ⟨6, _⟩ => ⟨S2x2x2048x5632, .f32⟩
  | .hbm, ⟨7, _⟩ => ⟨S2x2x5632x2048, .f32⟩
  | .hbm, ⟨8, _⟩ => ⟨S_, .f32⟩
  | .hbm, ⟨9, _⟩ => ⟨S2x8192x4x64, .f32⟩
  | .hbm, ⟨10, _⟩ => ⟨S2x8192x4x64, .f32⟩
  | .hbm, ⟨11, _⟩ => ⟨S2x8192x4x128, .f32⟩
  | .hbm, ⟨12, _⟩ => ⟨S2x8192x4x64, .f32⟩
  | .hbm, ⟨13, _⟩ => ⟨S2x8192x4x128, .f32⟩
  | .hbm, ⟨14, _⟩ => ⟨S2x8192x4x1x128, .f32⟩
  | .hbm, ⟨15, _⟩ => ⟨S2x8192x4x1x128, .f32⟩
  | .hbm, ⟨16, _⟩ => ⟨S2x8192x4x2x128, .f32⟩
  | .hbm, ⟨17, _⟩ => ⟨S2x8192x8x128, .f32⟩
  | .hbm, ⟨18, _⟩ => ⟨S2x8192x8x256, .f32⟩
  | .hbm, ⟨19, _⟩ => ⟨S2x8192x8x256, .bf16⟩
  | .hbm, ⟨20, _⟩ => ⟨S16384x2048, .bf16⟩
  | .hbm, ⟨21, _⟩ => ⟨S2x8448x128, .f32⟩
  | .hbm, ⟨22, _⟩ => ⟨S2x8448x1x128, .f32⟩
  | .hbm, ⟨23, _⟩ => ⟨S2x8448x8x128, .f32⟩
  | .hbm, ⟨24, _⟩ => ⟨S2x8448x8x256, .f32⟩
  | .hbm, ⟨25, _⟩ => ⟨S2x8448x8x256, .bf16⟩
  | .hbm, ⟨26, _⟩ => ⟨S2x8448x2048, .bf16⟩
  | .hbm, ⟨27, _⟩ => ⟨S2x8448x8x128, .bf16⟩
  | .hbm, ⟨28, _⟩ => ⟨S2x8448x1024, .bf16⟩
  | .hbm, ⟨29, _⟩ => ⟨S16384x1024, .bf16⟩
  | .hbm, ⟨30, _⟩ => ⟨S2048x5632, .bf16⟩
  | .hbm, ⟨31, _⟩ => ⟨S2048x5632, .bf16⟩
  | .hbm, ⟨32, _⟩ => ⟨S5632x2048, .bf16⟩
  | .local _ .vmem, ⟨0, _⟩ => ⟨S1024x256, .bf16⟩
  | .local _ .vmem, ⟨1, _⟩ => ⟨S1024x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x1x16x5632, .f32⟩
  | .local _ .vmem, ⟨7, _⟩ => ⟨S1x1x16x5632, .f32⟩
  | .local _ .vmem, ⟨8, _⟩ => ⟨S1x1x16x5632, .f32⟩
  | .local _ .vmem, ⟨9, _⟩ => ⟨S1x1x16x5632, .f32⟩
  | .local _ .vmem, ⟨10, _⟩ => ⟨S1x1x176x2048, .f32⟩
  | .local _ .vmem, ⟨11, _⟩ => ⟨S1x1x176x2048, .f32⟩
  | .local _ .vmem, ⟨12, _⟩ => ⟨S1024x128, .bf16⟩
  | .local _ .vmem, ⟨13, _⟩ => ⟨S1024x128, .bf16⟩
  | .local _ .vmem, ⟨14, _⟩ => ⟨S16x5632, .bf16⟩
  | .local _ .vmem, ⟨15, _⟩ => ⟨S16x5632, .bf16⟩
  | .local _ .vmem, ⟨16, _⟩ => ⟨S16x5632, .bf16⟩
  | .local _ .vmem, ⟨17, _⟩ => ⟨S16x5632, .bf16⟩
  | .local _ .vmem, ⟨18, _⟩ => ⟨S176x2048, .bf16⟩
  | .local _ .vmem, ⟨19, _⟩ => ⟨S176x2048, .bf16⟩
  | .local _ .vmem, ⟨20, _⟩ => ⟨S2x1024x768, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32 c0_i32_2
  let v11 : BitVec 32 := Scalar.extui v10
  let c0_i32_3 : BitVec 32 := 0#32
  let v12 : BitVec 1 := Scalar.cmpi .slt c1_i32 c0_i32_3
  let v13 : BitVec 32 := Scalar.extui v12
  let v14 : BitVec 32 := Scalar.subi v11 v13
  let v15 : BitVec 1 := Scalar.cmpi .ne v9 v14
  let v16 : BitVec 32 := Scalar.remsi v3 c1_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c127_i32 : BitVec 32 := 127#32
  let v21 : BitVec 32 := Scalar.minsi v20 c127_i32
  let c1_i32_6 : BitVec 32 := 1#32
  let c1_i32_7 : BitVec 32 := 1#32
  let c0_i32_8 : BitVec 32 := 0#32
  let c0_i32_9 : BitVec 32 := 0#32
  ![c1_i32_6.toNat, c1_i32_7.toNat, v21.toNat, c0_i32_8.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32 c0_i32_2
  let v11 : BitVec 32 := Scalar.extui v10
  let c0_i32_3 : BitVec 32 := 0#32
  let v12 : BitVec 1 := Scalar.cmpi .slt c1_i32 c0_i32_3
  let v13 : BitVec 32 := Scalar.extui v12
  let v14 : BitVec 32 := Scalar.subi v11 v13
  let v15 : BitVec 1 := Scalar.cmpi .ne v9 v14
  let v16 : BitVec 32 := Scalar.remsi v3 c1_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c127_i32 : BitVec 32 := 127#32
  let v21 : BitVec 32 := Scalar.minsi v20 c127_i32
  let c1_i32_6 : BitVec 32 := 1#32
  let c1_i32_7 : BitVec 32 := 1#32
  let c0_i32_8 : BitVec 32 := 0#32
  let c0_i32_9 : BitVec 32 := 0#32
  ![c1_i32_6.toNat, c1_i32_7.toNat, v21.toNat, c0_i32_8.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c31_i32 : BitVec 32 := 31#32
  let v21 : BitVec 32 := Scalar.minsi v20 c31_i32
  let c1_i32_5 : BitVec 32 := 1#32
  let c1_i32_6 : BitVec 32 := 1#32
  let c0_i32_7 : BitVec 32 := 0#32
  let c0_i32_8 : BitVec 32 := 0#32
  ![c1_i32_5.toNat, c1_i32_6.toNat, v21.toNat, c0_i32_7.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32 c0_i32_2
  let v11 : BitVec 32 := Scalar.extui v10
  let c0_i32_3 : BitVec 32 := 0#32
  let v12 : BitVec 1 := Scalar.cmpi .slt c1_i32 c0_i32_3
  let v13 : BitVec 32 := Scalar.extui v12
  let v14 : BitVec 32 := Scalar.subi v11 v13
  let v15 : BitVec 1 := Scalar.cmpi .ne v9 v14
  let v16 : BitVec 32 := Scalar.remsi v3 c1_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32 c0_i32_2
  let v11 : BitVec 32 := Scalar.extui v10
  let c0_i32_3 : BitVec 32 := 0#32
  let v12 : BitVec 1 := Scalar.cmpi .slt c1_i32 c0_i32_3
  let v13 : BitVec 32 := Scalar.extui v12
  let v14 : BitVec 32 := Scalar.subi v11 v13
  let v15 : BitVec 1 := Scalar.cmpi .ne v9 v14
  let v16 : BitVec 32 := Scalar.remsi v3 c1_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x16x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S176x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "neg" => some ⊥
  | "scale_log2e" => some (((Real.sqrt 192)⁻¹ * (Real.log 2)⁻¹ : ℝ) : EReal)
  | _ => none
-- ==== ReferenceIdeal.lean ====
abbrev S2x8192x8x128 : Shape := ⟨4, ![2, 8192, 8, 128]⟩
abbrev S2x8192x8x64 : Shape := ⟨4, ![2, 8192, 8, 64]⟩
abbrev S2x8448x8x128 : Shape := ⟨4, ![2, 8448, 8, 128]⟩
abbrev S2x8448x64 : Shape := ⟨3, ![2, 8448, 64]⟩
abbrev S2x2x2048x5632 : Shape := ⟨4, ![2, 2, 2048, 5632]⟩
abbrev S2x2x5632x2048 : Shape := ⟨4, ![2, 2, 5632, 2048]⟩
abbrev S_ : Shape := ⟨0, ![]⟩
abbrev S2x8x8192x8448 : Shape := ⟨4, ![2, 8, 8192, 8448]⟩
abbrev S2x8448x8192x8 : Shape := ⟨4, ![2, 8448, 8192, 8]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S16384x1024 : Shape := ⟨2, ![16384, 1024]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8448x8x128, .f32⟩
  | .hbm, ⟨3, _⟩ => ⟨S2x8448x64, .f32⟩
  | .hbm, ⟨4, _⟩ => ⟨S2x8448x8x128, .f32⟩
  | .hbm, ⟨5, _⟩ => ⟨S2x2x2048x5632, .f32⟩
  | .hbm, ⟨6, _⟩ => ⟨S2x2x2048x5632, .f32⟩
  | .hbm, ⟨7, _⟩ => ⟨S2x2x5632x2048, .f32⟩
  | .hbm, ⟨8, _⟩ => ⟨S_, .f32⟩
  | .hbm, ⟨9, _⟩ => ⟨S_, .f32⟩
  | .hbm, ⟨10, _⟩ => ⟨S2x8x8192x8448, .f32⟩
  | .hbm, ⟨11, _⟩ => ⟨S2x8448x8192x8, .f32⟩
  | .hbm, ⟨12, _⟩ => ⟨S2x8x8192x8448, .f32⟩
  | .hbm, ⟨13, _⟩ => ⟨S2x8x8192x8448, .f32⟩
  | .hbm, ⟨14, _⟩ => ⟨S2x8x8192x8448, .f32⟩
  | .hbm, ⟨15, _⟩ => ⟨S2x8x8192x8448, .f32⟩
  | .hbm, ⟨16, _⟩ => ⟨S_, .f32⟩
  | .hbm, ⟨17, _⟩ => ⟨S2x8x8192, .f32⟩
  | .hbm, ⟨18, _⟩ => ⟨S_, .f32⟩
  | .hbm, ⟨19, _⟩ => ⟨S2x8x8192, .f32⟩
  | .hbm, ⟨20, _⟩ => ⟨S2x8x8192, .f32⟩
  | .hbm, ⟨21, _⟩ => ⟨S2x8x8192x1, .f32⟩
  | .hbm, ⟨22, _⟩ => ⟨S2x8x8192x8448, .f32⟩
  | .hbm, ⟨23, _⟩ => ⟨S2x8x8192x8448, .f32⟩
  | .hbm, ⟨24, _⟩ => ⟨S2x8x8192x8448, .f32⟩
  | .hbm, ⟨25, _⟩ => ⟨S_, .f32⟩
  | .hbm, ⟨26, _⟩ => ⟨S2x8x8192, .f32⟩
  | .hbm, ⟨27, _⟩ => ⟨S2x8x8192x1, .f32⟩
  | .hbm, ⟨28, _⟩ => ⟨S2x8x8192x8448, .f32⟩
  | .hbm, ⟨29, _⟩ => ⟨S2x8x8192x8448, .f32⟩
  | .hbm, ⟨30, _⟩ => ⟨S2x8x128x8192, .f32⟩
  | .hbm, ⟨31, _⟩ => ⟨S2x8192x8x128, .f32⟩
  | .hbm, ⟨32, _⟩ => ⟨S16384x1024, .f32⟩
  | .hbm, ⟨33, _⟩ => ⟨S16384x1024, .bf16⟩
  | .hbm, ⟨34, _⟩ => ⟨S1x1x2048x5632, .f32⟩
  | .hbm, ⟨35, _⟩ => ⟨S2048x5632, .f32⟩
  | .hbm, ⟨36, _⟩ => ⟨S2048x5632, .bf16⟩
  | .hbm, ⟨37, _⟩ => ⟨S1x1x2048x5632, .f32⟩
  | .hbm, ⟨38, _⟩ => ⟨S2048x5632, .f32⟩
  | .hbm, ⟨39, _⟩ => ⟨S2048x5632, .bf16⟩
  | .hbm, ⟨40, _⟩ => ⟨S1x1x5632x2048, .f32⟩
  | .hbm, ⟨41, _⟩ => ⟨S5632x2048, .f32⟩
  | .hbm, ⟨42, _⟩ => ⟨S5632x2048, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048 : Shape := ⟨1, ![2048]⟩
abbrev S2x1x2048 : Shape := ⟨3, ![2, 1, 2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S64x2048 : Shape := ⟨2, ![64, 2048]⟩
abbrev S1x1x2048 : Shape := ⟨3, ![1, 1, 2048]⟩
abbrev S2048x512 : Shape := ⟨2, ![2048, 512]⟩
abbrev S2x512x2048 : Shape := ⟨3, ![2, 512, 2048]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩
abbrev S1x64x2048 : Shape := ⟨3, ![1, 64, 2048]⟩
abbrev S64 : Shape := ⟨1, ![64]⟩
abbrev S64x1 : Shape := ⟨2, ![64, 1]⟩

abbrev nBuf : Space → Nat
  | .hbm => 16
  | .vmem => 26
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S16384x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S1x2048, .f32⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S64x2048, .f32⟩
  | .local _ .vmem, ⟨2, _⟩ => ⟨S64x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | .local _ .vmem, ⟨23, _⟩ => ⟨S2x512x2048, .bf16⟩
  | .local _ .vmem, ⟨24, _⟩ => ⟨S2x512x2048, .f32⟩
  | .local _ .vmem, ⟨25, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 11], ![false, false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v17 : Index := Scalar.indexCast v9
  let c0_7 : Index := 0#32
  let c0_8 : Index := 0#32
  ![v17.toNat, 0, 0]
def k0_mult1 (i : grid0.Coords) : BitVec 32 :=
  let arg1 : BitVec 32 := BitVec.ofNat 32 (i 1).val
  let c7_i32 : BitVec 32 := 7#32
  let v41 : BitVec 32 := Scalar.minsi arg1 c7_i32
  let c64_i32 : BitVec 32 := 64#32
  let v42 : BitVec 32 := Scalar.muli v41 c64_i32
  v42
def k0_off2 (i : grid0.Coords) : Fin 3 → Nat :=
  let c1_i32_25 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : BitVec 32 := Scalar.subi c1_i32_25 v9
  let v47 : Index := Scalar.indexCast v46
  let arg1 : BitVec 32 := BitVec.ofNat 32 (i 1).val
  let c7_i32 : BitVec 32 := 7#32
  let v41 : BitVec 32 := Scalar.minsi arg1 c7_i32
  let c64_i32 : BitVec 32 := 64#32
  let v42 : BitVec 32 := Scalar.muli v41 c64_i32
  let v43 : BitVec 32 := v42
  let v48 : Index := Scalar.indexCast v43
  let c0_26 : Index := 0#32
  ![v47.toNat, v48.toNat, 0]
def k0_cond2 (i : grid0.Coords) : BitVec 1 :=
  let arg1 : BitVec 32 := BitVec.ofNat 32 (i 1).val
  let c10_i32 : BitVec 32 := 10#32
  let v81 : BitVec 1 := Scalar.cmpi .eq arg1 c10_i32
  let v82 : BitVec 32 := Scalar.extui v81
  let c0_i32_39 : BitVec 32 := 0#32
  let v83 : BitVec 1 := Scalar.cmpi .ne v82 c0_i32_39
  v83

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : Index := Scalar.indexCast v9
  let c0_40 : Index := 0#32
  let c0_41 : Index := 0#32
  ![v84.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let v19 : BitVec 32 := Scalar.minsi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let v19 : BitVec 32 := Scalar.minsi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S2x8192x2048 : Shape := ⟨3, ![2, 8192, 2048]⟩
abbrev S2048 : Shape := ⟨1, ![2048]⟩
abbrev S2x1x2048 : Shape := ⟨3, ![2, 1, 2048]⟩
abbrev S2048x5632 : Shape := ⟨2, ![2048, 5632]⟩
abbrev S5632x2048 : Shape := ⟨2, ![5632, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x5632 : Shape := ⟨3, ![2, 8192, 5632]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S1x1x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x5632, .f32⟩
  | .hbm, ⟨36, _⟩ => ⟨S2x8192x5632, .f32⟩
  | .hbm, ⟨37, _⟩ => ⟨S2x8192x5632, .f32⟩
  | .hbm, ⟨38, _⟩ => ⟨S_, .f32⟩
  | .hbm, ⟨39, _⟩ => ⟨S2x8192x5632, .f32⟩
  | .hbm, ⟨40, _⟩ => ⟨S2x8192x5632, .f32⟩
  | .hbm, ⟨41, _⟩ => ⟨S_, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x2048, .f32⟩
  | .hbm, ⟨63, _⟩ => ⟨S2x8192x2048, .f32⟩
  | .hbm, ⟨64, _⟩ => ⟨S1x1x2048, .f32⟩
  | .hbm, ⟨65, _⟩ => ⟨S2x8192x2048, .f32⟩
  | .hbm, ⟨66, _⟩ => ⟨S2x8192x2048, .f32⟩
  | .hbm, ⟨67, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x256x2048 : Shape := ⟨3, ![2, 256, 2048]⟩
abbrev S2048 : Shape := ⟨1, ![2048]⟩
abbrev S2x1x2048 : Shape := ⟨3, ![2, 1, 2048]⟩
abbrev S1x1x2048 : Shape := ⟨3, ![1, 1, 2048]⟩
abbrev S2048x5632 : Shape := ⟨2, ![2048, 5632]⟩
abbrev S5632x2048 : Shape := ⟨2, ![5632, 2048]⟩
abbrev S16384x2048 : Shape := ⟨2, ![16384, 2048]⟩
abbrev S512x2048 : Shape := ⟨2, ![512, 2048]⟩
abbrev S16896x2048 : Shape := ⟨2, ![16896, 2048]⟩
abbrev S3x1x2048 : Shape := ⟨3, ![3, 1, 2048]⟩
abbrev S1x2048 : Shape := ⟨2, ![1, 2048]⟩
abbrev S64x2048 : Shape := ⟨2, ![64, 2048]⟩
abbrev S2048x512 : Shape := ⟨2, ![2048, 512]⟩
abbrev S2x512x2048 : Shape := ⟨3, ![2, 512, 2048]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩
abbrev S1x64x2048 : Shape := ⟨3, ![1, 64, 2048]⟩
abbrev S64 : Shape := ⟨1, ![64]⟩
abbrev S64x1 : Shape := ⟨2, ![64, 1]⟩

abbrev nBuf : Space → Nat
  | .hbm => 23
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S16384x2048, .f32⟩
  | .hbm, ⟨13, _⟩ => ⟨S512x2048, .f32⟩
  | .hbm, ⟨14, _⟩ => ⟨S16896x2048, .f32⟩
  | .hbm, ⟨15, _⟩ => ⟨S3x1x2048, .f32⟩
  | .hbm, ⟨16, _⟩ => ⟨S3x1x2048, .f32⟩
  | .hbm, ⟨17, _⟩ => ⟨S3x1x2048, .f32⟩
  | .hbm, ⟨18, _⟩ => ⟨S2048x5632, .bf16⟩
  | .hbm, ⟨19, _⟩ => ⟨S2048x5632, .bf16⟩
  | .hbm, ⟨20, _⟩ => ⟨S5632x2048, .bf16⟩
  | .hbm, ⟨21, _⟩ => ⟨S1x2048, .f32⟩
  | .hbm, ⟨22, _⟩ => ⟨S16896x2048, .f32⟩
  | .local _ .vmem, ⟨0, _⟩ => ⟨S512x2048, .f32⟩
  | .local _ .vmem, ⟨1, _⟩ => ⟨S64x2048, .f32⟩
  | .local _ .vmem, ⟨2, _⟩ => ⟨S64x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | .local _ .vmem, ⟨22, _⟩ => ⟨S2x512x2048, .bf16⟩
  | .local _ .vmem, ⟨23, _⟩ => ⟨S2x512x2048, .f32⟩
  | .local _ .vmem, ⟨24, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![33, 11], ![false, false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v17 : Index := Scalar.indexCast v9
  let c0_7 : Index := 0#32
  let c0_8 : Index := 0#32
  ![v17.toNat, 0, 0]
def k0_mult1 (i : grid0.Coords) : BitVec 32 :=
  let arg1 : BitVec 32 := BitVec.ofNat 32 (i 1).val
  let c7_i32 : BitVec 32 := 7#32
  let v41 : BitVec 32 := Scalar.minsi arg1 c7_i32
  let c64_i32 : BitVec 32 := 64#32
  let v42 : BitVec 32 := Scalar.muli v41 c64_i32
  v42
def k0_off2 (i : grid0.Coords) : Fin 3 → Nat :=
  let c1_i32_25 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : BitVec 32 := Scalar.subi c1_i32_25 v9
  let v47 : Index := Scalar.indexCast v46
  let arg1 : BitVec 32 := BitVec.ofNat 32 (i 1).val
  let c7_i32 : BitVec 32 := 7#32
  let v41 : BitVec 32 := Scalar.minsi arg1 c7_i32
  let c64_i32 : BitVec 32 := 64#32
  let v42 : BitVec 32 := Scalar.muli v41 c64_i32
  let v43 : BitVec 32 := v42
  let v48 : Index := Scalar.indexCast v43
  let c0_26 : Index := 0#32
  ![v47.toNat, v48.toNat, 0]
def k0_cond2 (i : grid0.Coords) : BitVec 1 :=
  let arg1 : BitVec 32 := BitVec.ofNat 32 (i 1).val
  let c10_i32 : BitVec 32 := 10#32
  let v81 : BitVec 1 := Scalar.cmpi .eq arg1 c10_i32
  let v82 : BitVec 32 := Scalar.extui v81
  let c0_i32_39 : BitVec 32 := 0#32
  let v83 : BitVec 1 := Scalar.cmpi .ne v82 c0_i32_39
  v83

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : Index := Scalar.indexCast v9
  let c0_40 : Index := 0#32
  let c0_41 : Index := 0#32
  ![v84.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.minsi v0 c32_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.minsi v0 c32_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let v19 : BitVec 32 := Scalar.minsi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.minsi v0 c32_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let v19 : BitVec 32 := Scalar.minsi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S2x8192x2048 : Shape := ⟨3, ![2, 8192, 2048]⟩
abbrev S2x256x2048 : Shape := ⟨3, ![2, 256, 2048]⟩
abbrev S2048 : Shape := ⟨1, ![2048]⟩
abbrev S2x1x2048 : Shape := ⟨3, ![2, 1, 2048]⟩
abbrev S1x1x2048 : Shape := ⟨3, ![1, 1, 2048]⟩
abbrev S2048x5632 : Shape := ⟨2, ![2048, 5632]⟩
abbrev S5632x2048 : Shape := ⟨2, ![5632, 2048]⟩
abbrev S_ : Shape := ⟨0, ![]⟩
abbrev S2x8192 : Shape := ⟨2, ![2, 8192]⟩
abbrev S2x8192x1 : Shape := ⟨3, ![2, 8192, 1]⟩
abbrev S2x8192x5632 : Shape := ⟨3, ![2, 8192, 5632]⟩
abbrev S2x256 : Shape := ⟨2, ![2, 256]⟩
abbrev S2x256x1 : Shape := ⟨3, ![2, 256, 1]⟩
abbrev S2x256x5632 : Shape := ⟨3, ![2, 256, 5632]⟩
abbrev S16384x2048 : Shape := ⟨2, ![16384, 2048]⟩
abbrev S512x2048 : Shape := ⟨2, ![512, 2048]⟩
abbrev S16896x2048 : Shape := ⟨2, ![16896, 2048]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S_, .f32⟩
  | .hbm, ⟨13, _⟩ => ⟨S2x1x2048, .f32⟩
  | .hbm, ⟨14, _⟩ => ⟨S2x1x2048, .f32⟩
  | .hbm, ⟨15, _⟩ => ⟨S2x8192x2048, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S1x1x2048, .f32⟩
  | .hbm, ⟨29, _⟩ => ⟨S2x8192x2048, .f32⟩
  | .hbm, ⟨30, _⟩ => ⟨S2x8192x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S_, .f32⟩
  | .hbm, ⟨42, _⟩ => ⟨S2x8192x5632, .f32⟩
  | .hbm, ⟨43, _⟩ => ⟨S2x8192x5632, .f32⟩
  | .hbm, ⟨44, _⟩ => ⟨S_, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S_, .f32⟩
  | .hbm, ⟨55, _⟩ => ⟨S1x1x2048, .f32⟩
  | .hbm, ⟨56, _⟩ => ⟨S1x1x2048, .f32⟩
  | .hbm, ⟨57, _⟩ => ⟨S2x256x2048, .f32⟩
  | .hbm, ⟨58, _⟩ => ⟨S_, .f32⟩
  | .hbm, ⟨59, _⟩ => ⟨S2x256, .f32⟩
  | .hbm, ⟨60, _⟩ => ⟨S2x256x1, .f32⟩
  | .hbm, ⟨61, _⟩ => ⟨S_, .f32⟩
  | .hbm, ⟨62, _⟩ => ⟨S2x256x1, .f32⟩
  | .hbm, ⟨63, _⟩ => ⟨S2x256x1, .f32⟩
  | .hbm, ⟨64, _⟩ => ⟨S_, .f32⟩
  | .hbm, ⟨65, _⟩ => ⟨S2x256x1, .f32⟩
  | .hbm, ⟨66, _⟩ => ⟨S2x256x1, .f32⟩
  | .hbm, ⟨67, _⟩ => ⟨S2x256x1, .f32⟩
  | .hbm, ⟨68, _⟩ => ⟨S2x256x2048, .f32⟩
  | .hbm, ⟨69, _⟩ => ⟨S2x256x2048, .f32⟩
  | .hbm, ⟨70, _⟩ => ⟨S1x1x2048, .f32⟩
  | .hbm, ⟨71, _⟩ => ⟨S2x256x2048, .f32⟩
  | .hbm, ⟨72, _⟩ => ⟨S2x256x2048, .f32⟩
  | .hbm, ⟨73, _⟩ => ⟨S_, .f32⟩
  | .hbm, ⟨74, _⟩ => ⟨S1x1x2048, .f32⟩
  | .hbm, ⟨75, _⟩ => ⟨S1x1x2048, .f32⟩
  | .hbm, ⟨76, _⟩ => ⟨S2x256x2048, .f32⟩
  | .hbm, ⟨77, _⟩ => ⟨S2x256x2048, .f32⟩
  | .hbm, ⟨78, _⟩ => ⟨S2x256x2048, .f32⟩
  | .hbm, ⟨79, _⟩ => ⟨S2x256x2048, .f32⟩
  | .hbm, ⟨80, _⟩ => ⟨S2x256x5632, .f32⟩
  | .hbm, ⟨81, _⟩ => ⟨S2x256x5632, .f32⟩
  | .hbm, ⟨82, _⟩ => ⟨S2x256x5632, .f32⟩
  | .hbm, ⟨83, _⟩ => ⟨S_, .f32⟩
  | .hbm, ⟨84, _⟩ => ⟨S2x256x5632, .f32⟩
  | .hbm, ⟨85, _⟩ => ⟨S2x256x5632, .f32⟩
  | .hbm, ⟨86, _⟩ => ⟨S_, .f32⟩
  | .hbm, ⟨87, _⟩ => ⟨S2x256x5632, .f32⟩
  | .hbm, ⟨88, _⟩ => ⟨S2x256x5632, .f32⟩
  | .hbm, ⟨89, _⟩ => ⟨S2x256x5632, .f32⟩
  | .hbm, ⟨90, _⟩ => ⟨S2x256x5632, .f32⟩
  | .hbm, ⟨91, _⟩ => ⟨S2x256x5632, .f32⟩
  | .hbm, ⟨92, _⟩ => ⟨S2x256x2048, .f32⟩
  | .hbm, ⟨93, _⟩ => ⟨S2x256x2048, .f32⟩
  | .hbm, ⟨94, _⟩ => ⟨S2x256x2048, .f32⟩
  | .hbm, ⟨95, _⟩ => ⟨S2x256x2048, .f32⟩
  | .hbm, ⟨96, _⟩ => ⟨S16384x2048, .f32⟩
  | .hbm, ⟨97, _⟩ => ⟨S512x2048, .f32⟩
  | .hbm, ⟨98, _⟩ => ⟨S16896x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Proof.Online.lean ====
module

public import Idealize.ShloMosaic.Lib.Pointwise
public import Mathlib.Algebra.BigOperators.Intervals

/-! # The online softmax over the extended reals

A row of scores is absorbed a chunk of keys at a time. After the first `n` keys the running maximum, the running sum
and the running weighted sum are the three functions below of the scores and the values; absorbing `K` more keys gives
the same functions at `n + K`, whatever the scores are. For finite scores the quotient at the end is the softmax. -/

@[expose] public section

noncomputable section

namespace Cert.Online

open Idealize.ShloMosaic

/-- The largest of the first `n` scores. -/
def rowMax (S : ℕ → EReal) (n : ℕ) : EReal := (Finset.range n).sup S

/-- The sum of the first `n` weights, each taken against the largest of the first `n` scores. -/
def rowSum (S : ℕ → EReal) (n : ℕ) : EReal := ∑ i ∈ Finset.range n, Ideal.exp2 (S i - rowMax S n)

/-- The weighted sum of the first `n` values. -/
def rowAcc (S V : ℕ → EReal) (n : ℕ) : EReal := ∑ i ∈ Finset.range n, Ideal.exp2 (S i - rowMax S n) * V i

/-- The maximum of no scores. -/
theorem rowMax_zero (S : ℕ → EReal) : rowMax S 0 = ⊥ := rfl
/-- The sum over no scores. -/
theorem rowSum_zero (S : ℕ → EReal) : rowSum S 0 = 0 := rfl
/-- The accumulator over no scores. -/
theorem rowAcc_zero (S V : ℕ → EReal) : rowAcc S V 0 = 0 := rfl

/-- The maximum over `n + K` scores is the maximum of the one over the first `n` and the one over the next `K`. -/
theorem rowMax_add (S : ℕ → EReal) (n K : ℕ) :
    rowMax S (n + K) = max (rowMax S n) (Finset.univ.sup fun k : Fin K => S (n + k)) := by
  apply le_antisymm
  · refine Finset.sup_le fun i hi => ?_
    have hi' := Finset.mem_range.1 hi
    rcases lt_or_ge i n with h | h
    · exact le_max_of_le_left (Finset.le_sup (f := S) (Finset.mem_range.2 h))
    · refine le_max_of_le_right ?_
      have := Finset.le_sup (f := fun k : Fin K => S (n + k)) (Finset.mem_univ (⟨i - n, by omega⟩ : Fin K))
      simpa [Nat.add_sub_cancel' h] using this
  · refine max_le (Finset.sup_le fun i hi => ?_) (Finset.sup_le fun k _ => ?_)
    · exact Finset.le_sup (f := S) (Finset.mem_range.2 (by have := Finset.mem_range.1 hi; omega))
    · exact Finset.le_sup (f := S) (Finset.mem_range.2 (by omega))

/-- A running maximum only grows. -/
theorem rowMax_le_add (S : ℕ → EReal) (n K : ℕ) : rowMax S n ≤ rowMax S (n + K) := by
  rw [rowMax_add]; exact le_max_left _ _

/-- A power of two is never negative. -/
theorem exp2_nonneg (x : EReal) : 0 ≤ Ideal.exp2 x := by
  induction x with
  | bot => simp
  | top => simp
  | coe r => rw [Ideal.exp2_coe]; exact_mod_cast Real.rpow_nonneg (by norm_num) r

/-- The factor that rescales the sums when the maximum grows is not infinite. -/
theorem alpha_ne_top {m m' : EReal} (h : m ≤ m') : Ideal.exp2 (m - m') ≠ ⊤ := by
  induction m' with
  | bot => obtain rfl := le_bot_iff.1 h; simp
  | top => induction m <;> simp
  | coe r' =>
    induction m with
    | bot => simp
    | top => simp at h
    | coe r => rw [← EReal.coe_sub, Ideal.exp2_coe]; exact EReal.coe_ne_top _

/-- Rescaling a weight taken against the old maximum gives the weight taken against the new one. -/
theorem alpha_mul {s m m' : EReal} (hs : s ≤ m) (h : m ≤ m') :
    Ideal.exp2 (m - m') * Ideal.exp2 (s - m) = Ideal.exp2 (s - m') := by
  induction m with
  | bot => obtain rfl := le_bot_iff.1 hs; simp
  | top => obtain rfl := top_le_iff.1 h; induction s <;> simp
  | coe r =>
    induction m' with
    | bot => simp at h
    | top => induction s <;> simp
    | coe r' =>
      induction s with
      | bot => simp
      | top => simp at hs
      | coe x =>
        rw [← EReal.coe_sub, ← EReal.coe_sub, ← EReal.coe_sub, Ideal.exp2_coe, Ideal.exp2_coe, Ideal.exp2_coe,
          ← EReal.coe_mul]
        congr 1
        show (2 : ℝ) ^ (r - r') * (2 : ℝ) ^ (x - r) = (2 : ℝ) ^ (x - r')
        rw [← Real.rpow_add (by norm_num)]; congr 1; ring

/-- A finite factor that is not negative goes into a sum. -/
theorem mul_sum {ι : Type} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- Absorbing `K` more keys: the weighted sum. -/
theorem rowAcc_add (S V : ℕ → EReal) (n K : ℕ) :
    rowAcc S V (n + K) = Ideal.exp2 (rowMax S n - rowMax S (n + K)) * rowAcc S V n
      + ∑ k : Fin K, Ideal.exp2 (S (n + k) - rowMax S (n + K)) * V (n + k) := by
  have hle := rowMax_le_add S n K
  conv_lhs => rw [rowAcc, Finset.sum_range_add]
  rw [rowAcc, mul_sum _ _ (exp2_nonneg _) (alpha_ne_top hle), Finset.sum_range (n := K)]
  congr 1
  refine Finset.sum_congr rfl fun i hi => ?_
  rw [← mul_assoc, alpha_mul (m := rowMax S n) (Finset.le_sup (f := S) hi) hle]

/-- The sum of weights is the weighted sum of ones. -/
theorem rowSum_eq (S : ℕ → EReal) (n : ℕ) : rowSum S n = rowAcc S (fun _ => 1) n := by
  simp [rowSum, rowAcc]

/-- Absorbing `K` more keys: the sum of weights. -/
theorem rowSum_add (S : ℕ → EReal) (n K : ℕ) :
    rowSum S (n + K) = Ideal.exp2 (rowMax S n - rowMax S (n + K)) * rowSum S n
      + ∑ k : Fin K, Ideal.exp2 (S (n + k) - rowMax S (n + K)) := by
  rw [rowSum_eq, rowSum_eq, rowAcc_add]; simp

/-- The largest of finitely many finite scores is one of them. -/
theorem exists_rowMax (x : ℕ → ℝ) (n : ℕ) (hn : 0 < n) :
    ∃ j < n, rowMax (fun i => (x i : EReal)) n = (x j : EReal) ∧ ∀ i < n, x i ≤ x j := by
  obtain ⟨j, hj, hm⟩ := Finset.exists_max_image (Finset.range n) x ⟨0, Finset.mem_range.2 hn⟩
  refine ⟨j, Finset.mem_range.1 hj, le_antisymm (Finset.sup_le fun i hi => ?_)
    (Finset.le_sup (f := fun i => (x i : EReal)) hj), fun i hi => hm i (Finset.mem_range.2 hi)⟩
  exact_mod_cast hm i hi

/-- For finite scores in base two, the quotient of the weighted sum by the sum of weights is the softmax, in base `e`,
    of the scores times the logarithm of two, applied to the values. -/
theorem quotient_eq_softmax (y : ℕ → ℝ) (V : ℕ → EReal) (S : ℕ → EReal) (n : ℕ) (hn : 0 < n)
    (hS : ∀ i, S i = ((y i * (Real.log 2)⁻¹ : ℝ) : EReal)) :
    Ideal.div (rowAcc S V n) (rowSum S n)
      = ∑ k : Fin n, Ideal.div (Ideal.exp (((y k : ℝ) : EReal) - Finset.univ.sup fun k : Fin n => ((y k : ℝ) : EReal)))
          (∑ k' : Fin n, Ideal.exp (((y k' : ℝ) : EReal) - Finset.univ.sup fun k : Fin n => ((y k : ℝ) : EReal))) * V k := by
  have hlog : 0 < Real.log 2 := Real.log_pos (by norm_num)
  obtain rfl : S = fun i => ((y i * (Real.log 2)⁻¹ : ℝ) : EReal) := funext hS
  obtain ⟨j, hj, hM, hmax⟩ := exists_rowMax (fun i => y i * (Real.log 2)⁻¹) n hn
  have hY : (Finset.univ.sup fun k : Fin n => ((y k : ℝ) : EReal)) = (y j : EReal) := by
    apply le_antisymm
    · refine Finset.sup_le fun k _ => ?_
      have := hmax k k.2
      have : y k ≤ y j := le_of_mul_le_mul_right this (inv_pos.2 hlog)
      exact_mod_cast this
    · exact Finset.le_sup (f := fun k : Fin n => ((y k : ℝ) : EReal)) (Finset.mem_univ (⟨j, hj⟩ : Fin n))
  have hw : ∀ i, Ideal.exp2 (((y i * (Real.log 2)⁻¹ : ℝ) : EReal) - rowMax (fun i => ((y i * (Real.log 2)⁻¹ : ℝ) : EReal)) n)
      = ((Real.exp (y i - y j) : ℝ) : EReal) := fun i => by
    rw [hM, ← EReal.coe_sub, Ideal.exp2_coe]
    congr 1
    rw [Real.rpow_eq_pow, Real.rpow_def_of_pos (by norm_num)]
    congr 1; field_simp
  have he : ∀ k : Fin n, Ideal.exp (((y k : ℝ) : EReal) - (y j : EReal)) = ((Real.exp (y k - y j) : ℝ) : EReal) := fun k => by
    rw [← EReal.coe_sub, Ideal.exp_coe]
  rw [rowAcc, rowSum, Finset.sum_range, Finset.sum_range, hY]
  simp only [hw, he]
  have hcoe : ∑ k : Fin n, ((Real.exp (y k - y j) : ℝ) : EReal) = ((∑ k : Fin n, Real.exp (y k - y j) : ℝ) : EReal) := by
    induction (Finset.univ : Finset (Fin n)) using Finset.induction_on with
    | empty => simp
    | insert i s hi ih => rw [Finset.sum_insert hi, Finset.sum_insert hi, ih, EReal.coe_add]
  rw [hcoe]
  set d : ℝ := ∑ k : Fin n, Real.exp (y k - y j) with hd
  have hdpos : 0 < d := Finset.sum_pos (fun _ _ => Real.exp_pos _) ⟨⟨j, hj⟩, Finset.mem_univ _⟩
  have hd0 : ((d : ℝ) : EReal) ≠ 0 := by exact_mod_cast hdpos.ne'
  simp only [Ideal.div, if_neg hd0]
  rw [mul_comm, mul_sum]
  · refine Finset.sum_congr rfl fun k _ => ?_
    rw [← mul_assoc, mul_comm ((d : EReal)⁻¹)]
  · rw [← EReal.coe_inv]; exact_mod_cast (inv_pos.2 hdpos).le
  · rw [← EReal.coe_inv]; exact EReal.coe_ne_top _

end Cert.Online
-- ==== Proof.Absorb.lean ====
module

public import proofs.«01_k».proof.Proof.Gen.KernelIdeal.Frame
public import proofs.«01_k».proof.Proof.Online
public import Idealize.ShloMosaic.Lib.Pointwise

/-! # One absorb: a row block takes in one chunk of keys

The running maximum, sum and weighted sum of the 1024 query rows lie in three scratch arrays; a step takes a block of
256 rows and 768 keys, and rewrites that block's rows. -/

@[expose] public section

set_option maxRecDepth 16384

noncomputable section

namespace Cert.KernelIdeal.Mla

open Idealize.ShloMosaic Cert.KernelIdeal Cert.KernelIdeal.Gen Cert.Online

/-- The pieces stored to a `[1024, 128]` scratch array. -/
abbrev Pieces := List (View.Piece (Elt Ideal) S1024x128 .f32)

/-- How many chunks the rows of `row`'s block have absorbed after `k` steps. -/
def cnt (k row : ℕ) : ℕ := (k + 3 - row / 256) / 4

/-- After `k` steps the list of stores holds, at each row and lane, `f` of that row, that lane and the keys absorbed. -/
def Holds (f : ℕ → ℕ → ℕ → EReal) (k : ℕ) (L : Pieces) : Prop :=
  ∀ (r : Fin 1024) (d : Fin 128), View.canon L (ix2 r d) = f r d (768 * cnt k r)

/-- A store to row block `b`, read at one of its rows. -/
theorem canon_in {b : ℕ} (hb : b < 4) {off : Fin 2 → ℕ} (hoff : off = ![256 * b, 0]) (inb) (w : S256x128.Idx → EReal)
    (L : Pieces) (r : Fin 256) (d : Fin 128) :
    View.canon ((⟨Rect.unit (s := S1024x128) off S256x128.size inb, w⟩ : View.Piece (Elt Ideal) S1024x128 .f32) :: L)
      (ix2 ⟨256 * b + r, by omega⟩ d) = w (ix2 r d) := by
  subst hoff
  have hx : ix2 ⟨256 * b + r, by omega⟩ d = (Rect.unit (s := S1024x128) ![256 * b, 0] S256x128.size inb).emb (ix2 r d) := by
    funext a
    fin_cases a <;> apply Fin.ext
    · show 256 * b + r.val = 256 * b + 1 * r.val; omega
    · show d.val = 0 + 1 * d.val; omega
  rw [hx, View.canon_cons_emb]

/-- The same store, read at a row of another block. -/
theorem canon_out {b : ℕ} {off : Fin 2 → ℕ} (hoff : off = ![256 * b, 0]) (inb) (w : S256x128.Idx → EReal)
    (L : Pieces) (r : Fin 1024) (d : Fin 128) (hr : r.val / 256 ≠ b) :
    View.canon ((⟨Rect.unit (s := S1024x128) off S256x128.size inb, w⟩ : View.Piece (Elt Ideal) S1024x128 .f32) :: L) (ix2 r d)
      = View.canon L (ix2 r d) := by
  subst hoff
  refine View.canon_cons_of_not_mem _ L fun hm => hr ?_
  have h := (Rect.mem_set_unit (inb := inb)).1 hm 0
  simp at h
  omega

/-- A read of row block `b` of a `[1024, 128]` array. -/
theorem read_rows {sg : RefSig} {κ : Kind} {sp : Space} (v : View sg κ sp S1024x128 .f32) (L : Pieces) {b : ℕ} (hb : b < 4)
    {off : Fin 2 → ℕ} (hoff : off = ![256 * b, 0]) (inb) (r : Fin 256) (d : Fin 128) :
    v.readCov (Val := Elt Ideal) L (Rect.unit (s := S1024x128) off S256x128.size inb).toLoadRect (ix2 r d)
      = View.canon L (ix2 ⟨256 * b + r, by omega⟩ d) := by
  subst hoff
  rw [View.readCov_eq_canon']
  show View.canon L _ = _
  congr 1
  funext a
  fin_cases a <;> apply Fin.ext <;> simp [LoadRect.idx]

/-- The accumulator of a row maximum starts below every score. -/
theorem ofBits_neg_inf : Ideal.ofBits .f32 0xFF800000#32 = ⊥ := by simp [Ideal.ofBits, Ideal.ieee]

/-- The new running maximum of a row. -/
theorem max_read (s : Vec Ideal S1x256x768 .f32) (m : Vec Ideal S256x128 .f32) (r : Fin 256) (d : Fin 128) :
    k0_pay11 (F := Ideal) s m (ix2 r d) = max (m (ix2 r d)) (Finset.univ.sup fun c : Fin 768 => s (ix3 0 r c)) := by
  pointwise [k0_pay11, k0_pay10]
  rw [show Ideal.ofBits .f32 4286578688#32 = ⊥ from ofBits_neg_inf]
  rfl

/-- The weight of a key in a row. -/
theorem weight_read (s : Vec Ideal S1x256x768 .f32) (m : Vec Ideal S256x128 .f32) (r : Fin 256) (c : Fin 768)
    (M : EReal) (hM : ∀ d, k0_pay11 (F := Ideal) s m (ix2 r d) = M) :
    k0_pay13 (F := Ideal) s m (ix2 r c) = Ideal.exp2 (s (ix3 0 r c) - M) := by
  pointwise [k0_pay13, k0_pay10]
  simp only [hM, dite_eq_ite, ite_self]
  rfl

/-- The new running sum of a row. -/
theorem sum_read (s : Vec Ideal S1x256x768 .f32) (m l : Vec Ideal S256x128 .f32) (r : Fin 256) (d : Fin 128) :
    k0_pay14 (F := Ideal) s m l (ix2 r d) = Ideal.exp2 (m (ix2 r d) - k0_pay11 (F := Ideal) s m (ix2 r d)) * l (ix2 r d)
      + ∑ c : Fin 768, k0_pay13 (F := Ideal) s m (ix2 r c) := by
  pointwise [k0_pay14, k0_pay12]
  rfl

/-- The new running weighted sum of a row. -/
theorem acc_read (v : Vec Ideal S1x768x128 .bf16) (s : Vec Ideal S1x256x768 .f32) (m a : Vec Ideal S256x128 .f32) (r : Fin 256) (d : Fin 128) :
    k0_pay15 (F := Ideal) v s m a (ix2 r d) = Ideal.exp2 (m (ix2 r d) - k0_pay11 (F := Ideal) s m (ix2 r d)) * a (ix2 r d)
      + ∑ c : Fin 768, k0_pay13 (F := Ideal) s m (ix2 r c) * v (ix3 0 c d) := by
  pointwise [k0_pay15, k0_pay12, k0_pay9]
  rfl

/-- A store to row block `b` at step `4 * n + b` that holds what the rows hold after `n + 1` chunks keeps the
    statement, at the next step. -/
theorem Holds.cons {f : ℕ → ℕ → ℕ → EReal} {n b : ℕ} (hb : b < 4) {L : Pieces} (h : Holds f (4 * n + b) L)
    {off : Fin 2 → ℕ} (hoff : off = ![256 * b, 0]) (inb) (w : S256x128.Idx → EReal)
    (hw : ∀ (r : Fin 256) (d : Fin 128), w (ix2 r d) = f (256 * b + r) d (768 * n + 768)) :
    Holds f (4 * n + b + 1) (⟨Rect.unit (s := S1024x128) off S256x128.size inb, w⟩ :: L) := by
  intro r d
  by_cases hr : r.val / 256 = b
  · have hr' : r = ⟨256 * b + (⟨r - 256 * b, by omega⟩ : Fin 256), by show 256 * b + (r.val - 256 * b) < 1024; omega⟩ :=
      Fin.ext (show r.val = 256 * b + (r.val - 256 * b) by omega)
    rw [hr', canon_in hb hoff, hw]
    have hc : cnt (4 * n + b + 1) (256 * b + (r.val - 256 * b)) = n + 1 := by unfold cnt; omega
    show f _ _ _ = f _ _ (768 * cnt (4 * n + b + 1) (256 * b + (r.val - 256 * b)))
    rw [hc]; rfl
  · rw [canon_out hoff inb w L r d hr, h r d]
    have hc : cnt (4 * n + b + 1) r = cnt (4 * n + b) r := by unfold cnt; omega
    rw [hc]

section Step

variable {S V : ℕ → ℕ → EReal} {n b : ℕ}

/-- What a row block holds before its step `4 * n + b`. -/
theorem Holds.rows {f : ℕ → ℕ → ℕ → EReal} {L : Pieces} (hb : b < 4) (h : Holds f (4 * n + b) L) (r : Fin 256) (d : Fin 128) :
    View.canon L (ix2 ⟨256 * b + r, by omega⟩ d) = f (256 * b + r) d (768 * n) := by
  rw [h]
  have hc : cnt (4 * n + b) (256 * b + r.val) = n := by unfold cnt; omega
  show f _ _ (768 * cnt (4 * n + b) (256 * b + r.val)) = _
  rw [hc]

/-- The running maxima, as what each row and lane holds. -/
def fM (S : ℕ → ℕ → EReal) : ℕ → ℕ → ℕ → EReal := fun r _ n => rowMax (S r) n
/-- The running sums. -/
def fL (S : ℕ → ℕ → EReal) : ℕ → ℕ → ℕ → EReal := fun r _ n => rowSum (S r) n
/-- The running weighted sums of the values' columns. -/
def fA (S V : ℕ → ℕ → EReal) : ℕ → ℕ → ℕ → EReal := fun r d n => rowAcc (S r) (V d) n

/-- A score array of two slots holds chunk `n` in slot `a`. -/
def Slot (S : ℕ → ℕ → EReal) (a n : ℕ) (L : List (View.Piece (Elt Ideal) S2x1024x768 .f32)) : Prop :=
  ∃ h : a < 2, ∀ (r : Fin 1024) (c : Fin 768), View.canon L (ix3 ⟨a, h⟩ r c) = S r (768 * n + c)

/-- A read of row block `b` of slot `a`. -/
theorem Slot.read {a : ℕ} {L} (h : Slot S a n L) {sg : RefSig} {κ : Kind} {sp : Space} (v : View sg κ sp S2x1024x768 .f32)
    (hb : b < 4) {off : Fin 3 → ℕ} (hoff : off = ![a, 256 * b, 0]) (inb) (r : Fin 256) (c : Fin 768) :
    v.readCov (Val := Elt Ideal) L (Rect.unit (s := S2x1024x768) off S1x256x768.size inb).toLoadRect (ix3 0 r c) = S (256 * b + r) (768 * n + c) := by
  subst hoff
  obtain ⟨ha, h⟩ := h
  rw [View.readCov_eq_canon', ← h ⟨256 * b + r, by omega⟩ c]
  show View.canon L _ = _
  congr 1
  funext x
  fin_cases x <;> apply Fin.ext <;> simp [LoadRect.idx]

/-- Storing chunk `n`'s scores in slot `a`. -/
theorem Slot.head {a : ℕ} (ha : a < 2) {off : Fin 3 → ℕ} (hoff : off = ![a, 0, 0]) (inb) (w : S1x1024x768.Idx → EReal) (L)
    (hw : ∀ (r : Fin 1024) (c : Fin 768), w (ix3 0 r c) = S r (768 * n + c)) :
    Slot S a n (⟨Rect.unit (s := S2x1024x768) off S1x1024x768.size inb, w⟩ :: L) := by
  subst hoff
  refine ⟨ha, fun r c => ?_⟩
  have hx : ix3 ⟨a, ha⟩ r c = (Rect.unit (s := S2x1024x768) ![a, 0, 0] S1x1024x768.size inb).emb (ix3 0 r c) := by
    funext x
    fin_cases x <;> apply Fin.ext
    · show a = a + 1 * 0; omega
    · show r.val = 0 + 1 * r.val; omega
    · show c.val = 0 + 1 * c.val; omega
  rw [hx, View.canon_cons_emb, hw]

/-- A store to the other slot leaves it. -/
theorem Slot.tail {a a' : ℕ} {L} (h : Slot S a n L) (ha : a ≠ a') {off : Fin 3 → ℕ} (hoff : off = ![a', 0, 0]) (inb)
    (w : S1x1024x768.Idx → EReal) : Slot S a n (⟨Rect.unit (s := S2x1024x768) off S1x1024x768.size inb, w⟩ :: L) := by
  subst hoff
  obtain ⟨ha2, h⟩ := h
  refine ⟨ha2, fun r c => ?_⟩
  rw [← h]
  refine View.canon_cons_of_not_mem _ L fun hm => ha ?_
  have h := (Rect.mem_set_unit (inb := inb)).1 hm 0
  simp at h
  omega

variable {s : Vec Ideal S1x256x768 .f32} {m l a : Vec Ideal S256x128 .f32} {v : Vec Ideal S1x768x128 .bf16}

/-- The new maximum, of a block whose scores and old maxima are known. -/
theorem newMax (hs : ∀ r c, s (ix3 0 r c) = S (256 * b + r) (768 * n + c))
    (hm : ∀ r d, m (ix2 r d) = rowMax (S (256 * b + r)) (768 * n)) (r : Fin 256) (d : Fin 128) :
    k0_pay11 (F := Ideal) s m (ix2 r d) = rowMax (S (256 * b + r)) (768 * n + 768) := by
  rw [max_read, rowMax_add, hm]
  simp only [hs]

/-- The new sum. -/
theorem newSum (hs : ∀ r c, s (ix3 0 r c) = S (256 * b + r) (768 * n + c))
    (hm : ∀ r d, m (ix2 r d) = rowMax (S (256 * b + r)) (768 * n))
    (hl : ∀ r d, l (ix2 r d) = rowSum (S (256 * b + r)) (768 * n)) (r : Fin 256) (d : Fin 128) :
    k0_pay14 (F := Ideal) s m l (ix2 r d) = rowSum (S (256 * b + r)) (768 * n + 768) := by
  rw [sum_read, rowSum_add, newMax hs hm, hm, hl]
  congr 1
  refine Finset.sum_congr rfl fun c _ => ?_
  rw [weight_read s m r c _ (newMax hs hm r), hs]

/-- The new weighted sum. -/
theorem newAcc (hs : ∀ r c, s (ix3 0 r c) = S (256 * b + r) (768 * n + c))
    (hm : ∀ r d, m (ix2 r d) = rowMax (S (256 * b + r)) (768 * n))
    (ha : ∀ (r : Fin 256) (d : Fin 128), a (ix2 r d) = rowAcc (S (256 * b + r)) (V d) (768 * n))
    (hv : ∀ (c : Fin 768) (d : Fin 128), v (ix3 0 c d) = V d (768 * n + c)) (r : Fin 256) (d : Fin 128) :
    k0_pay15 (F := Ideal) v s m a (ix2 r d) = rowAcc (S (256 * b + r)) (V d) (768 * n + 768) := by
  rw [acc_read, rowAcc_add, newMax hs hm, hm, ha]
  congr 1
  refine Finset.sum_congr rfl fun c _ => ?_
  rw [weight_read s m r c _ (newMax hs hm r), hs, hv]

variable {sg : RefSig} {κ0 κ1 κ2 κ3 : Kind} {sp0 sp1 sp2 sp3 : Space} {vS : View sg κ0 sp0 S2x1024x768 .f32}
  {vM : View sg κ1 sp1 S1024x128 .f32} {vL : View sg κ2 sp2 S1024x128 .f32} {vA : View sg κ3 sp3 S1024x128 .f32}
  {slot : ℕ} {LS : List (View.Piece (Elt Ideal) S2x1024x768 .f32)} {L1 L2 L3 : Pieces} {off : Fin 2 → ℕ} {offS : Fin 3 → ℕ}
  {inb : ∀ x, off x + S256x128.size x ≤ S1024x128.size x} {inbS : ∀ x, offS x + S1x256x768.size x ≤ S2x1024x768.size x}

/-- One step of the running maxima. -/
theorem stepM (k : ℕ) (hk : k = 4 * n + b) (hb : b < 4) (hS : Slot S slot n LS) (h1 : Holds (fM S) k L1)
    (hoff : off = ![256 * b, 0]) (hoffS : offS = ![slot, 256 * b, 0]) :
    Holds (fM S) (k + 1) (⟨Rect.unit (s := S1024x128) off S256x128.size inb, k0_pay16 (F := Ideal) (k0_pay11 (F := Ideal)
      (vS.readCov (Val := Elt Ideal) LS (Rect.unit (s := S2x1024x768) offS S1x256x768.size inbS).toLoadRect)
      (vM.readCov (Val := Elt Ideal) L1 (Rect.unit (s := S1024x128) off S256x128.size inb).toLoadRect))⟩ :: L1) := by
  subst hk
  refine Holds.cons hb h1 hoff inb _ fun r d => ?_
  have e := newMax (S := S) (n := n) (b := b) (fun r c => hS.read vS hb hoffS inbS r c)
    (fun r d => (read_rows vM L1 hb hoff inb r d).trans (h1.rows hb r d)) r d
  refine Eq.trans ?_ e
  pointwise [k0_pay16]

/-- One step of the running sums. -/
theorem stepL (k : ℕ) (hk : k = 4 * n + b) (hb : b < 4) (hS : Slot S slot n LS) (h1 : Holds (fM S) k L1) (h2 : Holds (fL S) k L2)
    (hoff : off = ![256 * b, 0]) (hoffS : offS = ![slot, 256 * b, 0]) :
    Holds (fL S) (k + 1) (⟨Rect.unit (s := S1024x128) off S256x128.size inb, k0_pay14 (F := Ideal)
      (vS.readCov (Val := Elt Ideal) LS (Rect.unit (s := S2x1024x768) offS S1x256x768.size inbS).toLoadRect)
      (vM.readCov (Val := Elt Ideal) L1 (Rect.unit (s := S1024x128) off S256x128.size inb).toLoadRect)
      (vL.readCov (Val := Elt Ideal) L2 (Rect.unit (s := S1024x128) off S256x128.size inb).toLoadRect)⟩ :: L2) := by
  subst hk
  exact Holds.cons hb h2 hoff inb _ fun r d => newSum (S := S) (n := n) (b := b) (fun r c => hS.read vS hb hoffS inbS r c)
    (fun r d => (read_rows vM L1 hb hoff inb r d).trans (h1.rows hb r d))
    (fun r d => (read_rows vL L2 hb hoff inb r d).trans (h2.rows hb r d)) r d

/-- One step of the running weighted sums. -/
theorem stepA (k : ℕ) (hk : k = 4 * n + b) (hb : b < 4) (hS : Slot S slot n LS) (h1 : Holds (fM S) k L1) (h3 : Holds (fA S V) k L3)
    (hoff : off = ![256 * b, 0]) (hoffS : offS = ![slot, 256 * b, 0])
    (hv : ∀ (c : Fin 768) (d : Fin 128), v (ix3 0 c d) = V d (768 * n + c)) :
    Holds (fA S V) (k + 1) (⟨Rect.unit (s := S1024x128) off S256x128.size inb, k0_pay15 (F := Ideal) v
      (vS.readCov (Val := Elt Ideal) LS (Rect.unit (s := S2x1024x768) offS S1x256x768.size inbS).toLoadRect)
      (vM.readCov (Val := Elt Ideal) L1 (Rect.unit (s := S1024x128) off S256x128.size inb).toLoadRect)
      (vA.readCov (Val := Elt Ideal) L3 (Rect.unit (s := S1024x128) off S256x128.size inb).toLoadRect)⟩ :: L3) := by
  subst hk
  exact Holds.cons hb h3 hoff inb _ fun r d => newAcc (S := S) (V := V) (n := n) (b := b) (fun r c => hS.read vS hb hoffS inbS r c)
    (fun r d => (read_rows vM L1 hb hoff inb r d).trans (h1.rows hb r d))
    (fun r d => (read_rows vA L3 hb hoff inb r d).trans (h3.rows hb r d)) hv r d

end Step

end Cert.KernelIdeal.Mla
-- ==== Proof.Chain.lean ====
module

public import proofs.«01_k».proof.Proof.Absorb
public import Idealize.ShloMosaic.Lib.WholeRead

/-! # The forty-four absorbs of one grid point

The kernel's body stores each chunk's scores in one of two slots and absorbs it a row block at a time. The lists of
stores are taken from the run of the body; each is one step of `Proof.Absorb` after the one before it. -/

@[expose] public section

set_option maxRecDepth 200000

noncomputable section

namespace Cert.KernelIdeal.Mla

open Idealize.ShloMosaic Cert.KernelIdeal Cert.KernelIdeal.Gen Cert.Online

variable (c : Dev nD) (arg3 : Memref sig .tc .vmem S1024x256 .bf16) (harg3 : arg3.IsWhole)
  (arg4 : Memref sig .tc .vmem S1x8448x256 .bf16) (harg4 : arg4.IsWhole)
  (arg5 : Memref sig .tc .vmem S1x8448x128 .bf16) (harg5 : arg5.IsWhole)
  (arg13 : Memref sig .tc .vmem S2x1024x768 .f32) (arg14 arg15 arg16 : Memref sig .tc .vmem S1024x128 .f32)
  (x0 : Vec Ideal S1024x256 .bf16) (x1 : Vec Ideal S1x8448x256 .bf16) (x2 : Vec Ideal S1x8448x128 .bf16)

/-- The named scale of the scores. -/
def scale : EReal := Named.named (F := Ideal) (φ := .f32) κ "scale_log2e" 0x3DD53B95#32

/-- A key's position, of the 8448. -/
abbrev key (i : ℕ) : Fin 8448 := ⟨i % 8448, Nat.mod_lt _ (by omega)⟩

/-- The score of a query row against a key: the scaled query times the key. -/
def score (x0 : Vec Ideal S1024x256 .bf16) (x1 : Vec Ideal S1x8448x256 .bf16) (r i : ℕ) : EReal :=
  ∑ d : Fin 256, x0 (ix2 ⟨r % 1024, Nat.mod_lt _ (by omega)⟩ d) * scale * x1 (ix3 0 (key i) d)

/-- A value's entry. -/
def value (x2 : Vec Ideal S1x8448x128 .bf16) (d i : ℕ) : EReal := x2 (ix3 0 (key i) ⟨d % 128, Nat.mod_lt _ (by omega)⟩)

/-- The scores after the scores of chunk `n + 1` (there are eleven chunks). -/
def listS : ℕ → List (View.Piece (Elt Ideal) S2x1024x768 .f32)
  | 0 => kernelRun0_A.sl.HS0_2 c arg3 harg3 arg4 harg4 x0 x1
  | 1 => kernelRun0_A.sl.HS0_3 c arg3 harg3 arg4 harg4 x0 x1
  | 2 => kernelRun0_A.sl.HS0_4 c arg3 harg3 arg4 harg4 x0 x1
  | 3 => kernelRun0_A.sl.HS0_5 c arg3 harg3 arg4 harg4 x0 x1
  | 4 => kernelRun0_A.sl.HS0_6 c arg3 harg3 arg4 harg4 x0 x1
  | 5 => kernelRun0_A.sl.HS0_7 c arg3 harg3 arg4 harg4 x0 x1
  | 6 => kernelRun0_A.sl.HS0_8 c arg3 harg3 arg4 harg4 x0 x1
  | 7 => kernelRun0_A.sl.HS0_9 c arg3 harg3 arg4 harg4 x0 x1
  | 8 => kernelRun0_A.sl.HS0_10 c arg3 harg3 arg4 harg4 x0 x1
  | 9 => kernelRun0_A.sl.HS0_11 c arg3 harg3 arg4 harg4 x0 x1
  | 10 => kernelRun0_A.sl.HS0_11 c arg3 harg3 arg4 harg4 x0 x1
  | _ => []

/-- The running maxima after `k` steps. -/
def listM : ℕ → Pieces
  | 0 => kernelRun0_A.sl.HS1_1
  | 1 => kernelRun0_A.sl.HS1_2 c arg3 harg3 arg4 harg4 arg13 arg14 x0 x1
  | 2 => kernelRun0_A.sl.HS1_3 c arg3 harg3 arg4 harg4 arg13 arg14 x0 x1
  | 3 => kernelRun0_A.sl.HS1_4 c arg3 harg3 arg4 harg4 arg13 arg14 x0 x1
  | 4 => kernelRun0_A.sl.HS1_5 c arg3 harg3 arg4 harg4 arg13 arg14 x0 x1
  | 5 => kernelRun0_A.sl.HS1_6 c arg3 harg3 arg4 harg4 arg13 arg14 x0 x1
  | 6 => kernelRun0_A.sl.HS1_7 c arg3 harg3 arg4 harg4 arg13 arg14 x0 x1
  | 7 => kernelRun0_A.sl.HS1_8 c arg3 harg3 arg4 harg4 arg13 arg14 x0 x1
  | 8 => kernelRun0_A.sl.HS1_9 c arg3 harg3 arg4 harg4 arg13 arg14 x0 x1
  | 9 => kernelRun0_A.sl.HS1_10 c arg3 harg3 arg4 harg4 arg13 arg14 x0 x1
  | 10 => kernelRun0_A.sl.HS1_11 c arg3 harg3 arg4 harg4 arg13 arg14 x0 x1
  | 11 => kernelRun0_A.sl.HS1_12 c arg3 harg3 arg4 harg4 arg13 arg14 x0 x1
  | 12 => kernelRun0_A.sl.HS1_13 c arg3 harg3 arg4 harg4 arg13 arg14 x0 x1
  | 13 => kernelRun0_A.sl.HS1_14 c arg3 harg3 arg4 harg4 arg13 arg14 x0 x1
  | 14 => kernelRun0_A.sl.HS1_15 c arg3 harg3 arg4 harg4 arg13 arg14 x0 x1
  | 15 => kernelRun0_A.sl.HS1_16 c arg3 harg3 arg4 harg4 arg13 arg14 x0 x1
  | 16 => kernelRun0_A.sl.HS1_17 c arg3 harg3 arg4 harg4 arg13 arg14 x0 x1
  | 17 => kernelRun0_A.sl.HS1_18 c arg3 harg3 arg4 harg4 arg13 arg14 x0 x1
  | 18 => kernelRun0_A.sl.HS1_19 c arg3 harg3 arg4 harg4 arg13 arg14 x0 x1
  | 19 => kernelRun0_A.sl.HS1_20 c arg3 harg3 arg4 harg4 arg13 arg14 x0 x1
  | 20 => kernelRun0_A.sl.HS1_21 c arg3 harg3 arg4 harg4 arg13 arg14 x0 x1
  | 21 => kernelRun0_A.sl.HS1_22 c arg3 harg3 arg4 harg4 arg13 arg14 x0 x1
  | 22 => kernelRun0_A.sl.HS1_23 c arg3 harg3 arg4 harg4 arg13 arg14 x0 x1
  | 23 => kernelRun0_A.sl.HS1_24 c arg3 harg3 arg4 harg4 arg13 arg14 x0 x1
  | 24 => kernelRun0_A.sl.HS1_25 c arg3 harg3 arg4 harg4 arg13 arg14 x0 x1
  | 25 => kernelRun0_A.sl.HS1_26 c arg3 harg3 arg4 harg4 arg13 arg14 x0 x1
  | 26 => kernelRun0_A.sl.HS1_27 c arg3 harg3 arg4 harg4 arg13 arg14 x0 x1
  | 27 => kernelRun0_A.sl.HS1_28 c arg3 harg3 arg4 harg4 arg13 arg14 x0 x1
  | 28 => kernelRun0_A.sl.HS1_29 c arg3 harg3 arg4 harg4 arg13 arg14 x0 x1
  | 29 => kernelRun0_A.sl.HS1_30 c arg3 harg3 arg4 harg4 arg13 arg14 x0 x1
  | 30 => kernelRun0_A.sl.HS1_31 c arg3 harg3 arg4 harg4 arg13 arg14 x0 x1
  | 31 => kernelRun0_A.sl.HS1_32 c arg3 harg3 arg4 harg4 arg13 arg14 x0 x1
  | 32 => kernelRun0_A.sl.HS1_33 c arg3 harg3 arg4 harg4 arg13 arg14 x0 x1
  | 33 => kernelRun0_A.sl.HS1_34 c arg3 harg3 arg4 harg4 arg13 arg14 x0 x1
  | 34 => kernelRun0_A.sl.HS1_35 c arg3 harg3 arg4 harg4 arg13 arg14 x0 x1
  | 35 => kernelRun0_A.sl.HS1_36 c arg3 harg3 arg4 harg4 arg13 arg14 x0 x1
  | 36 => kernelRun0_A.sl.HS1_37 c arg3 harg3 arg4 harg4 arg13 arg14 x0 x1
  | 37 => kernelRun0_A.sl.HS1_38 c arg3 harg3 arg4 harg4 arg13 arg14 x0 x1
  | 38 => kernelRun0_A.sl.HS1_39 c arg3 harg3 arg4 harg4 arg13 arg14 x0 x1
  | 39 => kernelRun0_A.sl.HS1_40 c arg3 harg3 arg4 harg4 arg13 arg14 x0 x1
  | 40 => kernelRun0_A.sl.HS1_41 c arg3 harg3 arg4 harg4 arg13 arg14 x0 x1
  | 41 => kernelRun0_A.sl.HS1_42 c arg3 harg3 arg4 harg4 arg13 arg14 x0 x1
  | 42 => kernelRun0_A.sl.HS1_43 c arg3 harg3 arg4 harg4 arg13 arg14 x0 x1
  | 43 => kernelRun0_A.sl.HS1_44 c arg3 harg3 arg4 harg4 arg13 arg14 x0 x1
  | _ => []

/-- The running sums after `k` steps. -/
def listL : ℕ → Pieces
  | 0 => kernelRun0_A.sl.HS2_1
  | 1 => kernelRun0_A.sl.HS2_2 c arg3 harg3 arg4 harg4 arg13 arg14 arg15 x0 x1
  | 2 => kernelRun0_A.sl.HS2_3 c arg3 harg3 arg4 harg4 arg13 arg14 arg15 x0 x1
  | 3 => kernelRun0_A.sl.HS2_4 c arg3 harg3 arg4 harg4 arg13 arg14 arg15 x0 x1
  | 4 => kernelRun0_A.sl.HS2_5 c arg3 harg3 arg4 harg4 arg13 arg14 arg15 x0 x1
  | 5 => kernelRun0_A.sl.HS2_6 c arg3 harg3 arg4 harg4 arg13 arg14 arg15 x0 x1
  | 6 => kernelRun0_A.sl.HS2_7 c arg3 harg3 arg4 harg4 arg13 arg14 arg15 x0 x1
  | 7 => kernelRun0_A.sl.HS2_8 c arg3 harg3 arg4 harg4 arg13 arg14 arg15 x0 x1
  | 8 => kernelRun0_A.sl.HS2_9 c arg3 harg3 arg4 harg4 arg13 arg14 arg15 x0 x1
  | 9 => kernelRun0_A.sl.HS2_10 c arg3 harg3 arg4 harg4 arg13 arg14 arg15 x0 x1
  | 10 => kernelRun0_A.sl.HS2_11 c arg3 harg3 arg4 harg4 arg13 arg14 arg15 x0 x1
  | 11 => kernelRun0_A.sl.HS2_12 c arg3 harg3 arg4 harg4 arg13 arg14 arg15 x0 x1
  | 12 => kernelRun0_A.sl.HS2_13 c arg3 harg3 arg4 harg4 arg13 arg14 arg15 x0 x1
  | 13 => kernelRun0_A.sl.HS2_14 c arg3 harg3 arg4 harg4 arg13 arg14 arg15 x0 x1
  | 14 => kernelRun0_A.sl.HS2_15 c arg3 harg3 arg4 harg4 arg13 arg14 arg15 x0 x1
  | 15 => kernelRun0_A.sl.HS2_16 c arg3 harg3 arg4 harg4 arg13 arg14 arg15 x0 x1
  | 16 => kernelRun0_A.sl.HS2_17 c arg3 harg3 arg4 harg4 arg13 arg14 arg15 x0 x1
  | 17 => kernelRun0_A.sl.HS2_18 c arg3 harg3 arg4 harg4 arg13 arg14 arg15 x0 x1
  | 18 => kernelRun0_A.sl.HS2_19 c arg3 harg3 arg4 harg4 arg13 arg14 arg15 x0 x1
  | 19 => kernelRun0_A.sl.HS2_20 c arg3 harg3 arg4 harg4 arg13 arg14 arg15 x0 x1
  | 20 => kernelRun0_A.sl.HS2_21 c arg3 harg3 arg4 harg4 arg13 arg14 arg15 x0 x1
  | 21 => kernelRun0_A.sl.HS2_22 c arg3 harg3 arg4 harg4 arg13 arg14 arg15 x0 x1
  | 22 => kernelRun0_A.sl.HS2_23 c arg3 harg3 arg4 harg4 arg13 arg14 arg15 x0 x1
  | 23 => kernelRun0_A.sl.HS2_24 c arg3 harg3 arg4 harg4 arg13 arg14 arg15 x0 x1
  | 24 => kernelRun0_A.sl.HS2_25 c arg3 harg3 arg4 harg4 arg13 arg14 arg15 x0 x1
  | 25 => kernelRun0_A.sl.HS2_26 c arg3 harg3 arg4 harg4 arg13 arg14 arg15 x0 x1
  | 26 => kernelRun0_A.sl.HS2_27 c arg3 harg3 arg4 harg4 arg13 arg14 arg15 x0 x1
  | 27 => kernelRun0_A.sl.HS2_28 c arg3 harg3 arg4 harg4 arg13 arg14 arg15 x0 x1
  | 28 => kernelRun0_A.sl.HS2_29 c arg3 harg3 arg4 harg4 arg13 arg14 arg15 x0 x1
  | 29 => kernelRun0_A.sl.HS2_30 c arg3 harg3 arg4 harg4 arg13 arg14 arg15 x0 x1
  | 30 => kernelRun0_A.sl.HS2_31 c arg3 harg3 arg4 harg4 arg13 arg14 arg15 x0 x1
  | 31 => kernelRun0_A.sl.HS2_32 c arg3 harg3 arg4 harg4 arg13 arg14 arg15 x0 x1
  | 32 => kernelRun0_A.sl.HS2_33 c arg3 harg3 arg4 harg4 arg13 arg14 arg15 x0 x1
  | 33 => kernelRun0_A.sl.HS2_34 c arg3 harg3 arg4 harg4 arg13 arg14 arg15 x0 x1
  | 34 => kernelRun0_A.sl.HS2_35 c arg3 harg3 arg4 harg4 arg13 arg14 arg15 x0 x1
  | 35 => kernelRun0_A.sl.HS2_36 c arg3 harg3 arg4 harg4 arg13 arg14 arg15 x0 x1
  | 36 => kernelRun0_A.sl.HS2_37 c arg3 harg3 arg4 harg4 arg13 arg14 arg15 x0 x1
  | 37 => kernelRun0_A.sl.HS2_38 c arg3 harg3 arg4 harg4 arg13 arg14 arg15 x0 x1
  | 38 => kernelRun0_A.sl.HS2_39 c arg3 harg3 arg4 harg4 arg13 arg14 arg15 x0 x1
  | 39 => kernelRun0_A.sl.HS2_40 c arg3 harg3 arg4 harg4 arg13 arg14 arg15 x0 x1
  | 40 => kernelRun0_A.sl.HS2_41 c arg3 harg3 arg4 harg4 arg13 arg14 arg15 x0 x1
  | 41 => kernelRun0_A.sl.HS2_42 c arg3 harg3 arg4 harg4 arg13 arg14 arg15 x0 x1
  | 42 => kernelRun0_A.sl.HS2_43 c arg3 harg3 arg4 harg4 arg13 arg14 arg15 x0 x1
  | 43 => kernelRun0_A.sl.HS2_44 c arg3 harg3 arg4 harg4 arg13 arg14 arg15 x0 x1
  | 44 => kernelRun0_A.sl.HS2_45 c arg3 harg3 arg4 harg4 arg13 arg14 arg15 x0 x1
  | _ => []

/-- The running weighted sums after `k` steps. -/
def listA : ℕ → Pieces
  | 0 => kernelRun0_A.sl.HS3_1
  | 1 => kernelRun0_A.sl.HS3_2 c arg3 harg3 arg4 harg4 arg5 harg5 arg13 arg14 arg16 x0 x1 x2
  | 2 => kernelRun0_A.sl.HS3_3 c arg3 harg3 arg4 harg4 arg5 harg5 arg13 arg14 arg16 x0 x1 x2
  | 3 => kernelRun0_A.sl.HS3_4 c arg3 harg3 arg4 harg4 arg5 harg5 arg13 arg14 arg16 x0 x1 x2
  | 4 => kernelRun0_A.sl.HS3_5 c arg3 harg3 arg4 harg4 arg5 harg5 arg13 arg14 arg16 x0 x1 x2
  | 5 => kernelRun0_A.sl.HS3_6 c arg3 harg3 arg4 harg4 arg5 harg5 arg13 arg14 arg16 x0 x1 x2
  | 6 => kernelRun0_A.sl.HS3_7 c arg3 harg3 arg4 harg4 arg5 harg5 arg13 arg14 arg16 x0 x1 x2
  | 7 => kernelRun0_A.sl.HS3_8 c arg3 harg3 arg4 harg4 arg5 harg5 arg13 arg14 arg16 x0 x1 x2
  | 8 => kernelRun0_A.sl.HS3_9 c arg3 harg3 arg4 harg4 arg5 harg5 arg13 arg14 arg16 x0 x1 x2
  | 9 => kernelRun0_A.sl.HS3_10 c arg3 harg3 arg4 harg4 arg5 harg5 arg13 arg14 arg16 x0 x1 x2
  | 10 => kernelRun0_A.sl.HS3_11 c arg3 harg3 arg4 harg4 arg5 harg5 arg13 arg14 arg16 x0 x1 x2
  | 11 => kernelRun0_A.sl.HS3_12 c arg3 harg3 arg4 harg4 arg5 harg5 arg13 arg14 arg16 x0 x1 x2
  | 12 => kernelRun0_A.sl.HS3_13 c arg3 harg3 arg4 harg4 arg5 harg5 arg13 arg14 arg16 x0 x1 x2
  | 13 => kernelRun0_A.sl.HS3_14 c arg3 harg3 arg4 harg4 arg5 harg5 arg13 arg14 arg16 x0 x1 x2
  | 14 => kernelRun0_A.sl.HS3_15 c arg3 harg3 arg4 harg4 arg5 harg5 arg13 arg14 arg16 x0 x1 x2
  | 15 => kernelRun0_A.sl.HS3_16 c arg3 harg3 arg4 harg4 arg5 harg5 arg13 arg14 arg16 x0 x1 x2
  | 16 => kernelRun0_A.sl.HS3_17 c arg3 harg3 arg4 harg4 arg5 harg5 arg13 arg14 arg16 x0 x1 x2
  | 17 => kernelRun0_A.sl.HS3_18 c arg3 harg3 arg4 harg4 arg5 harg5 arg13 arg14 arg16 x0 x1 x2
  | 18 => kernelRun0_A.sl.HS3_19 c arg3 harg3 arg4 harg4 arg5 harg5 arg13 arg14 arg16 x0 x1 x2
  | 19 => kernelRun0_A.sl.HS3_20 c arg3 harg3 arg4 harg4 arg5 harg5 arg13 arg14 arg16 x0 x1 x2
  | 20 => kernelRun0_A.sl.HS3_21 c arg3 harg3 arg4 harg4 arg5 harg5 arg13 arg14 arg16 x0 x1 x2
  | 21 => kernelRun0_A.sl.HS3_22 c arg3 harg3 arg4 harg4 arg5 harg5 arg13 arg14 arg16 x0 x1 x2
  | 22 => kernelRun0_A.sl.HS3_23 c arg3 harg3 arg4 harg4 arg5 harg5 arg13 arg14 arg16 x0 x1 x2
  | 23 => kernelRun0_A.sl.HS3_24 c arg3 harg3 arg4 harg4 arg5 harg5 arg13 arg14 arg16 x0 x1 x2
  | 24 => kernelRun0_A.sl.HS3_25 c arg3 harg3 arg4 harg4 arg5 harg5 arg13 arg14 arg16 x0 x1 x2
  | 25 => kernelRun0_A.sl.HS3_26 c arg3 harg3 arg4 harg4 arg5 harg5 arg13 arg14 arg16 x0 x1 x2
  | 26 => kernelRun0_A.sl.HS3_27 c arg3 harg3 arg4 harg4 arg5 harg5 arg13 arg14 arg16 x0 x1 x2
  | 27 => kernelRun0_A.sl.HS3_28 c arg3 harg3 arg4 harg4 arg5 harg5 arg13 arg14 arg16 x0 x1 x2
  | 28 => kernelRun0_A.sl.HS3_29 c arg3 harg3 arg4 harg4 arg5 harg5 arg13 arg14 arg16 x0 x1 x2
  | 29 => kernelRun0_A.sl.HS3_30 c arg3 harg3 arg4 harg4 arg5 harg5 arg13 arg14 arg16 x0 x1 x2
  | 30 => kernelRun0_A.sl.HS3_31 c arg3 harg3 arg4 harg4 arg5 harg5 arg13 arg14 arg16 x0 x1 x2
  | 31 => kernelRun0_A.sl.HS3_32 c arg3 harg3 arg4 harg4 arg5 harg5 arg13 arg14 arg16 x0 x1 x2
  | 32 => kernelRun0_A.sl.HS3_33 c arg3 harg3 arg4 harg4 arg5 harg5 arg13 arg14 arg16 x0 x1 x2
  | 33 => kernelRun0_A.sl.HS3_34 c arg3 harg3 arg4 harg4 arg5 harg5 arg13 arg14 arg16 x0 x1 x2
  | 34 => kernelRun0_A.sl.HS3_35 c arg3 harg3 arg4 harg4 arg5 harg5 arg13 arg14 arg16 x0 x1 x2
  | 35 => kernelRun0_A.sl.HS3_36 c arg3 harg3 arg4 harg4 arg5 harg5 arg13 arg14 arg16 x0 x1 x2
  | 36 => kernelRun0_A.sl.HS3_37 c arg3 harg3 arg4 harg4 arg5 harg5 arg13 arg14 arg16 x0 x1 x2
  | 37 => kernelRun0_A.sl.HS3_38 c arg3 harg3 arg4 harg4 arg5 harg5 arg13 arg14 arg16 x0 x1 x2
  | 38 => kernelRun0_A.sl.HS3_39 c arg3 harg3 arg4 harg4 arg5 harg5 arg13 arg14 arg16 x0 x1 x2
  | 39 => kernelRun0_A.sl.HS3_40 c arg3 harg3 arg4 harg4 arg5 harg5 arg13 arg14 arg16 x0 x1 x2
  | 40 => kernelRun0_A.sl.HS3_41 c arg3 harg3 arg4 harg4 arg5 harg5 arg13 arg14 arg16 x0 x1 x2
  | 41 => kernelRun0_A.sl.HS3_42 c arg3 harg3 arg4 harg4 arg5 harg5 arg13 arg14 arg16 x0 x1 x2
  | 42 => kernelRun0_A.sl.HS3_43 c arg3 harg3 arg4 harg4 arg5 harg5 arg13 arg14 arg16 x0 x1 x2
  | 43 => kernelRun0_A.sl.HS3_44 c arg3 harg3 arg4 harg4 arg5 harg5 arg13 arg14 arg16 x0 x1 x2
  | 44 => kernelRun0_A.sl.HS3_45 c arg3 harg3 arg4 harg4 arg5 harg5 arg13 arg14 arg16 x0 x1 x2
  | _ => []

/-- The scores the body stores for a chunk: the query block against the chunk's keys. -/
theorem scores_read {n : ℕ} (hn : n < 11) {off : Fin 3 → ℕ} (hoff : off = ![0, 768 * n, 0]) (inb) (inb0) (r : Fin 1024) (j : Fin 768) :
    k0_pay6 (F := Ideal) (View.readAt (Elt Ideal) arg3.view (Rect.unit (s := S1024x256) ![0, 0] S1024x256.size inb0).toLoadRect (harg3.unread x0))
      (View.readAt (Elt Ideal) arg4.view (Rect.unit (s := S1x8448x256) off S1x768x256.size inb).toLoadRect (harg4.unread x1)) (ix3 0 r j)
      = score x0 x1 r (768 * n + j) := by
  subst hoff
  pointwise [k0_pay6, k0_pay2]
  refine Finset.sum_congr rfl fun d _ => ?_
  rw [Memref.IsWhole.readAt_unread, Memref.IsWhole.readAt_unread]
  congr 1
  · congr 1
    congr 1
    funext x
    fin_cases x <;> apply Fin.ext
    · show 0 + 1 * r.val = r.val % 1024; omega
    · show 0 + 1 * d.val = d.val; omega
  · congr 1
    funext x
    fin_cases x <;> apply Fin.ext
    · rfl
    · show 768 * n + 1 * j.val = (768 * n + j.val) % 8448; omega
    · show 0 + 1 * d.val = d.val; omega

/-- The values the body reads for a chunk. -/
theorem values_read {n : ℕ} (hn : n < 11) {off : Fin 3 → ℕ} (hoff : off = ![0, 768 * n, 0]) (inb) (j : Fin 768) (d : Fin 128) :
    View.readAt (Elt Ideal) arg5.view (Rect.unit (s := S1x8448x128) off S1x768x128.size inb).toLoadRect (harg5.unread x2) (ix3 0 j d)
      = value x2 d (768 * n + j) := by
  subst hoff
  rw [Memref.IsWhole.readAt_unread]
  unfold value
  congr 1
  funext x
  fin_cases x <;> apply Fin.ext
  · rfl
  · show 768 * n + 1 * j.val = (768 * n + j.val) % 8448; omega
  · show 0 + 1 * d.val = d.val % 128; omega

/-- The load of the query block. -/
abbrev loadQ : Vec Ideal S1024x256 .bf16 :=
  View.readAt (Elt Ideal) arg3.view (Rect.unit (s := S1024x256) ![0, 0] S1024x256.size inb_S1024x256_S1024x256_0_0).toLoadRect (harg3.unread x0)

/-- The load of a chunk of keys. -/
abbrev loadK (off : Fin 3 → ℕ) (inb : ∀ x, off x + S1x768x256.size x ≤ S1x8448x256.size x) : Vec Ideal S1x768x256 .bf16 :=
  View.readAt (Elt Ideal) arg4.view (Rect.unit (s := S1x8448x256) off S1x768x256.size inb).toLoadRect (harg4.unread x1)

/-- Storing chunk `n`'s scores. -/
theorem scores_head (n : ℕ) (hn : n < 11) (a : ℕ) (ha : a < 2) {off off' : Fin 3 → ℕ} (hoff : off = ![0, 768 * n, 0])
    (hoff' : off' = ![a, 0, 0]) (inb) (inb') (w : S1x1024x768.Idx → EReal) (L)
    (hw : w = k0_pay6 (F := Ideal) (loadQ arg3 harg3 x0) (loadK arg4 harg4 x1 off inb)) :
    Slot (score x0 x1) a n (⟨Rect.unit (s := S2x1024x768) off' S1x1024x768.size inb', w⟩ :: L) := by
  subst hw
  exact Slot.head ha hoff' _ _ _ fun r j => scores_read arg3 harg3 arg4 harg4 x0 x1 hn hoff inb _ r j

/-- The chunk whose scores are stored in slot `n % 2` is still there when it is absorbed. -/
theorem slots : ∀ n, n < 11 → Slot (score x0 x1) (n % 2) n (listS c arg3 harg3 arg4 harg4 x0 x1 n) := by
  have h0 : Slot (score x0 x1) 0 0 [⟨Rect.unit (s := S2x1024x768) ![0, 0, 0] S1x1024x768.size inb_S2x1024x768_S1x1024x768_0_0_0,
      k0_pay6 (F := Ideal) (loadQ arg3 harg3 x0) (loadK arg4 harg4 x1 ![0, 0, 0] inb_S1x8448x256_S1x768x256_0_0_0)⟩] :=
    scores_head arg3 harg3 arg4 harg4 x0 x1 0 (by decide) 0 (by decide) rfl rfl _ _ _ _ rfl
  have key : ∀ n, n < 10 → Slot (score x0 x1) (n % 2) n (listS c arg3 harg3 arg4 harg4 x0 x1 n)
      ∧ Slot (score x0 x1) ((n + 1) % 2) (n + 1) (listS c arg3 harg3 arg4 harg4 x0 x1 n) := by
    intro n hn
    induction n with
    | zero => exact ⟨Slot.tail h0 (by decide) rfl _ _, scores_head arg3 harg3 arg4 harg4 x0 x1 1 (by decide) 1 (by decide) (off := ![0, 768, 0]) rfl rfl inb_S1x8448x256_S1x768x256_0_768_0 _ _ _ rfl⟩
    | succ n ih =>
      have h := (ih (by omega)).2
      have hn' : n < 9 := by omega
      have hs : (n + 1 + 1) % 2 < 2 := by omega
      have hne : (n + 1) % 2 ≠ (n + 1 + 1) % 2 := by omega
      have hc : n + 1 + 1 < 11 := by omega
      clear ih hn
      interval_cases n <;> exact ⟨Slot.tail h hne rfl _ _, scores_head arg3 harg3 arg4 harg4 x0 x1 _ hc _ hs (off := ![0, _, 0]) rfl rfl _ _ _ _ rfl⟩
  intro n hn
  rcases Nat.lt_or_ge n 10 with h | h
  · exact (key n h).1
  · obtain rfl : n = 10 := by omega
    exact (key 9 (by omega)).2

/-- The scratch arrays after `k` steps. -/
theorem run_max : ∀ k, k < 44 → Holds (fM (score x0 x1)) k (listM c arg3 harg3 arg4 harg4 arg13 arg14 x0 x1 k) := by
  intro k hk
  induction k with
  | zero =>
    intro r d
    show View.canon [_] _ = _
    rw [View.canon_unit_zero (by funext a; fin_cases a <;> rfl)]
    have hc : cnt 0 r = 0 := by unfold cnt; omega
    show _ = rowMax _ (768 * cnt 0 r)
    rw [hc]
    pointwise [k0_pay3]
    exact IdealRules.named_const.ideal_named_scalar _ _ _ _ rfl
  | succ k ih =>
    have h := ih (by omega)
    have hS := slots c arg3 harg3 arg4 harg4 x0 x1 (k / 4) (by omega)
    have hk' : k < 43 := by omega
    have hk4 : k = 4 * (k / 4) + k % 4 := by omega
    have hb : k % 4 < 4 := by omega
    clear ih hk
    interval_cases k
    iterate 43 (exact stepM _ hk4 hb hS h rfl rfl)

/-- The running sums after `k` steps. -/
theorem run_sum : ∀ k, k < 45 → Holds (fL (score x0 x1)) k (listL c arg3 harg3 arg4 harg4 arg13 arg14 arg15 x0 x1 k) := by
  intro k hk
  induction k with
  | zero =>
    intro r d
    show View.canon [_] _ = _
    rw [View.canon_unit_zero (by funext a; fin_cases a <;> rfl)]
    have hc : cnt 0 r = 0 := by unfold cnt; omega
    show _ = rowSum _ (768 * cnt 0 r)
    rw [hc]
    pointwise [k0_pay4]
    rfl
  | succ k ih =>
    have h := ih (by omega)
    have hS := slots c arg3 harg3 arg4 harg4 x0 x1 (k / 4) (by omega)
    have hM := run_max c arg3 harg3 arg4 harg4 arg13 arg14 x0 x1 k (by omega)
    have hk' : k < 44 := by omega
    have hk4 : k = 4 * (k / 4) + k % 4 := by omega
    have hb : k % 4 < 4 := by omega
    clear ih hk
    interval_cases k
    iterate 44 (exact stepL _ hk4 hb hS hM h rfl rfl)

/-- The running weighted sums after `k` steps. -/
theorem run_acc : ∀ k, k < 45 → Holds (fA (score x0 x1) (value x2)) k (listA c arg3 harg3 arg4 harg4 arg5 harg5 arg13 arg14 arg16 x0 x1 x2 k) := by
  intro k hk
  induction k with
  | zero =>
    intro r d
    show View.canon [_] _ = _
    rw [View.canon_unit_zero (by funext a; fin_cases a <;> rfl)]
    have hc : cnt 0 r = 0 := by unfold cnt; omega
    show _ = rowAcc _ _ (768 * cnt 0 r)
    rw [hc]
    pointwise [k0_pay5]
    rfl
  | succ k ih =>
    have h := ih (by omega)
    have hS := slots c arg3 harg3 arg4 harg4 x0 x1 (k / 4) (by omega)
    have hM := run_max c arg3 harg3 arg4 harg4 arg13 arg14 x0 x1 k (by omega)
    have hV := fun off hoff inb => values_read (off := off) arg5 harg5 x2 (n := k / 4) (by omega) hoff inb
    have hk' : k < 44 := by omega
    have hk4 : k = 4 * (k / 4) + k % 4 := by omega
    have hb : k % 4 < 4 := by omega
    clear ih hk
    interval_cases k
    iterate 44 (exact stepA _ hk4 hb hS hM h rfl rfl (hV ![0, _, 0] rfl _))

end Cert.KernelIdeal.Mla
-- ==== Proof.Block.lean ====
module

public import proofs.«01_k».proof.Proof.Chain

/-! # What one grid point writes

A point writes a block of 1024 query rows of one head, and the narrowed copy of one slab of each weight. -/

@[expose] public section

set_option maxRecDepth 200000

noncomputable section

namespace Cert.KernelIdeal.Mla

open Idealize.ShloMosaic Cert.KernelIdeal Cert.KernelIdeal.Gen Cert.Online

variable (c : Dev nD) (i : grid0.Coords) (arg3 : Memref sig .tc .vmem S1024x256 .bf16) (harg3 : arg3.IsWhole)
  (arg4 : Memref sig .tc .vmem S1x8448x256 .bf16) (harg4 : arg4.IsWhole)
  (arg5 : Memref sig .tc .vmem S1x8448x128 .bf16) (harg5 : arg5.IsWhole)
  (arg6 : Memref sig .tc .vmem S1x1x16x5632 .f32) (harg6 : arg6.IsWhole)
  (arg7 : Memref sig .tc .vmem S1x1x16x5632 .f32) (harg7 : arg7.IsWhole)
  (arg8 : Memref sig .tc .vmem S1x1x176x2048 .f32) (harg8 : arg8.IsWhole)
  (arg9 : Memref sig .tc .vmem S1024x128 .bf16) (harg9 : arg9.IsWhole)
  (arg10 : Memref sig .tc .vmem S16x5632 .bf16) (harg10 : arg10.IsWhole)
  (arg11 : Memref sig .tc .vmem S16x5632 .bf16) (harg11 : arg11.IsWhole)
  (arg12 : Memref sig .tc .vmem S176x2048 .bf16) (harg12 : arg12.IsWhole)
  (arg13 : Memref sig .tc .vmem S2x1024x768 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1024x128 .f32) (harg16 : arg16.IsWhole)
  (x0 : Vec Ideal S1024x256 .bf16) (x1 : Vec Ideal S1x8448x256 .bf16) (x2 : Vec Ideal S1x8448x128 .bf16)
  (x3 x4 : Vec Ideal S1x1x16x5632 .f32) (x5 : Vec Ideal S1x1x176x2048 .f32)

/-- A read of the whole of a `[1024, 128]` array. -/
theorem read_all {sg : RefSig} {κ : Kind} {sp : Space} (v : View sg κ sp S1024x128 .f32) (L : Pieces) (inb)
    (r : Fin 1024) (d : Fin 128) :
    v.readCov (Val := Elt Ideal) L (Rect.unit (s := S1024x128) ![0, 0] S1024x128.size inb).toLoadRect (ix2 r d)
      = View.canon L (ix2 r d) := by
  rw [View.readCov_eq_canon']
  show View.canon L _ = _
  congr 1
  funext a
  fin_cases a <;> apply Fin.ext <;> simp [LoadRect.idx]

/-- A load of the whole of a weight's block. -/
theorem read_slab {a b : ℕ} {sp : Space} {e : EltTy} {v : Memref sig .tc sp ⟨4, ![1, 1, a, b]⟩ e} (h : v.IsWhole)
    (X : (⟨4, ![1, 1, a, b]⟩ : Shape).Idx → Elt Ideal e) (inb) :
    View.readAt (Elt Ideal) v.view
      (Rect.unit (s := ⟨4, ![1, 1, a, b]⟩) ![0, 0, 0, 0] (⟨4, ![1, 1, a, b]⟩ : Shape).size inb).toLoadRect (h.unread X) = X := by
  funext x
  rw [h.readAt_unread]
  congr 1
  funext q
  fin_cases q <;> apply Fin.ext <;> simp [LoadRect.idx]

/-- The attention block: the weighted sum over all the keys, over the sum of the weights. -/
theorem block_attn (r : Fin 1024) (d : Fin 128) :
    out0_A_6 (F := Ideal) c i arg3 harg3 arg4 harg4 arg5 harg5 arg6 harg6 arg7 harg7 arg8 harg8 arg9 harg9 arg10 harg10 arg11 harg11 arg12
        harg12 arg13 harg13 arg14 harg14 arg15 harg15 arg16 harg16 x0 x1 x2 x3 x4 x5 (ix2 r d)
      = Ideal.div (rowAcc (score x0 x1 r) (value x2 d) 8448) (rowSum (score x0 x1 r) 8448) := by
  have hA := run_acc c arg3 harg3 arg4 harg4 arg5 harg5 arg13 arg14 arg16 x0 x1 x2 44 (by omega) r d
  have hL := run_sum c arg3 harg3 arg4 harg4 arg13 arg14 arg15 x0 x1 44 (by omega) r d
  have hc : 768 * cnt 44 r = 8448 := by unfold cnt; omega
  rw [hc] at hA hL
  unfold out0_A_6
  rw [View.read_writes_junk_eq_canon]
  show View.canon [(⟨Rect.unit (s := S1024x128) ![0, 0] S1024x128.size inb_S1024x128_S1024x128_0_0, k0_pay349 (F := Ideal) _ _⟩ :
    View.Piece (Elt Ideal) S1024x128 .bf16)] _ = _
  rw [View.canon_unit_zero (by funext a; fin_cases a <;> rfl)]
  refine congrArg₂ Ideal.div ?_ ?_
  · exact (read_all _ _ _ r d).trans hA
  · exact (read_all _ _ _ r d).trans hL

/-- The first weight's slab. -/
theorem block_w1 (r : Fin 16) (d : Fin 5632) :
    out0_A_7 (F := Ideal) c i arg3 harg3 arg4 harg4 arg5 harg5 arg6 harg6 arg7 harg7 arg8 harg8 arg9 harg9 arg10 harg10 arg11 harg11 arg12
        harg12 arg13 harg13 arg14 harg14 arg15 harg15 arg16 harg16 x0 x1 x2 x3 x4 x5 (ix2 r d) = x3 (ix4 0 0 r d) := by
  unfold out0_A_7
  rw [View.read_writes_junk_eq_canon]
  show View.canon [(⟨Rect.unit (s := S16x5632) ![0, 0] S16x5632.size inb_S16x5632_S16x5632_0_0, k0_pay350 (F := Ideal) (View.readAt (Elt Ideal) _ (Rect.unit (s := S1x1x16x5632) ![0, 0, 0, 0] S1x1x16x5632.size _).toLoadRect _)⟩ :
    View.Piece (Elt Ideal) S16x5632 .bf16)] _ = _
  rw [View.canon_unit_zero (by funext a; fin_cases a <;> rfl)]
  rw [read_slab harg6]
  pointwise [k0_pay350]

/-- The second weight's slab. -/
theorem block_w3 (r : Fin 16) (d : Fin 5632) :
    out0_A_8 (F := Ideal) c i arg3 harg3 arg4 harg4 arg5 harg5 arg6 harg6 arg7 harg7 arg8 harg8 arg9 harg9 arg10 harg10 arg11 harg11 arg12
        harg12 arg13 harg13 arg14 harg14 arg15 harg15 arg16 harg16 x0 x1 x2 x3 x4 x5 (ix2 r d) = x4 (ix4 0 0 r d) := by
  unfold out0_A_8
  rw [View.read_writes_junk_eq_canon]
  show View.canon [(⟨Rect.unit (s := S16x5632) ![0, 0] S16x5632.size inb_S16x5632_S16x5632_0_0, k0_pay351 (F := Ideal) (View.readAt (Elt Ideal) _ (Rect.unit (s := S1x1x16x5632) ![0, 0, 0, 0] S1x1x16x5632.size _).toLoadRect _)⟩ :
    View.Piece (Elt Ideal) S16x5632 .bf16)] _ = _
  rw [View.canon_unit_zero (by funext a; fin_cases a <;> rfl)]
  rw [read_slab harg7]
  pointwise [k0_pay351]

/-- The third weight's slab. -/
theorem block_w2 (r : Fin 176) (d : Fin 2048) :
    out0_A_9 (F := Ideal) c i arg3 harg3 arg4 harg4 arg5 harg5 arg6 harg6 arg7 harg7 arg8 harg8 arg9 harg9 arg10 harg10 arg11 harg11 arg12
        harg12 arg13 harg13 arg14 harg14 arg15 harg15 arg16 harg16 x0 x1 x2 x3 x4 x5 (ix2 r d) = x5 (ix4 0 0 r d) := by
  unfold out0_A_9
  rw [View.read_writes_junk_eq_canon]
  show View.canon [(⟨Rect.unit (s := S176x2048) ![0, 0] S176x2048.size inb_S176x2048_S176x2048_0_0, k0_pay1 (F := Ideal) (View.readAt (Elt Ideal) _ (Rect.unit (s := S1x1x176x2048) ![0, 0, 0, 0] S1x1x176x2048.size _).toLoadRect _)⟩ :
    View.Piece (Elt Ideal) S176x2048 .bf16)] _ = _
  rw [View.canon_unit_zero (by funext a; fin_cases a <;> rfl)]
  rw [read_slab harg8]
  pointwise [k0_pay1]

end Cert.KernelIdeal.Mla
-- ==== Proof.Places.lean ====
module

public import proofs.«01_k».proof.Proof.Block
public import proofs.«01_k».proof.Proof.Gen.KernelIdeal.Value

/-! # Where each point's blocks lie

Point `t` of the grid is batch `t / 64`, head `t / 8 % 8`, row block `t % 8`. -/

@[expose] public section

set_option maxRecDepth 16384

noncomputable section

namespace Cert.KernelIdeal.Mla

open Idealize.ShloMosaic Idealize.ShloMosaic.TcCoe Cert.KernelIdeal Cert.KernelIdeal.Gen Cert.Online
open Idealize.ShloMosaic.Pipeline (Window Dat)

/-- The block of window 0 at a grid point. -/
theorem index0 : ∀ t : Fin grid0.N, win0_0.index t = ![8 * (t.val / 64) + t.val % 8, t.val / 8 % 8] := by decide +kernel
/-- The block of window 1 at a grid point. -/
theorem index1 : ∀ t : Fin grid0.N, win0_1.index t = ![t.val / 64, 0, t.val / 8 % 8] := by decide +kernel
/-- The block of window 2 at a grid point. -/
theorem index2 : ∀ t : Fin grid0.N, win0_2.index t = ![t.val / 64, 0, t.val / 8 % 8] := by decide +kernel
/-- The block of window 3 at a grid point. -/
theorem index3 : ∀ t : Fin grid0.N, win0_3.index t = ![1, 1, t.val, 0] := by decide +kernel
/-- The block of window 4 at a grid point. -/
theorem index4 : ∀ t : Fin grid0.N, win0_4.index t = ![1, 1, t.val, 0] := by decide +kernel
/-- The block of window 5 at a grid point. -/
theorem index5 : ∀ t : Fin grid0.N, win0_5.index t = ![1, 1, t.val / 4, 0] := by decide +kernel
/-- The block of window 6 at a grid point. -/
theorem index6 : ∀ t : Fin grid0.N, win0_6.index t = ![8 * (t.val / 64) + t.val % 8, t.val / 8 % 8] := by decide +kernel
/-- The block of window 7 at a grid point. -/
theorem index7 : ∀ t : Fin grid0.N, win0_7.index t = ![t.val, 0] := by decide +kernel
/-- The block of window 8 at a grid point. -/
theorem index8 : ∀ t : Fin grid0.N, win0_8.index t = ![t.val, 0] := by decide +kernel
/-- The block of window 9 at a grid point. -/
theorem index9 : ∀ t : Fin grid0.N, win0_9.index t = ![t.val / 4, 0] := by decide +kernel

/-- The grid has 128 points. -/
theorem lt_N (t : Fin grid0.N) : t.val < 128 := lt_of_lt_of_eq t.isLt N_0

/-- Where an entry of the block of window 0 stands in its array. -/
theorem emb0 (t : Fin cfg0.N) (r : Fin 1024) (d : Fin 256) : ((cfg0.win 0).blk t).view.emb (ix2 r d)
    = ix2 ⟨1024 * (8 * (t.val / 64) + t.val % 8) + r, by have := lt_N t; omega⟩ ⟨256 * (t.val / 8 % 8) + d, by omega⟩ := by
  have hi := index0 t
  funext a
  apply Fin.ext
  refine (Window.rect_emb_val win0_0 t (ix2 r d) a).trans ?_
  fin_cases a
  · show win0_0.index t 0 * 1024 + r.val = _; rw [hi]; exact congrArg (· + r.val) (Nat.mul_comm _ _)
  · show win0_0.index t 1 * 256 + d.val = _; rw [hi]; exact congrArg (· + d.val) (Nat.mul_comm _ _)

/-- Where an entry of the block of window 1 stands in its array. -/
theorem emb1 (t : Fin cfg0.N) (r : Fin 8448) (d : Fin 256) : ((cfg0.win 1).blk t).view.emb (ix3 0 r d)
    = ix3 ⟨t.val / 64, by have := lt_N t; omega⟩ r ⟨256 * (t.val / 8 % 8) + d, by omega⟩ := by
  have hi := index1 t
  funext a
  apply Fin.ext
  refine (Window.rect_emb_val win0_1 t (ix3 0 r d) a).trans ?_
  fin_cases a
  · show win0_1.index t 0 * 1 + 0 = _; rw [hi]; show _ * 1 + 0 = _; simp
  · show win0_1.index t 1 * 8448 + r.val = _; rw [hi]; show 0 * 8448 + _ = _; simp
  · show win0_1.index t 2 * 256 + d.val = _; rw [hi]; exact congrArg (· + d.val) (Nat.mul_comm _ _)

/-- Where an entry of the block of window 2 stands in its array. -/
theorem emb2 (t : Fin cfg0.N) (r : Fin 8448) (d : Fin 128) : ((cfg0.win 2).blk t).view.emb (ix3 0 r d)
    = ix3 ⟨t.val / 64, by have := lt_N t; omega⟩ r ⟨128 * (t.val / 8 % 8) + d, by omega⟩ := by
  have hi := index2 t
  funext a
  apply Fin.ext
  refine (Window.rect_emb_val win0_2 t (ix3 0 r d) a).trans ?_
  fin_cases a
  · show win0_2.index t 0 * 1 + 0 = _; rw [hi]; show _ * 1 + 0 = _; simp
  · show win0_2.index t 1 * 8448 + r.val = _; rw [hi]; show 0 * 8448 + _ = _; simp
  · show win0_2.index t 2 * 128 + d.val = _; rw [hi]; exact congrArg (· + d.val) (Nat.mul_comm _ _)

/-- Where an entry of the block of window 3 stands in its array. -/
theorem emb3 (t : Fin cfg0.N) (r : Fin 16) (d : Fin 5632) : ((cfg0.win 3).blk t).view.emb (ix4 0 0 r d)
    = ix4 1 1 ⟨16 * t.val + r, by have := lt_N t; omega⟩ d := by
  have hi := index3 t
  funext a
  apply Fin.ext
  refine (Window.rect_emb_val win0_3 t (ix4 0 0 r d) a).trans ?_
  fin_cases a
  · show win0_3.index t 0 * 1 + 0 = _; rw [hi]; rfl
  · show win0_3.index t 1 * 1 + 0 = _; rw [hi]; rfl
  · show win0_3.index t 2 * 16 + r.val = _; rw [hi]; exact congrArg (· + r.val) (Nat.mul_comm _ _)
  · show win0_3.index t 3 * 5632 + d.val = _; rw [hi]; show 0 * 5632 + _ = _; simp

/-- Where an entry of the block of window 4 stands in its array. -/
theorem emb4 (t : Fin cfg0.N) (r : Fin 16) (d : Fin 5632) : ((cfg0.win 4).blk t).view.emb (ix4 0 0 r d)
    = ix4 1 1 ⟨16 * t.val + r, by have := lt_N t; omega⟩ d := by
  have hi := index4 t
  funext a
  apply Fin.ext
  refine (Window.rect_emb_val win0_4 t (ix4 0 0 r d) a).trans ?_
  fin_cases a
  · show win0_4.index t 0 * 1 + 0 = _; rw [hi]; rfl
  · show win0_4.index t 1 * 1 + 0 = _; rw [hi]; rfl
  · show win0_4.index t 2 * 16 + r.val = _; rw [hi]; exact congrArg (· + r.val) (Nat.mul_comm _ _)
  · show win0_4.index t 3 * 5632 + d.val = _; rw [hi]; show 0 * 5632 + _ = _; simp

/-- Where an entry of the block of window 5 stands in its array. -/
theorem emb5 (t : Fin cfg0.N) (r : Fin 176) (d : Fin 2048) : ((cfg0.win 5).blk t).view.emb (ix4 0 0 r d)
    = ix4 1 1 ⟨176 * (t.val / 4) + r, by have := lt_N t; omega⟩ d := by
  have hi := index5 t
  funext a
  apply Fin.ext
  refine (Window.rect_emb_val win0_5 t (ix4 0 0 r d) a).trans ?_
  fin_cases a
  · show win0_5.index t 0 * 1 + 0 = _; rw [hi]; rfl
  · show win0_5.index t 1 * 1 + 0 = _; rw [hi]; rfl
  · show win0_5.index t 2 * 176 + r.val = _; rw [hi]; exact congrArg (· + r.val) (Nat.mul_comm _ _)
  · show win0_5.index t 3 * 2048 + d.val = _; rw [hi]; show 0 * 2048 + _ = _; simp

/-- Where an entry of the block of window 6 stands in its array. -/
theorem emb6 (t : Fin cfg0.N) (r : Fin 1024) (d : Fin 128) : ((cfg0.win 6).blk t).view.emb (ix2 r d)
    = ix2 ⟨1024 * (8 * (t.val / 64) + t.val % 8) + r, by have := lt_N t; omega⟩ ⟨128 * (t.val / 8 % 8) + d, by omega⟩ := by
  have hi := index6 t
  funext a
  apply Fin.ext
  refine (Window.rect_emb_val win0_6 t (ix2 r d) a).trans ?_
  fin_cases a
  · show win0_6.index t 0 * 1024 + r.val = _; rw [hi]; exact congrArg (· + r.val) (Nat.mul_comm _ _)
  · show win0_6.index t 1 * 128 + d.val = _; rw [hi]; exact congrArg (· + d.val) (Nat.mul_comm _ _)

/-- Where an entry of the block of window 7 stands in its array. -/
theorem emb7 (t : Fin cfg0.N) (r : Fin 16) (d : Fin 5632) : ((cfg0.win 7).blk t).view.emb (ix2 r d)
    = ix2 ⟨16 * t.val + r, by have := lt_N t; omega⟩ d := by
  have hi := index7 t
  funext a
  apply Fin.ext
  refine (Window.rect_emb_val win0_7 t (ix2 r d) a).trans ?_
  fin_cases a
  · show win0_7.index t 0 * 16 + r.val = _; rw [hi]; exact congrArg (· + r.val) (Nat.mul_comm _ _)
  · show win0_7.index t 1 * 5632 + d.val = _; rw [hi]; show 0 * 5632 + _ = _; simp

/-- Where an entry of the block of window 8 stands in its array. -/
theorem emb8 (t : Fin cfg0.N) (r : Fin 16) (d : Fin 5632) : ((cfg0.win 8).blk t).view.emb (ix2 r d)
    = ix2 ⟨16 * t.val + r, by have := lt_N t; omega⟩ d := by
  have hi := index8 t
  funext a
  apply Fin.ext
  refine (Window.rect_emb_val win0_8 t (ix2 r d) a).trans ?_
  fin_cases a
  · show win0_8.index t 0 * 16 + r.val = _; rw [hi]; exact congrArg (· + r.val) (Nat.mul_comm _ _)
  · show win0_8.index t 1 * 5632 + d.val = _; rw [hi]; show 0 * 5632 + _ = _; simp

/-- Where an entry of the block of window 9 stands in its array. -/
theorem emb9 (t : Fin cfg0.N) (r : Fin 176) (d : Fin 2048) : ((cfg0.win 9).blk t).view.emb (ix2 r d)
    = ix2 ⟨176 * (t.val / 4) + r, by have := lt_N t; omega⟩ d := by
  have hi := index9 t
  funext a
  apply Fin.ext
  refine (Window.rect_emb_val win0_9 t (ix2 r d) a).trans ?_
  fin_cases a
  · show win0_9.index t 0 * 176 + r.val = _; rw [hi]; exact congrArg (· + r.val) (Nat.mul_comm _ _)
  · show win0_9.index t 1 * 2048 + d.val = _; rw [hi]; show 0 * 2048 + _ = _; simp

end Cert.KernelIdeal.Mla
-- ==== Proof.Arrays.lean ====
module

public import proofs.«01_k».proof.Proof.Block
public import proofs.«01_k».proof.Proof.Places

/-! # What the result arrays hold after the run

Point `t` of the grid is batch `t / 64`, head `t / 8 % 8`, row block `t % 8`. -/

@[expose] public section

set_option maxRecDepth 16384

noncomputable section

namespace Cert.KernelIdeal.Mla

open Idealize.ShloMosaic Idealize.ShloMosaic.TcCoe Cert.KernelIdeal Cert.KernelIdeal.Gen Cert.Online
open Idealize.ShloMosaic.Pipeline (Window Dat)

variable (m : (ℓ : Loc nD τ sig) → Buf (Elt Ideal) ℓ) (c : Dev nD)

/-! ## The arrays -/

/-- The score of query row `R`, head `h`, and key `i`, off the arrays the call is handed. -/
def rowScore (Q : S16384x2048.Idx → EReal) (K : S2x8448x2048.Idx → EReal) (R : Fin 16384) (h : Fin 8) (i : ℕ) : EReal :=
  ∑ d : Fin 256, Q (ix2 R ⟨256 * h + d, by omega⟩) * scale * K (ix3 ⟨R.val / 8192, by omega⟩ (key i) ⟨256 * h + d, by omega⟩)

/-- The attention array off the arrays the call is handed. -/
def attn (Q : S16384x2048.Idx → EReal) (K : S2x8448x2048.Idx → EReal) (W : S2x8448x1024.Idx → EReal) (R : Fin 16384) (C : Fin 1024) : EReal :=
  Ideal.div (rowAcc (rowScore Q K R ⟨C.val / 128, by omega⟩) (fun i => W (ix3 ⟨R.val / 8192, by omega⟩ (key i) C)) 8448)
    (rowSum (rowScore Q K R ⟨C.val / 128, by omega⟩) 8448)

/-- A place a block is put at lies in the block. -/
theorem mem_of_emb {sg : RefSig} {κ : Kind} {sp : Space} {s : Shape} {e : EltTy} {v : View sg κ sp s e} {x : v.ty.Idx} (y : s.Idx)
    (h : x = v.emb y) : x ∈ v.set := h ▸ v.emb_mem_set y

/-- The row of the queries that row `r` of point `t`'s block is. -/
abbrev rowAt (t : Fin cfg0.N) (r : Fin 1024) : Fin 16384 := ⟨1024 * (8 * (t.val / 64) + t.val % 8) + r, by have := lt_N t; omega⟩

/-- The lane of the result that lane `d` of point `t`'s block is. -/
abbrev laneAt (t : Fin cfg0.N) (d : Fin 128) : Fin 1024 := ⟨128 * (t.val / 8 % 8) + d, by omega⟩

/-- An entry of the queries' block. -/
theorem query_at (t : Fin cfg0.N) (r : Fin 1024) (d : Fin 128) (e : Fin 256) : iblk m c 0 t (ix2 r e)
    = V m c main_v11 (ix2 (rowAt t r) ⟨256 * ((laneAt t d).val / 128) + e, by omega⟩) := by
  show V m c main_v11 (((cfg0.win 0).blk t).view.emb _) = _
  rw [emb0]
  have h2 : (⟨256 * (t.val / 8 % 8) + e.val, by omega⟩ : Fin 2048) = ⟨256 * ((laneAt t d).val / 128) + e.val, by omega⟩ :=
    Fin.ext (by show _ = 256 * ((128 * (t.val / 8 % 8) + d.val) / 128) + e.val; dsimp only; omega)
  rw [h2]

/-- The keys' window, read off any array. -/
theorem key_read (t : Fin cfg0.N) (k : Fin 8448) (e : Fin 256) (A : S2x8448x2048.Idx → EReal) :
    ((cfg0.win 1).blk t).view.read (Elt Ideal) A (ix3 0 k e)
      = A (ix3 ⟨t.val / 64, by have := lt_N t; omega⟩ k ⟨256 * (t.val / 8 % 8) + e, by omega⟩) := by
  rw [View.read_apply, emb1]
  rfl

/-- An entry of the keys' block. -/
theorem key_at (t : Fin cfg0.N) (r : Fin 1024) (d : Fin 128) (k : Fin 8448) (e : Fin 256) : iblk m c 1 t (ix3 0 k e)
    = V m c main_v17 (ix3 ⟨(rowAt t r).val / 8192, by omega⟩ k ⟨256 * ((laneAt t d).val / 128) + e, by omega⟩) := by
  have ht := lt_N t
  refine (key_read t k e (V m c main_v17)).trans ?_
  have h0 : (⟨t.val / 64, by omega⟩ : Fin 2) = ⟨(rowAt t r).val / 8192, by omega⟩ :=
    Fin.ext (by show t.val / 64 = (1024 * (8 * (t.val / 64) + t.val % 8) + r.val) / 8192; omega)
  have h2 : (⟨256 * (t.val / 8 % 8) + e.val, by omega⟩ : Fin 2048) = ⟨256 * ((laneAt t d).val / 128) + e.val, by omega⟩ :=
    Fin.ext (by show _ = 256 * ((128 * (t.val / 8 % 8) + d.val) / 128) + e.val; dsimp only; omega)
  rw [h0, h2]

/-- Point `t`'s scores are the rows' scores. -/
theorem score_at (t : Fin cfg0.N) (r : Fin 1024) (d : Fin 128) : score (iblk m c 0 t) (iblk m c 1 t) r
    = rowScore (V m c main_v11) (V m c main_v17) (rowAt t r) ⟨(laneAt t d).val / 128, by omega⟩ := by
  have hr : (⟨r.val % 1024, Nat.mod_lt _ (by decide)⟩ : Fin 1024) = r := Fin.ext (Nat.mod_eq_of_lt r.isLt)
  funext i
  unfold score rowScore
  simp only [hr]
  refine Finset.sum_congr rfl fun e _ => ?_
  rw [query_at m c t r d e, key_at m c t r d (key i) e]

/-- Point `t`'s values are the head's values. -/
theorem value_at (t : Fin cfg0.N) (r : Fin 1024) (d : Fin 128) : value (iblk m c 2 t) d
    = fun i => V m c main_v19 (ix3 ⟨(rowAt t r).val / 8192, by omega⟩ (key i) (laneAt t d)) := by
  have ht := lt_N t
  have hd : (⟨d.val % 128, Nat.mod_lt _ (by decide)⟩ : Fin 128) = d := Fin.ext (Nat.mod_eq_of_lt d.isLt)
  funext i
  show V m c main_v19 (((cfg0.win 2).blk t).view.emb _) = _
  rw [hd, emb2]
  have h0 : (⟨t.val / 64, by omega⟩ : Fin 2) = ⟨(rowAt t r).val / 8192, by omega⟩ :=
    Fin.ext (by show t.val / 64 = (1024 * (8 * (t.val / 64) + t.val % 8) + r.val) / 8192; omega)
  rw [h0]

/-- Equal scores and values give equal quotients. -/
theorem quotient_congr {S S' W W' : ℕ → EReal} (hS : S = S') (hW : W = W') (n : ℕ) :
    Ideal.div (rowAcc S W n) (rowSum S n) = Ideal.div (rowAcc S' W' n) (rowSum S' n) := by subst hS hW; rfl

/-- What point `t` writes back to the attention array, at a row and a lane of its block. -/
theorem flushed_attn (t : Fin cfg0.N) (r : Fin 1024) (d : Fin 128) : (dats m 0 c).flushed 6 t (ix2 r d)
    = attn (V m c main_v11) (V m c main_v17) (V m c main_v19) (rowAt t r) (laneAt t d) := by
  rw [Value.flushed6_A]
  exact (block_attn ..).trans (quotient_congr (score_at m c t r d) (value_at m c t r d) 8448)

/-- The attention result. -/
theorem arr6 : (dats m 0 c).arrAt 6 cfg0.N
    = fun x => attn (V m c main_v11) (V m c main_v17) (V m c main_v19) (x 0) (x 1) := by
  refine Dat.arrAt_eq_of_cover _ 6 _ (fun t _ => ?_) (fun x => ?_)
  · funext y
    obtain ⟨r, d, rfl⟩ : ∃ (r : Fin 1024) (d : Fin 128), y = ix2 r d := ⟨y 0, y 1, by funext a; fin_cases a <;> rfl⟩
    rw [flushed_attn, View.read_apply, emb6]
    rfl
  · obtain ⟨R, C, rfl⟩ : ∃ (R : Fin 16384) (C : Fin 1024), x = ix2 R C := ⟨x 0, x 1, by funext a; fin_cases a <;> rfl⟩
    have hlt : 64 * (R.val / 8192) + 8 * (C.val / 128) + R.val / 1024 % 8 < 128 := by omega
    refine ⟨⟨_, hlt.trans_eq N_0.symm⟩, flush0_6 _,
      mem_of_emb (ix2 (⟨R.val % 1024, by omega⟩ : Fin 1024) (⟨C.val % 128, by omega⟩ : Fin 128)) ?_⟩
    rw [emb6]
    congr 1 <;> apply Fin.ext
    · show R.val = 1024 * (8 * ((64 * (R.val / 8192) + 8 * (C.val / 128) + R.val / 1024 % 8) / 64) + (64 * (R.val / 8192) + 8 * (C.val / 128) + R.val / 1024 % 8) % 8) + R.val % 1024
      omega
    · show C.val = 128 * ((64 * (R.val / 8192) + 8 * (C.val / 128) + R.val / 1024 % 8) / 8 % 8) + C.val % 128
      omega

/-- The narrowed first weight. -/
theorem arr7 : (dats m 0 c).arrAt 7 cfg0.N = fun x => V m c main_arg5 (ix4 1 1 (x 0) (x 1)) := by
  refine Dat.arrAt_eq_of_cover _ 7 _ (fun t _ => ?_) (fun x => ?_)
  · rw [Value.flushed7_A]
    funext y
    obtain ⟨r, d, rfl⟩ : ∃ (r : Fin 16) (d : Fin 5632), y = ix2 r d := ⟨y 0, y 1, by funext a; fin_cases a <;> rfl⟩
    refine (block_w1 ..).trans ?_
    rw [View.read_apply, emb7]
    show V m c main_arg5 (((cfg0.win 3).blk t).view.emb _) = _
    rw [emb3]
    rfl
  · obtain ⟨R, C, rfl⟩ : ∃ (R : Fin 2048) (C : Fin 5632), x = ix2 R C := ⟨x 0, x 1, by funext a; fin_cases a <;> rfl⟩
    have hlt : R.val / 16 < 128 := by omega
    refine ⟨⟨_, hlt.trans_eq N_0.symm⟩, flush0_7 _, mem_of_emb (ix2 (⟨R.val % 16, by omega⟩ : Fin 16) C) ?_⟩
    rw [emb7]
    congr 1
    apply Fin.ext
    show R.val = 16 * (R.val / 16) + R.val % 16
    omega

/-- The narrowed second weight. -/
theorem arr8 : (dats m 0 c).arrAt 8 cfg0.N = fun x => V m c main_arg6 (ix4 1 1 (x 0) (x 1)) := by
  refine Dat.arrAt_eq_of_cover _ 8 _ (fun t _ => ?_) (fun x => ?_)
  · rw [Value.flushed8_A]
    funext y
    obtain ⟨r, d, rfl⟩ : ∃ (r : Fin 16) (d : Fin 5632), y = ix2 r d := ⟨y 0, y 1, by funext a; fin_cases a <;> rfl⟩
    refine (block_w3 ..).trans ?_
    rw [View.read_apply, emb8]
    show V m c main_arg6 (((cfg0.win 4).blk t).view.emb _) = _
    rw [emb4]
    rfl
  · obtain ⟨R, C, rfl⟩ : ∃ (R : Fin 2048) (C : Fin 5632), x = ix2 R C := ⟨x 0, x 1, by funext a; fin_cases a <;> rfl⟩
    have hlt : R.val / 16 < 128 := by omega
    refine ⟨⟨_, hlt.trans_eq N_0.symm⟩, flush0_8 _, mem_of_emb (ix2 (⟨R.val % 16, by omega⟩ : Fin 16) C) ?_⟩
    rw [emb8]
    congr 1
    apply Fin.ext
    show R.val = 16 * (R.val / 16) + R.val % 16
    omega

/-- The narrowed third weight: the four points that share a slab write the same. -/
theorem arr9 : (dats m 0 c).arrAt 9 cfg0.N = fun x => V m c main_arg7 (ix4 1 1 (x 0) (x 1)) := by
  refine Dat.arrAt_eq_of_cover _ 9 _ (fun t _ => ?_) (fun x => ?_)
  · rw [Value.flushed9_A]
    funext y
    obtain ⟨r, d, rfl⟩ : ∃ (r : Fin 176) (d : Fin 2048), y = ix2 r d := ⟨y 0, y 1, by funext a; fin_cases a <;> rfl⟩
    refine (block_w2 ..).trans ?_
    rw [View.read_apply, emb9]
    show V m c main_arg7 (((cfg0.win 5).blk t).view.emb _) = _
    rw [emb5]
    rfl
  · obtain ⟨R, C, rfl⟩ : ∃ (R : Fin 5632) (C : Fin 2048), x = ix2 R C := ⟨x 0, x 1, by funext a; fin_cases a <;> rfl⟩
    have hlt : 4 * (R.val / 176) + 3 < 128 := by omega
    refine ⟨⟨_, hlt.trans_eq N_0.symm⟩, (flush0_9 _).2 (by dsimp only; omega), mem_of_emb (ix2 (⟨R.val % 176, by omega⟩ : Fin 176) C) ?_⟩
    rw [emb9]
    congr 1
    apply Fin.ext
    show R.val = 176 * ((4 * (R.val / 176) + 3) / 4) + R.val % 176
    omega

end Cert.KernelIdeal.Mla
-- ==== Proof.Pack.lean ====
module

public import proofs.«01_k».proof.Proof.Gen.KernelIdeal.Frame
public import Idealize.ShloMosaic.Lib.Pointwise

/-! # What the host code packs -/

@[expose] public section

set_option maxRecDepth 16384

noncomputable section

namespace Cert.KernelIdeal.Mla

open Idealize.ShloMosaic Idealize.ShloMosaic.TcCoe Cert.KernelIdeal Cert.KernelIdeal.Gen

variable (m : (ℓ : Loc nD τ sig) → Buf (Elt Ideal) ℓ) (c : Dev nD)

/-- A zero block, of the shape of the rotary lanes of every second head. -/
def zeros : FVec Ideal S2x8192x4x64 .f32 := broadcastInDim S2x8192x4x64 ![] bcast_S_S2x8192x4x64 (constant S_ .f32 0x00000000#32)

/-- The even heads' rotary lanes, followed by zeros. -/
def evens (qr : FVec Ideal S2x8192x8x64 .f32) : FVec Ideal S2x8192x4x128 .f32 :=
  concatenate S2x8192x4x128 3 [⟨S2x8192x4x64, Host.slice S2x8192x4x64 ![0, 0, 0, 0] ![1, 1, 2, 1] qr slicesBy_S2x8192x8x64_S2x8192x4x64_0s1_0s1_0s2_0s1⟩,
    ⟨S2x8192x4x64, zeros⟩] concatenates_S2x8192x4x64_S2x8192x4x64_S2x8192x4x128_d3

/-- Zeros, followed by the odd heads' rotary lanes. -/
def odds (qr : FVec Ideal S2x8192x8x64 .f32) : FVec Ideal S2x8192x4x128 .f32 :=
  concatenate S2x8192x4x128 3 [⟨S2x8192x4x64, zeros⟩,
    ⟨S2x8192x4x64, Host.slice S2x8192x4x64 ![0, 0, 1, 0] ![1, 1, 2, 1] qr slicesBy_S2x8192x8x64_S2x8192x4x64_0s1_0s1_1s2_0s1⟩]
    concatenates_S2x8192x4x64_S2x8192x4x64_S2x8192x4x128_d3

/-- Every head's rotary lanes, the even heads' on the left and the odd heads' on the right. -/
def rotary (qr : FVec Ideal S2x8192x8x64 .f32) : FVec Ideal S2x8192x8x128 .f32 :=
  shapeCast S2x8192x8x128 (concatenate S2x8192x4x2x128 3
    [⟨S2x8192x4x1x128, broadcastInDim S2x8192x4x1x128 ![0, 1, 2, 4] bcast_S2x8192x4x128_S2x8192x4x1x128_0_1_2_4 (evens qr)⟩,
     ⟨S2x8192x4x1x128, broadcastInDim S2x8192x4x1x128 ![0, 1, 2, 4] bcast_S2x8192x4x128_S2x8192x4x1x128_0_1_2_4 (odds qr)⟩]
    concatenates_S2x8192x4x1x128_S2x8192x4x1x128_S2x8192x4x2x128_d3) shapeCasts_S2x8192x4x2x128_S2x8192x8x128

/-- The packed queries. -/
def packQ (qn : FVec Ideal S2x8192x8x128 .f32) (qr : FVec Ideal S2x8192x8x64 .f32) : FVec Ideal S16384x2048 .bf16 :=
  shapeCast S16384x2048 (truncf .bf16 (concatenate S2x8192x8x256 3 [⟨S2x8192x8x128, qn⟩, ⟨S2x8192x8x128, rotary qr⟩]
    concatenates_S2x8192x8x128_S2x8192x8x128_S2x8192x8x256_d3) bitsLt_bf16_f32) shapeCasts_S2x8192x8x256_S16384x2048

/-- The shared rotary key twice. -/
def twice (kr : FVec Ideal S2x8448x64 .f32) : FVec Ideal S2x8448x128 .f32 :=
  concatenate S2x8448x128 2 [⟨S2x8448x64, kr⟩, ⟨S2x8448x64, kr⟩] concatenates_S2x8448x64_S2x8448x64_S2x8448x128_d2

/-- The packed keys. -/
def packK (kn : FVec Ideal S2x8448x8x128 .f32) (kr : FVec Ideal S2x8448x64 .f32) : FVec Ideal S2x8448x2048 .bf16 :=
  shapeCast S2x8448x2048 (truncf .bf16 (concatenate S2x8448x8x256 3 [⟨S2x8448x8x128, kn⟩,
    ⟨S2x8448x8x128, broadcastInDim S2x8448x8x128 ![0, 1, 2, 3] bcast_S2x8448x1x128_S2x8448x8x128_0_1_2_3
      (broadcastInDim S2x8448x1x128 ![0, 1, 3] bcast_S2x8448x128_S2x8448x1x128_0_1_3 (twice kr))⟩]
    concatenates_S2x8448x8x128_S2x8448x8x128_S2x8448x8x256_d3) bitsLt_bf16_f32) shapeCasts_S2x8448x8x256_S2x8448x2048

/-- The packed values. -/
def packV (v : FVec Ideal S2x8448x8x128 .f32) : FVec Ideal S2x8448x1024 .bf16 :=
  shapeCast S2x8448x1024 (truncf .bf16 v bitsLt_bf16_f32) shapeCasts_S2x8448x8x128_S2x8448x1024

/-- The call is handed the packed queries. -/
theorem V_q : V m c main_v11 = packQ (m ((c : Thread nD τ).loc main_arg0)) (m ((c : Thread nD τ).loc main_arg1)) := by
  dsimp only [V]
  after_results_simp
  after_results_loop
  rfl

/-- The call is handed the packed keys. -/
theorem V_k : V m c main_v17 = packK (m ((c : Thread nD τ).loc main_arg2)) (m ((c : Thread nD τ).loc main_arg3)) := by
  dsimp only [V]
  after_results_simp
  after_results_loop
  rfl

/-- The call is handed the packed values. -/
theorem V_v : V m c main_v19 = packV (m ((c : Thread nD τ).loc main_arg4)) := by
  dsimp only [V]
  after_results_simp
  after_results_loop
  rfl

/-- The packed values, at an entry. -/
theorem packV_at (v : FVec Ideal S2x8448x8x128 .f32) (b : Fin 2) (k : Fin 8448) (C : Fin 1024) :
    packV v (ix3 b k C) = v (ix4 b k ⟨C.val / 128, by omega⟩ ⟨C.val % 128, by omega⟩) := by
  pointwise [packV]

/-- The packed queries, at an entry. -/
theorem packQ_at (qn : FVec Ideal S2x8192x8x128 .f32) (qr : FVec Ideal S2x8192x8x64 .f32) (R : Fin 16384) (C : Fin 2048) :
    packQ qn qr (ix2 R C)
      = if h : C.val % 256 < 128 then qn (ix4 ⟨R.val / 8192, by omega⟩ ⟨R.val % 8192, by omega⟩ ⟨C.val / 256, by omega⟩ ⟨C.val % 256, by omega⟩)
        else if C.val / 256 % 2 < 1 then
          (if h2 : C.val % 256 - 128 < 64 then
            qr (ix4 ⟨R.val / 8192, by omega⟩ ⟨R.val % 8192, by omega⟩ ⟨2 * (C.val / 256 / 2), by omega⟩ ⟨C.val % 256 - 128, by omega⟩)
          else 0)
        else if C.val % 256 - 128 < 64 then 0
        else qr (ix4 ⟨R.val / 8192, by omega⟩ ⟨R.val % 8192, by omega⟩ ⟨1 + 2 * (C.val / 256 / 2), by omega⟩
          ⟨C.val % 256 - 128 - 64, by omega⟩) := by
  pointwise [packQ, rotary, evens, odds, zeros]
  rfl

/-- The packed keys, at an entry. -/
theorem packK_at (kn : FVec Ideal S2x8448x8x128 .f32) (kr : FVec Ideal S2x8448x64 .f32) (b : Fin 2) (k : Fin 8448) (C : Fin 2048) :
    packK kn kr (ix3 b k C)
      = if h : C.val % 256 < 128 then kn (ix4 b k ⟨C.val / 256, by omega⟩ ⟨C.val % 256, by omega⟩)
        else if h1 : C.val % 256 - 128 < 64 then kr (ix3 b k ⟨C.val % 256 - 128, by omega⟩)
        else kr (ix3 b k ⟨C.val % 256 - 128 - 64, by omega⟩) := by
  pointwise [packK, twice]

end Cert.KernelIdeal.Mla
-- ==== Proof.Reference.lean ====
module

public import proofs.«01_k».proof.Proof.Gen.ReferenceIdeal.Run
public import Idealize.ShloMosaic.Lib.Pointwise

/-! # What the reference computes, at an entry -/

@[expose] public section

set_option maxRecDepth 16384

noncomputable section

namespace Cert.ReferenceIdeal.Mla

open Idealize.ShloMosaic Idealize.ShloMosaic.TcCoe Cert.ReferenceIdeal Cert.ReferenceIdeal.Gen

variable (qn : FVec Ideal S2x8192x8x128 .f32) (qr : FVec Ideal S2x8192x8x64 .f32) (kn : FVec Ideal S2x8448x8x128 .f32)
  (kr : FVec Ideal S2x8448x64 .f32) (v : FVec Ideal S2x8448x8x128 .f32)

/-- The scaled scores. -/
def scores : FVec Ideal S2x8x8192x8448 .f32 :=
  mulf (addf (Host.dotGeneral dot_S2x8192x8x128_S2x8448x8x128_S2x8x8192x8448_3_3_1_1_02_02 none qn kn)
      (transpose S2x8x8192x8448 [0, 3, 2, 1] (Host.dotGeneral dot_S2x8448x64_S2x8192x8x64_S2x8448x8192x8_2_3_1_12_0_0 none kr qr)
        transposes_S2x8448x8192x8_S2x8x8192x8448_0_3_2_1))
    (broadcastInDim S2x8x8192x8448 ![] bcast_S_S2x8x8192x8448 (Host.rsqrt (constant S_ .f32 0x43400000#32)))

/-- The largest score of each row. -/
def tops (T : FVec Ideal S2x8x8192x8448 .f32) : FVec Ideal S2x8x8192 .f32 :=
  maximumf (broadcastInDim S2x8x8192 ![] bcast_S_S2x8x8192 (constant S_ .f32 0xFF800000#32))
    (Host.reduce FloatOps.maximumf T (constant S_ .f32 0xFF800000#32) reducesTo_S2x8x8192x8448_S2x8x8192_d3 h_S_)

/-- The exponentials of the scores less their row's largest. -/
def exps (T : FVec Ideal S2x8x8192x8448 .f32) (M : FVec Ideal S2x8x8192 .f32) : FVec Ideal S2x8x8192x8448 .f32 :=
  Host.exp (subf T (broadcastInDim S2x8x8192x8448 ![0, 1, 2, 3] bcast_S2x8x8192x1_S2x8x8192x8448_0_1_2_3
    (broadcastInDim S2x8x8192x1 ![0, 1, 2] bcast_S2x8x8192_S2x8x8192x1_0_1_2 M)))

/-- The softmax weights times the values, summed, before the layout. -/
def mixed (E : FVec Ideal S2x8x8192x8448 .f32) : FVec Ideal S2x8x128x8192 .f32 :=
  Host.dotGeneral dot_S2x8448x8x128_S2x8x8192x8448_S2x8x128x8192_1_3_3_2_02_01 none v
    (Host.divf E (broadcastInDim S2x8x8192x8448 ![0, 1, 2, 3] bcast_S2x8x8192x1_S2x8x8192x8448_0_1_2_3
      (broadcastInDim S2x8x8192x1 ![0, 1, 2] bcast_S2x8x8192_S2x8x8192x1_0_1_2
        (Host.reduceAdd E (constant S_ .f32 0x00000000#32) reducesTo_S2x8x8192x8448_S2x8x8192_d3 h_S_))))

/-- The attention result in its layout. -/
def attn (E : FVec Ideal S2x8x8192x8448 .f32) : FVec Ideal S16384x1024 .bf16 :=
  truncf .bf16 (shapeCast S16384x1024 (transpose S2x8192x8x128 [0, 3, 1, 2] (mixed v E) transposes_S2x8x128x8192_S2x8192x8x128_0_3_1_2)
    shapeCasts_S2x8192x8x128_S16384x1024) bitsLt_bf16_f32

/-- A narrowed weight of the last feed-forward. -/
def weight1 (w : FVec Ideal S2x2x2048x5632 .f32) : FVec Ideal S2048x5632 .bf16 :=
  truncf .bf16 (shapeCast S2048x5632 (extractStridedSlice S1x1x2048x5632 ![1, 1, 0, 0] w slices_S2x2x2048x5632_S1x1x2048x5632_1_1_0_0)
    shapeCasts_S1x1x2048x5632_S2048x5632) bitsLt_bf16_f32

/-- The narrowed second weight of the last feed-forward. -/
def weight2 (w : FVec Ideal S2x2x5632x2048 .f32) : FVec Ideal S5632x2048 .bf16 :=
  truncf .bf16 (shapeCast S5632x2048 (extractStridedSlice S1x1x5632x2048 ![1, 1, 0, 0] w slices_S2x2x5632x2048_S1x1x5632x2048_1_1_0_0)
    shapeCasts_S1x1x5632x2048_S5632x2048) bitsLt_bf16_f32

/-- A narrowed up-weight, entrywise. -/
theorem weight1_at (w : FVec Ideal S2x2x2048x5632 .f32) (r : Fin 2048) (d : Fin 5632) : weight1 w (ix2 r d) = w (ix4 1 1 r d) := by
  pointwise [weight1]

/-- A narrowed down-weight, entrywise. -/
theorem weight2_at (w : FVec Ideal S2x2x5632x2048 .f32) (r : Fin 5632) (d : Fin 2048) : weight2 w (ix2 r d) = w (ix4 1 1 r d) := by
  pointwise [weight2]

/-- A scaled score. -/
theorem scores_at (b : Fin 2) (h : Fin 8) (q : Fin 8192) (k : Fin 8448) : scores qn qr kn kr (ix4 b h q k)
    = (∑ x : Fin 128, qn (ix4 b q h x) * kn (ix4 b k h x) + ∑ x : Fin 64, kr (ix3 b k x) * qr (ix4 b q h x)) *
      Ideal.rsqrt (Ideal.ofBits FTy.f32 0x43400000#32) := by
  pointwise [scores]

/-- A fold of maxima from below everything is the least upper bound. -/
theorem fold_max_bot {n : ℕ} (f : Fin n → EReal) : (Finset.univ.fold max ⊥ f : EReal) = Finset.univ.sup f := rfl

/-- A maximum along the last axis, begun below everything, at an entry. -/
theorem max_last {n0 n1 n2 n3 : ℕ} (T : FVec Ideal ⟨4, ![n0, n1, n2, n3]⟩ .f32) (z : FVec Ideal ⟨0, ![]⟩ .f32) (hz : ∀ i, z i = ⊥)
    (hr : (⟨4, ![n0, n1, n2, n3]⟩ : Shape).ReducesTo [3] ⟨3, ![n0, n1, n2]⟩) (hu) (hb) (b : Fin n0) (h : Fin n1) (q : Fin n2) :
    maximumf (broadcastInDim ⟨3, ![n0, n1, n2]⟩ ![] hb z)
        (Host.reduce (FloatOps.maximumf (F := Ideal) (φ := .f32)) T z hr hu) (ix3 b h q)
      = Finset.univ.sup fun k : Fin n3 => T (ix4 b h q k) := by
  show max (z _) (Host.reduce _ _ _ _ _ _) = _
  rw [hz, max_eq_right bot_le, Host.reduce_eq_fold, hz, ← fold_max_bot]
  exact Shape.ReducesTo.fold_fiber_r4_a3 hr (ix3 b h q) max _ T

/-- The accumulator of a maximum is below everything. -/
theorem bottom_at (i : S_.Idx) : (constant (F := Ideal) S_ .f32 0xFF800000#32) i = ⊥ := by
  show Ideal.ofBits .f32 0xFF800000#32 = ⊥
  simp [Ideal.ofBits, Ideal.ieee]

/-- A row's largest score. -/
theorem tops_at (T : FVec Ideal S2x8x8192x8448 .f32) (b : Fin 2) (h : Fin 8) (q : Fin 8192) : tops T (ix3 b h q)
    = Finset.univ.sup fun k : Fin 8448 => T (ix4 b h q k) :=
  max_last T _ bottom_at _ _ _ b h q

/-- An exponential. -/
theorem exps_at (T : FVec Ideal S2x8x8192x8448 .f32) (M) (b : Fin 2) (h : Fin 8) (q : Fin 8192) (k : Fin 8448) : exps T M (ix4 b h q k)
    = Ideal.exp (T (ix4 b h q k) - M (ix3 b h q)) := by
  pointwise [exps]

/-- An entry of the attention. -/
theorem attn_at (E : FVec Ideal S2x8x8192x8448 .f32) (R : Fin 16384) (C : Fin 1024) : attn v E (ix2 R C)
    = ∑ k : Fin 8448, v (ix4 ⟨R.val / 8192, by omega⟩ k ⟨C.val / 128, by omega⟩ ⟨C.val % 128, by omega⟩)
        * Ideal.div (E (ix4 ⟨R.val / 8192, by omega⟩ ⟨C.val / 128, by omega⟩ ⟨R.val % 8192, by omega⟩ k))
            (∑ k' : Fin 8448, E (ix4 ⟨R.val / 8192, by omega⟩ ⟨C.val / 128, by omega⟩ ⟨R.val % 8192, by omega⟩ k')) := by
  pointwise [attn, mixed]

end Cert.ReferenceIdeal.Mla
-- ==== Proof.Equation.lean ====
module

public import proofs.«01_k».proof.Proof.Arrays
public import proofs.«01_k».proof.Proof.Pack
public import proofs.«01_k».proof.Proof.Reference

/-! # The kernel's attention is the reference's -/

@[expose] public section

set_option maxRecDepth 16384

noncomputable section

namespace Cert.KernelIdeal.Mla

open Idealize.ShloMosaic Idealize.ShloMosaic.TcCoe Cert.KernelIdeal Cert.KernelIdeal.Gen Cert.Online

/-! ## The lanes of a packed row -/

section Lanes

variable (qn : FVec Ideal S2x8192x8x128 .f32) (qr : FVec Ideal S2x8192x8x64 .f32) (kn : FVec Ideal S2x8448x8x128 .f32)
  (kr : FVec Ideal S2x8448x64 .f32) (R : Fin 16384) (b : Fin 2) (k : Fin 8448) (h : Fin 8)

/-- The packed queries: the part without position. -/
theorem packQ_left (e : Fin 128) : packQ qn qr (ix2 R ⟨256 * h + e, by omega⟩)
    = qn (ix4 ⟨R.val / 8192, by omega⟩ ⟨R.val % 8192, by omega⟩ h e) := by
  have h1 : (256 * h.val + e.val) % 256 = e.val := by omega
  have h2 : (256 * h.val + e.val) / 256 = h.val := by omega
  rw [packQ_at]
  simp only [h1, h2, e.isLt, dite_true]

/-- The packed queries: the rotary part of an even head, or zeros. -/
theorem packQ_mid (e : Fin 64) : packQ qn qr (ix2 R ⟨256 * h + (128 + e), by omega⟩)
    = if h.val % 2 < 1 then qr (ix4 ⟨R.val / 8192, by omega⟩ ⟨R.val % 8192, by omega⟩ h e) else 0 := by
  have h1 : (256 * h.val + (128 + e.val)) % 256 = 128 + e.val := by omega
  have h2 : (256 * h.val + (128 + e.val)) / 256 = h.val := by omega
  have h3 : ¬ (128 + e.val < 128) := by omega
  have h4 : 128 + e.val - 128 = e.val := by omega
  rw [packQ_at]
  simp only [h1, h2, h3, h4, e.isLt, dite_true, dite_false, if_true]
  by_cases hh : h.val % 2 < 1
  · have h5 : 2 * (h.val / 2) = h.val := by omega
    simp only [hh, if_true, h5]
  · simp only [hh, if_false]

/-- The packed queries: the rotary part of an odd head, or zeros. -/
theorem packQ_right (e : Fin 64) : packQ qn qr (ix2 R ⟨256 * h + (128 + (64 + e)), by omega⟩)
    = if h.val % 2 < 1 then 0 else qr (ix4 ⟨R.val / 8192, by omega⟩ ⟨R.val % 8192, by omega⟩ h e) := by
  have h1 : (256 * h.val + (128 + (64 + e.val))) % 256 = 128 + (64 + e.val) := by omega
  have h2 : (256 * h.val + (128 + (64 + e.val))) / 256 = h.val := by omega
  have h3 : ¬ (128 + (64 + e.val) < 128) := by omega
  have h4 : 128 + (64 + e.val) - 128 = 64 + e.val := by omega
  have h6 : ¬ (64 + e.val < 64) := by omega
  have h7 : 64 + e.val - 64 = e.val := by omega
  rw [packQ_at]
  simp only [h1, h2, h3, h4, h6, h7, dite_false, if_false]
  by_cases hh : h.val % 2 < 1
  · simp only [hh, if_true]
  · have h5 : 1 + 2 * (h.val / 2) = h.val := by omega
    simp only [hh, if_false, h5]

/-- The packed keys: the part without position. -/
theorem packK_left (e : Fin 128) : packK kn kr (ix3 b k ⟨256 * h + e, by omega⟩) = kn (ix4 b k h e) := by
  have h1 : (256 * h.val + e.val) % 256 = e.val := by omega
  have h2 : (256 * h.val + e.val) / 256 = h.val := by omega
  rw [packK_at]
  simp only [h1, h2, e.isLt, dite_true]

/-- The packed keys: the first copy of the rotary part. -/
theorem packK_mid (e : Fin 64) : packK kn kr (ix3 b k ⟨256 * h + (128 + e), by omega⟩) = kr (ix3 b k e) := by
  have h1 : (256 * h.val + (128 + e.val)) % 256 = 128 + e.val := by omega
  have h3 : ¬ (128 + e.val < 128) := by omega
  have h4 : 128 + e.val - 128 = e.val := by omega
  rw [packK_at]
  simp only [h1, h3, h4, e.isLt, dite_true, dite_false]

/-- The packed keys: the second copy of the rotary part. -/
theorem packK_right (e : Fin 64) : packK kn kr (ix3 b k ⟨256 * h + (128 + (64 + e)), by omega⟩) = kr (ix3 b k e) := by
  have h1 : (256 * h.val + (128 + (64 + e.val))) % 256 = 128 + (64 + e.val) := by omega
  have h3 : ¬ (128 + (64 + e.val) < 128) := by omega
  have h4 : 128 + (64 + e.val) - 128 = 64 + e.val := by omega
  have h6 : ¬ (64 + e.val < 64) := by omega
  have h7 : 64 + e.val - 64 = e.val := by omega
  rw [packK_at]
  simp only [h1, h3, h4, h6, h7, dite_false]

end Lanes

/-! ## The scores -/

/-- A sum of reals, taken among the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The named scale is a real number. -/
theorem scale_eq : scale = (((Real.sqrt 192)⁻¹ * (Real.log 2)⁻¹ : ℝ) : EReal) :=
  IdealRules.named_const.ideal_named_scalar _ _ _ _ rfl

/-- The reference's scale is a real number. -/
theorem rsqrt_eq : Ideal.rsqrt (Ideal.ofBits .f32 0x43400000#32) = (((Real.sqrt 192)⁻¹ : ℝ) : EReal) := by
  have h : Ideal.ofBits .f32 0x43400000#32 = ((192 : ℝ) : EReal) := by
    simp [Ideal.ofBits, Ideal.ieee]
    rw [← EReal.coe_mul]
    norm_num
  rw [h, Ideal.rsqrt_coe]
  norm_num

variable (qn : S2x8192x8x128.Idx → ℝ) (qr : S2x8192x8x64.Idx → ℝ) (kn : S2x8448x8x128.Idx → ℝ)
  (kr : S2x8448x64.Idx → ℝ)

/-- A score, before the scale. -/
def raw (R : Fin 16384) (h : Fin 8) (k : Fin 8448) : ℝ :=
  ∑ x : Fin 128, qn (ix4 ⟨R.val / 8192, by omega⟩ ⟨R.val % 8192, by omega⟩ h x) * kn (ix4 ⟨R.val / 8192, by omega⟩ k h x)
    + ∑ x : Fin 64, kr (ix3 ⟨R.val / 8192, by omega⟩ k x) * qr (ix4 ⟨R.val / 8192, by omega⟩ ⟨R.val % 8192, by omega⟩ h x)

/-- The reference's score. -/
theorem scores_real (R : Fin 16384) (h : Fin 8) (k : Fin 8448) :
    ReferenceIdeal.Mla.scores (fun x => ((qn x : ℝ) : EReal)) (fun x => ((qr x : ℝ) : EReal)) (fun x => ((kn x : ℝ) : EReal))
        (fun x => ((kr x : ℝ) : EReal)) (ix4 ⟨R.val / 8192, by omega⟩ h ⟨R.val % 8192, by omega⟩ k)
      = ((raw qn qr kn kr R h k * (Real.sqrt 192)⁻¹ : ℝ) : EReal) := by
  rw [ReferenceIdeal.Mla.scores_at, rsqrt_eq]
  simp only [← EReal.coe_mul, ← coe_sum, ← EReal.coe_add]
  rfl

/-- The kernel's score: the two halves of the rotary lanes meet the shared key on one side only. -/
theorem rowScore_real (R : Fin 16384) (h : Fin 8) (i : ℕ) :
    rowScore (packQ (fun x => ((qn x : ℝ) : EReal)) (fun x => ((qr x : ℝ) : EReal)))
        (packK (fun x => ((kn x : ℝ) : EReal)) (fun x => ((kr x : ℝ) : EReal))) R h i
      = ((raw qn qr kn kr R h (key i) * (Real.sqrt 192)⁻¹ * (Real.log 2)⁻¹ : ℝ) : EReal) := by
  unfold rowScore
  rw [scale_eq]
  generalize hs : (Real.sqrt 192)⁻¹ * (Real.log 2)⁻¹ = s
  rw [mul_assoc, hs]
  have h1 := Fin.sum_univ_add (a := 128) (b := 64 + 64) fun d : Fin (128 + (64 + 64)) =>
    packQ (fun x => ((qn x : ℝ) : EReal)) (fun x => ((qr x : ℝ) : EReal)) (ix2 R ⟨256 * h + d, by omega⟩) * (s : EReal)
      * packK (fun x => ((kn x : ℝ) : EReal)) (fun x => ((kr x : ℝ) : EReal)) (ix3 ⟨R.val / 8192, by omega⟩ (key i) ⟨256 * h + d, by omega⟩)
  refine h1.trans ?_
  rw [Fin.sum_univ_add]
  simp only [Fin.val_castAdd, Fin.val_natAdd, packQ_left, packQ_mid, packQ_right, packK_left, packK_mid, packK_right]
  unfold raw
  by_cases hh : h.val % 2 < 1
  · simp only [hh, if_true, zero_mul, Finset.sum_const_zero, add_zero]
    simp only [← EReal.coe_mul, ← coe_sum, ← EReal.coe_add]
    congr 1
    rw [add_mul, Finset.sum_mul, Finset.sum_mul]
    congr 1 <;> exact Finset.sum_congr rfl fun _ _ => by ring
  · simp only [hh, if_false, zero_mul, Finset.sum_const_zero, zero_add]
    simp only [← EReal.coe_mul, ← coe_sum, ← EReal.coe_add]
    congr 1
    rw [add_mul, Finset.sum_mul, Finset.sum_mul]
    congr 1 <;> exact Finset.sum_congr rfl fun _ _ => by ring

/-! ## The equation -/

/-- A weighted sum and its weights over equal arguments. -/
theorem softmax_congr {n : ℕ} (y : Fin n → EReal) (E V W : Fin n → EReal)
    (hE : ∀ k, E k = Ideal.exp (y k - Finset.univ.sup y)) (hV : ∀ k, V k = W k) :
    (∑ k, Ideal.div (Ideal.exp (y k - Finset.univ.sup y)) (∑ k', Ideal.exp (y k' - Finset.univ.sup y)) * V k)
      = ∑ k, W k * Ideal.div (E k) (∑ k', E k') := by
  simp only [hE, hV, mul_comm]

/-- The attention arrays agree. -/
theorem attn_eq (v : FVec Ideal S2x8448x8x128 .f32) (R : Fin 16384) (C : Fin 1024) :
    attn (packQ (fun x => ((qn x : ℝ) : EReal)) (fun x => ((qr x : ℝ) : EReal)))
        (packK (fun x => ((kn x : ℝ) : EReal)) (fun x => ((kr x : ℝ) : EReal))) (packV v) R C
      = ReferenceIdeal.Mla.attn v
          (ReferenceIdeal.Mla.exps (ReferenceIdeal.Mla.scores (fun x => ((qn x : ℝ) : EReal)) (fun x => ((qr x : ℝ) : EReal))
              (fun x => ((kn x : ℝ) : EReal)) (fun x => ((kr x : ℝ) : EReal)))
            (ReferenceIdeal.Mla.tops (ReferenceIdeal.Mla.scores (fun x => ((qn x : ℝ) : EReal)) (fun x => ((qr x : ℝ) : EReal))
              (fun x => ((kn x : ℝ) : EReal)) (fun x => ((kr x : ℝ) : EReal))))) (ix2 R C) := by
  unfold attn
  rw [quotient_eq_softmax (fun i => raw qn qr kn kr R ⟨C.val / 128, by omega⟩ (key i) * (Real.sqrt 192)⁻¹) _ _ 8448 (by omega)
    (fun i => rowScore_real qn qr kn kr R ⟨C.val / 128, by omega⟩ i), ReferenceIdeal.Mla.attn_at]
  have hk : ∀ k : Fin 8448, key k.val = k := fun k => Fin.ext (Nat.mod_eq_of_lt k.isLt)
  refine softmax_congr (fun k : Fin 8448 => ((raw qn qr kn kr R ⟨C.val / 128, by omega⟩ (key k) * (Real.sqrt 192)⁻¹ : ℝ) : EReal))
    (fun k => _) _ _ (fun k => ?_) (fun k => ?_)
  · rw [ReferenceIdeal.Mla.exps_at, ReferenceIdeal.Mla.tops_at]
    simp only [scores_real, hk]
  · rw [packV_at, hk]

end Cert.KernelIdeal.Mla
-- ==== Proof.Finite.lean ====
module

public import proofs.«01_k».proof.Pre_finite_scores
public import Idealize.ShloMosaic.Lib.Pointwise

/-! # What the precondition says: the queries and the keys are real numbers -/

@[expose] public section

noncomputable section

namespace Cert.Pre_finite_scores.Mla

open Idealize.ShloMosaic Cert.Pre_finite_scores

/-- The precondition's shapes. -/
instance facts : Facts := ⟨by decide, by decide, by decide, by decide⟩

/-- An array whose absolute values are all below infinity is an array of real numbers. -/
theorem real_of_lt {s : Shape} (a : FVec Ideal s .f32) (z : FVec Ideal s .f32) (hz : ∀ x, z x = ⊤)
    (h : cmpf .olt (Host.absf a) z = fun _ => 1#1) : ∃ f : s.Idx → ℝ, a = fun x => ((f x : ℝ) : EReal) := by
  have hr : ∀ x, ∃ r : ℝ, a x = (r : EReal) := fun x => by
    have hx : Ideal.cmp .olt (max (a x) (-(a x))) (z x) = 1#1 := congrFun h x
    rw [hz] at hx
    generalize a x = y at hx
    induction y using EReal.rec with
    | bot => simp [Ideal.cmp] at hx
    | top => simp [Ideal.cmp] at hx
    | coe r => exact ⟨r, rfl⟩
  choose f hf using hr
  exact ⟨f, funext hf⟩

/-- The bound is above everything. -/
theorem top_at (i : S_.Idx) : (constant (F := Ideal) S_ .f32 0x7F800000#32) i = ⊤ := by
  show Ideal.ofBits .f32 0x7F800000#32 = ⊤
  simp [Ideal.ofBits, Ideal.ieee]

end Cert.Pre_finite_scores.Mla
-- ==== Proof.Attention.lean ====
module

public import proofs.«01_k».proof.Defs
public import proofs.«01_k».proof.Proof.Equation
public import proofs.«01_k».proof.Proof.Finite
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init

/-! # The claims about the latent attention -/

@[expose] public section

set_option maxRecDepth 16384

noncomputable section

namespace Cert.MlaClaims

open Idealize.ShloMosaic Idealize.ShloMosaic.TcCoe Idealize.SL.Sem

/-! ## The results as functions of the arguments -/

/-- The reference's attention of the five arrays. -/
def out (qn : FVec Ideal Cert.ReferenceIdeal.S2x8192x8x128 .f32) (qr : FVec Ideal Cert.ReferenceIdeal.S2x8192x8x64 .f32)
    (kn : FVec Ideal Cert.ReferenceIdeal.S2x8448x8x128 .f32) (kr : FVec Ideal Cert.ReferenceIdeal.S2x8448x64 .f32)
    (v : FVec Ideal Cert.ReferenceIdeal.S2x8448x8x128 .f32) : FVec Ideal Cert.ReferenceIdeal.S16384x1024 .bf16 :=
  ReferenceIdeal.Mla.attn v (ReferenceIdeal.Mla.exps (ReferenceIdeal.Mla.scores qn qr kn kr)
    (ReferenceIdeal.Mla.tops (ReferenceIdeal.Mla.scores qn qr kn kr)))

section Kernel

open Cert.KernelIdeal Cert.KernelIdeal.Gen Cert.KernelIdeal.Mla

variable (m : (ℓ : Loc nD τ sig) → Buf (Elt Ideal) ℓ) (c : Dev nD)

/-- What the precondition says of one device's arrays. -/
theorem reals [hP : Cert.Pre_finite_scores.Facts] (h : Cert.Pre_KernelIdeal_finite_scores m) :
    (∃ f : S2x8192x8x128.Idx → ℝ, m ((c : Thread nD τ).loc main_arg0) = fun x => ((f x : ℝ) : EReal))
    ∧ (∃ f : S2x8192x8x64.Idx → ℝ, m ((c : Thread nD τ).loc main_arg1) = fun x => ((f x : ℝ) : EReal))
    ∧ (∃ f : S2x8448x8x128.Idx → ℝ, m ((c : Thread nD τ).loc main_arg2) = fun x => ((f x : ℝ) : EReal))
    ∧ (∃ f : S2x8448x64.Idx → ℝ, m ((c : Thread nD τ).loc main_arg3) = fun x => ((f x : ℝ) : EReal)) := by
  obtain ⟨h0, h1, h2, h3⟩ := h c
  exact ⟨Cert.Pre_finite_scores.Mla.real_of_lt _ _ (fun _ => Cert.Pre_finite_scores.Mla.top_at _) h0,
    Cert.Pre_finite_scores.Mla.real_of_lt _ _ (fun _ => Cert.Pre_finite_scores.Mla.top_at _) h1,
    Cert.Pre_finite_scores.Mla.real_of_lt _ _ (fun _ => Cert.Pre_finite_scores.Mla.top_at _) h2,
    Cert.Pre_finite_scores.Mla.real_of_lt _ _ (fun _ => Cert.Pre_finite_scores.Mla.top_at _) h3⟩

/-- Real queries and keys: the attention array the kernel leaves is the reference's. -/
theorem array6 [hP : Cert.Pre_finite_scores.Facts] (h : Cert.Pre_KernelIdeal_finite_scores m) :
    (dats m 0 c).arrAt 6 cfg0.N = out (m ((c : Thread nD τ).loc main_arg0)) (m ((c : Thread nD τ).loc main_arg1))
      (m ((c : Thread nD τ).loc main_arg2)) (m ((c : Thread nD τ).loc main_arg3)) (m ((c : Thread nD τ).loc main_arg4)) := by
  obtain ⟨⟨qn, hqn⟩, ⟨qr, hqr⟩, ⟨kn, hkn⟩, ⟨kr, hkr⟩⟩ := reals m c h
  rw [arr6, V_q, V_k, V_v, hqn, hqr, hkn, hkr]
  funext x
  obtain ⟨r, d, rfl⟩ : ∃ (r : Fin 16384) (d : Fin 1024), x = ix2 r d := ⟨x 0, x 1, by funext a; fin_cases a <;> rfl⟩
  exact attn_eq qn qr kn kr _ r d

/-- The first narrowed weight. -/
theorem array7 : (dats m 0 c).arrAt 7 cfg0.N = ReferenceIdeal.Mla.weight1 (m ((c : Thread nD τ).loc main_arg5)) := by
  rw [arr7, V_main_arg5]
  funext x
  obtain ⟨r, d, rfl⟩ : ∃ (r : Fin 2048) (d : Fin 5632), x = ix2 r d := ⟨x 0, x 1, by funext a; fin_cases a <;> rfl⟩
  exact (ReferenceIdeal.Mla.weight1_at _ r d).symm

/-- The third narrowed weight. -/
theorem array8 : (dats m 0 c).arrAt 8 cfg0.N = ReferenceIdeal.Mla.weight1 (m ((c : Thread nD τ).loc main_arg6)) := by
  rw [arr8, V_main_arg6]
  funext x
  obtain ⟨r, d, rfl⟩ : ∃ (r : Fin 2048) (d : Fin 5632), x = ix2 r d := ⟨x 0, x 1, by funext a; fin_cases a <;> rfl⟩
  exact (ReferenceIdeal.Mla.weight1_at _ r d).symm

/-- The second narrowed weight. -/
theorem array9 : (dats m 0 c).arrAt 9 cfg0.N = ReferenceIdeal.Mla.weight2 (m ((c : Thread nD τ).loc main_arg7)) := by
  rw [arr9, V_main_arg7]
  funext x
  obtain ⟨r, d, rfl⟩ : ∃ (r : Fin 5632) (d : Fin 2048), x = ix2 r d := ⟨x 0, x 1, by funext a; fin_cases a <;> rfl⟩
  exact (ReferenceIdeal.Mla.weight2_at _ r d).symm

end Kernel

section Reference

open Cert.ReferenceIdeal Cert.ReferenceIdeal.Gen

/-- What the reference leaves, by name. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v24) = Mla.weight1 (m ((c.tc : Thread nD τ).loc main_arg5))
      ∧ r.2.mem ((c.tc : Thread nD τ).loc main_v27) = Mla.weight1 (m ((c.tc : Thread nD τ).loc main_arg6))
      ∧ r.2.mem ((c.tc : Thread nD τ).loc main_v30) = Mla.weight2 (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by unfold out Mla.attn Mla.mixed Mla.exps Mla.tops Mla.scores; rfl),
    (h c).2.1.trans (by unfold Mla.weight1; rfl), (h c).2.2.1.trans (by unfold Mla.weight1; rfl),
    (h c).2.2.2.1.trans (by unfold Mla.weight2; rfl), (h c).2.2.2.2⟩) (Value.run m ρ)

end Reference

/-! ## The claims -/

/-- The kernel leaves its arguments and ends quiescent. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the idealized kernel under the precondition. -/
theorem frame_pi_pre [Cert.Pre_finite_scores.Facts] : Cert.quiescent_KernelIdeal_pre_finite_scores :=
  fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run m ρ)

/-- So does the reference under the precondition. -/
theorem frame_ri_pre [Cert.Pre_finite_scores.Facts] : Cert.quiescent_ReferenceIdeal_pre_finite_scores :=
  fun m ρ _ => frame_ri m ρ trivial

/-- The named constants stand for the literals they replace. -/
theorem preserves : Cert.preserves_Kernel_KernelIdeal :=
  ⟨IdealRules.named_const.statement Cert.KernelIdeal.κ "scale_log2e" .f32 0x3DD53B95#32
      (((Real.sqrt 192)⁻¹ * (Real.log 2)⁻¹ : ℝ) : EReal) rfl,
    IdealRules.named_const.statement Cert.KernelIdeal.κ "neg" .f32 0xF149F2CA#32 ⊥ rfl⟩

/-- Over the reals the kernel's results are the reference's. -/
theorem algebraic [hP : Cert.Pre_finite_scores.Facts] : Cert.algebraic_KernelIdeal_ReferenceIdeal_pre_finite_scores := by
  intro m ρ m' ρ' hpre hag
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m ρ,
    (θ_run Cert.ReferenceIdeal.defs _ _).mono (fun r h c => ?_) (run_reference m' ρ')⟩
  obtain ⟨h0, h1, h2, h3, hk⟩ := h c
  obtain ⟨a0, a1, a2, a3, a4, a5, a6, a7⟩ := hag c
  exact ⟨h0.trans ((congr (congr (congr (congr (congrArg out a0) a1) a2) a3) a4).trans (array6 m c hpre).symm),
    h1.trans ((congrArg ReferenceIdeal.Mla.weight1 a5).trans (array7 m c).symm),
    h2.trans ((congrArg ReferenceIdeal.Mla.weight1 a6).trans (array8 m c).symm),
    h3.trans ((congrArg ReferenceIdeal.Mla.weight2 a7).trans (array9 m c).symm), hk⟩

end Cert.MlaClaims
-- ==== Proof.FfnBody.lean ====
/- The setting of the feed-forward call's run: the conditional at its first point. -/
module

public import proofs.«01_k».proof.Proof.Gen.Kernel2Ideal.Frame
public import proofs.«01_k».proof.Proof.Gen.Kernel2Ideal.Skeleton
public import Idealize.ShloMosaic.Lib.Tactic

@[expose] public section

set_option maxRecDepth 16384

noncomputable section

namespace Cert.FfnClaims

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No loop variants are needed. -/
abbrev 𝒱₀ : Variants := Variants.none

/-- The first conditional's condition: both coordinates are zero. -/
abbrev condFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-- The grid point of row tile `a` and column tile `b`. -/
def at2 (a : Fin 32) (b : Fin 11) : grid0.Coords := fun | 0 => a | 1 => b

/-- A grid point is the point of its two coordinates. -/
theorem at2_eta (i : grid0.Coords) : at2 (i 0) (i 1) = i := by
  funext k; revert k; intro k; match k with | 0 => rfl | 1 => rfl

/-- The half of the scratches that a row tile computes with. -/
theorem off1_eq (i : grid0.Coords) : k0_off1 i = ![(i 0).val % 2, 0, 0] := by
  have h : ∀ (a : Fin 32) (b : Fin 11), k0_off1 (at2 a b) = ![a.val % 2, 0, 0] := by decide +kernel
  exact (congrArg k0_off1 (at2_eta i).symm).trans (h _ _)

/-- The rows of the other half that a point prepares for the next row tile. -/
theorem off2_eq (i : grid0.Coords) : k0_off2 i = ![1 - (i 0).val % 2, 64 * min (i 1).val 7, 0] := by
  have h : ∀ (a : Fin 32) (b : Fin 11), k0_off2 (at2 a b) = ![1 - a.val % 2, 64 * min b.val 7, 0] := by decide +kernel
  exact (congrArg k0_off2 (at2_eta i).symm).trans (h _ _)

/-- The half of the residual scratch that the last column tile reads. -/
theorem off3_eq (i : grid0.Coords) : k0_off3 i = ![(i 0).val % 2, 0, 0] := by
  have h : ∀ (a : Fin 32) (b : Fin 11), k0_off3 (at2 a b) = ![a.val % 2, 0, 0] := by decide +kernel
  exact (congrArg k0_off3 (at2_eta i).symm).trans (h _ _)

/-- The first conditional is taken at the first point alone. -/
theorem condFirst_iff (i : grid0.Coords) : condFirst i = 1#1 ↔ (i 0).val = 0 ∧ (i 1).val = 0 := by
  have h : ∀ (a : Fin 32) (b : Fin 11), condFirst (at2 a b) = 1#1 ↔ a.val = 0 ∧ b.val = 0 := by decide +kernel
  have := h (i 0) (i 1)
  rwa [at2_eta] at this

/-- The second conditional is taken at the last column tile. -/
theorem condLast_iff (i : grid0.Coords) : k0_cond2 i = 1#1 ↔ (i 1).val = 10 := by
  have h : ∀ (a : Fin 32) (b : Fin 11), k0_cond2 (at2 a b) = 1#1 ↔ b.val = 10 := by decide +kernel
  have := h (i 0) (i 1)
  rwa [at2_eta] at this

/-- The offset of the half being multiplied, in closed form. -/
instance (i : grid0.Coords) : ClosedOff (k0_off1 i) := ⟨![(i 0).val % 2, 0, 0], off1_eq i⟩
/-- The offset of the rows being prepared in the other half, in closed form. -/
instance (i : grid0.Coords) : ClosedOff (k0_off2 i) := ⟨![1 - (i 0).val % 2, 64 * min (i 1).val 7, 0], off2_eq i⟩
/-- The offset of the half whose rows are finished, in closed form. -/
instance (i : grid0.Coords) : ClosedOff (k0_off3 i) := ⟨![(i 0).val % 2, 0, 0], off3_eq i⟩

end Cert.FfnClaims

end
-- ==== Proof.FfnFirst.lean ====
/- One grid point of the feed-forward call, run from any contents of its buffers: what it leaves in each. -/
module

public import proofs.«01_k».proof.Proof.FfnBody

@[expose] public section

set_option maxRecDepth 16384

noncomputable section

namespace Cert.FfnClaims

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3328000 in
/-- The first point: it fills half 0 of both scratches from the first block, then goes on as any other. -/
noncomputable def runFirst (c : Dev nD) (i : grid0.Coords) (h1 : condFirst i = 1#1) (h2 : ¬ k0_cond2 i = 1#1)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (arg16 : Memref sig .tc .vmem S2x512x2048 .f32) (harg16 : arg16.IsWhole) (arg17 : Memref sig .tc .vmem S512x2048 .f32) (harg17 : arg17.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S1x2048 .f32) (x14 : Vec F S512x2048 .f32) (x15 : Vec F S2x512x2048 .bf16) (x16 : Vec F S2x512x2048 .f32) (x17 : Vec F S512x2048 .f32) :
    Σ' (L15 : List (View.Piece (Elt F) S2x512x2048 .bf16)), Σ' (L16 : List (View.Piece (Elt F) S2x512x2048 .f32)), { L17 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16)) ∗ owns (c : Thread nD τ) arg17 fullShare (arg17.view.read (Elt F) (arg17.view.writes (Elt F) (harg17.unread x17) L17))) -∗ K ⟨⟩))
          ⊢ wp frame (wpE (defs₀ (F := F)) 𝒱₀ c none) E (cc0_ffn_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_ffn_final_eq_skeleton]; unfold cc0_ffn_final_skel
    simp only [k0_part1_eq_skeleton, k0_part2_eq_skeleton]; unfold k0_part1_skel k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    have hi : (i 0).val = 0 := ((condFirst_iff i).mp h1).1
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; swap; · iexact H15
      ipureintro; rfl
    isplitl [H16]
    · iexists _; isplitr; swap; · iexact H16
      ipureintro; rfl
    iexists _; isplitr; swap; · iexact H17
    ipureintro; rfl

end Cert.FfnClaims

end
-- ==== Proof.FfnMid.lean ====
/- One grid point of the feed-forward call, run from any contents of its buffers: what it leaves in each. -/
module

public import proofs.«01_k».proof.Proof.FfnBody

@[expose] public section

set_option maxRecDepth 16384

noncomputable section

namespace Cert.FfnClaims

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3328000 in
/-- A point that is neither the first nor the last of its row tile. -/
noncomputable def runMid (c : Dev nD) (i : grid0.Coords) (h1 : ¬ condFirst i = 1#1) (h2 : ¬ k0_cond2 i = 1#1)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (arg16 : Memref sig .tc .vmem S2x512x2048 .f32) (harg16 : arg16.IsWhole) (arg17 : Memref sig .tc .vmem S512x2048 .f32) (harg17 : arg17.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S1x2048 .f32) (x14 : Vec F S512x2048 .f32) (x15 : Vec F S2x512x2048 .bf16) (x16 : Vec F S2x512x2048 .f32) (x17 : Vec F S512x2048 .f32) :
    Σ' (L15 : List (View.Piece (Elt F) S2x512x2048 .bf16)), Σ' (L16 : List (View.Piece (Elt F) S2x512x2048 .f32)), { L17 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16)) ∗ owns (c : Thread nD τ) arg17 fullShare (arg17.view.read (Elt F) (arg17.view.writes (Elt F) (harg17.unread x17) L17))) -∗ K ⟨⟩))
          ⊢ wp frame (wpE (defs₀ (F := F)) 𝒱₀ c none) E (cc0_ffn_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_ffn_final_eq_skeleton]; unfold cc0_ffn_final_skel
    simp only [k0_part1_eq_skeleton, k0_part2_eq_skeleton]; unfold k0_part1_skel k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; swap; · iexact H15
      ipureintro; rfl
    isplitl [H16]
    · iexists _; isplitr; swap; · iexact H16
      ipureintro; rfl
    iexists _; isplitr; swap; · iexact H17
    ipureintro; rfl

end Cert.FfnClaims

end
-- ==== Proof.FfnLast.lean ====
/- One grid point of the feed-forward call, run from any contents of its buffers: what it leaves in each. -/
module

public import proofs.«01_k».proof.Proof.FfnBody

@[expose] public section

set_option maxRecDepth 16384

noncomputable section

namespace Cert.FfnClaims

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3328000 in
/-- The last point of a row tile: it stores the tile's rows. -/
noncomputable def runLast (c : Dev nD) (i : grid0.Coords) (h1 : ¬ condFirst i = 1#1) (h2 : k0_cond2 i = 1#1)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (arg16 : Memref sig .tc .vmem S2x512x2048 .f32) (harg16 : arg16.IsWhole) (arg17 : Memref sig .tc .vmem S512x2048 .f32) (harg17 : arg17.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S1x2048 .f32) (x14 : Vec F S512x2048 .f32) (x15 : Vec F S2x512x2048 .bf16) (x16 : Vec F S2x512x2048 .f32) (x17 : Vec F S512x2048 .f32) :
    Σ' (L14 : List (View.Piece (Elt F) S512x2048 .f32)), Σ' (L15 : List (View.Piece (Elt F) S2x512x2048 .bf16)), Σ' (L16 : List (View.Piece (Elt F) S2x512x2048 .f32)), { L17 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (arg14.view.read (Elt F) (arg14.view.writes (Elt F) (harg14.unread x14) L14)) ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16)) ∗ owns (c : Thread nD τ) arg17 fullShare (arg17.view.read (Elt F) (arg17.view.writes (Elt F) (harg17.unread x17) L17))) -∗ K ⟨⟩))
          ⊢ wp frame (wpE (defs₀ (F := F)) 𝒱₀ c none) E (cc0_ffn_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_ffn_final_eq_skeleton]; unfold cc0_ffn_final_skel
    simp only [k0_part1_eq_skeleton, k0_part2_eq_skeleton]; unfold k0_part1_skel k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    iexists _; isplitr; swap; · iexact H17
    ipureintro; rfl

end Cert.FfnClaims

end
-- ==== Proof.FfnStep.lean ====
/- One grid point of the feed-forward call as a step on the values of its buffers. -/
module

public import proofs.«01_k».proof.Proof.FfnFirst
public import proofs.«01_k».proof.Proof.FfnMid
public import proofs.«01_k».proof.Proof.FfnLast
public import Idealize.ShloMosaic.Lib.VecWindow

@[expose] public section

set_option maxRecDepth 16384

noncomputable section

namespace Cert.FfnClaims

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The 64 normalised and modulated rows a point prepares for the next row tile. -/
def chunkH (x3 : Vec F S64x2048 .f32) (x4 : Vec F S1x2048 .f32) (x7 x8 : Vec F S1x1x2048 .f32) : Vec F S1x64x2048 .bf16 :=
  k0_pay1 (k0_pay12 x7) (k0_pay13 (k0_pay3 x4) x3) (k0_pay14 x8)

/-- One half of a two-half buffer. -/
def half {α : Type} (k : ℕ) (hk : k < 2) (x : S2x512x2048.Idx → α) : S1x512x2048.Idx → α :=
  VecWindow.window x ![k, 0, 0] S1x512x2048.size (by intro a; fin_cases a <;> simp <;> omega)

/-- A remainder by two is below two. -/
theorem mod2_lt (n : ℕ) : n % 2 < 2 := Nat.mod_lt _ (by decide)

/-- The rows of the next row tile, put into the half not in use. -/
def putRows {α : Type} (i : grid0.Coords) (x : S2x512x2048.Idx → α) (w : S1x64x2048.Idx → α) : S2x512x2048.Idx → α :=
  VecWindow.put x ![1 - (i 0).val % 2, 64 * min (i 1).val 7, 0] S1x64x2048.size w

/-- The first row tile, put into half 0. -/
def putTile {α : Type} (x : S2x512x2048.Idx → α) (w : S1x512x2048.Idx → α) : S2x512x2048.Idx → α :=
  VecWindow.put x ![0, 0, 0] S1x512x2048.size w

/-- The accumulator after a point: the half in use, through the two column tiles and the row tile of the weights. -/
def accOf (i : grid0.Coords) (x10 x11 : Vec F S2048x512 .bf16) (x12 : Vec F S512x2048 .bf16) (h : Vec F S1x512x2048 .bf16) (x17 : Vec F S512x2048 .f32) :
    Vec F S512x2048 .f32 :=
  k0_pay9 (k0_pay7 h x10 x11) (k0_pay8 i x17) x12

/-- A load of a whole buffer. -/
def rd {S : Shape} {e : EltTy} (m : Memref sig .tc .vmem S e) (off : Fin S.rank → ℕ) (inb : ∀ a, off a + S.size a ≤ S.size a) (f : m.view.ty.Contents (Elt F)) : Vec F S e :=
  m.view.readAt (Elt F) (Rect.unit off S.size inb).toLoadRect f

/-- Reading back a whole buffer at an offset gives the block at that offset. -/
theorem rd_unread {S : Shape} {e : EltTy} (m : Memref sig .tc .vmem S e) (hm : m.IsWhole) (off : Fin S.rank → ℕ) (inb : ∀ a, off a + S.size a ≤ S.size a) (x : Vec F S e) :
    rd m off inb (hm.unread x) = x :=
  (View.readAt_full m.view _ inb).trans (hm.read_unread x)

/-- A load of the half in use. -/
def rdHalf {e : EltTy} (m : Memref sig .tc .vmem S2x512x2048 e) (off : Fin 3 → ℕ) (inb : ∀ a, off a + S1x512x2048.size a ≤ S2x512x2048.size a) (f : m.view.ty.Contents (Elt F)) : Vec F S1x512x2048 e :=
  m.view.readAt (Elt F) (Rect.unit (s := S2x512x2048) off S1x512x2048.size inb).toLoadRect f

/-- Reading the current half of a scratch. -/
theorem rdHalf_eq {e : EltTy} (m : Memref sig .tc .vmem S2x512x2048 e) (f : m.view.ty.Contents (Elt F)) (i : grid0.Coords)
    (off : Fin 3 → ℕ) (hoff : off = ![(i 0).val % 2, 0, 0]) (inb) :
    rdHalf m off inb f = half ((i 0).val % 2) (mod2_lt _) (m.view.read (Elt F) f) :=
  View.readAt_unit m.view f inb hoff _

/-- The rows put into the other half leave the half in use. -/
theorem half_putRows {α : Type} (i : grid0.Coords) (x : S2x512x2048.Idx → α) (w : S1x64x2048.Idx → α) :
    half ((i 0).val % 2) (mod2_lt _) (putRows i x w) = half ((i 0).val % 2) (mod2_lt _) x := by
  refine VecWindow.window_put_of_disjoint x _ _ _ _ _ w 0 ?_
  have := mod2_lt (i 0).val
  simp
  omega

/-- The normalised rows as a point finds them: at the first point the first row tile has just been put in. -/
def start15 (i : grid0.Coords) (x2 : Vec F S512x2048 .f32) (x4 : Vec F S1x2048 .f32) (x5 x6 : Vec F S1x1x2048 .f32) (x15 : Vec F S2x512x2048 .bf16) : Vec F S2x512x2048 .bf16 :=
  if (i 0).val = 0 ∧ (i 1).val = 0 then putTile x15 (k0_pay6 x4 x2 x5 x6) else x15

/-- The residual rows as a point finds them. -/
def start16 (i : grid0.Coords) (x2 : Vec F S512x2048 .f32) (x16 : Vec F S2x512x2048 .f32) : Vec F S2x512x2048 .f32 :=
  if (i 0).val = 0 ∧ (i 1).val = 0 then putTile x16 (k0_pay5 x2) else x16

/-- The output buffer after a point: the finished rows at the last column tile, else what it held. -/
def out14 (i : grid0.Coords) (x9 : Vec F S1x1x2048 .f32) (x10 x11 : Vec F S2048x512 .bf16) (x12 : Vec F S512x2048 .bf16) (x13 : Vec F S1x2048 .f32)
    (x14 : Vec F S512x2048 .f32) (h : Vec F S2x512x2048 .bf16) (r : Vec F S2x512x2048 .f32) (x17 : Vec F S512x2048 .f32) : Vec F S512x2048 .f32 :=
  if (i 1).val = 10 then k0_pay2 (half ((i 0).val % 2) (mod2_lt _) r) x9 (accOf i x10 x11 x12 (half ((i 0).val % 2) (mod2_lt _) h) x17) x13 else x14

section mid
variable (c : Dev nD) (i : grid0.Coords)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (arg16 : Memref sig .tc .vmem S2x512x2048 .f32) (harg16 : arg16.IsWhole) (arg17 : Memref sig .tc .vmem S512x2048 .f32) (harg17 : arg17.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S1x2048 .f32) (x14 : Vec F S512x2048 .f32) (x15 : Vec F S2x512x2048 .bf16) (x16 : Vec F S2x512x2048 .f32) (x17 : Vec F S512x2048 .f32)

/-- What a middle point leaves in its three scratches. -/
theorem mid_reads (h1 : ¬ condFirst i = 1#1) (h2 : ¬ k0_cond2 i = 1#1) :
    arg15.view.read (Elt F) (arg15.view.writes (Elt F) (harg15.unread x15) (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).1) = putRows i x15 (chunkH x3 x4 x7 x8)
    ∧ arg16.view.read (Elt F) (arg16.view.writes (Elt F) (harg16.unread x16) (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.1) = putRows i x16 (k0_pay11 x3)
    ∧ arg17.view.read (Elt F) (arg17.view.writes (Elt F) (harg17.unread x17) (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.1)
      = accOf i x10 x11 x12 (half ((i 0).val % 2) (mod2_lt _) x15) x17 := by
  refine ⟨?_, ?_, ?_⟩
  · refine (View.read_writes_cons_put arg15.view _ _ _ _ (off2_eq i)).trans ?_
    rw [View.writes_nil, harg15.read_unread]
    show putRows i x15 _ = putRows i x15 _
    congr 1
    show k0_pay1 (k0_pay12 (rd arg7 ![0, 0, 0] inb_S1x1x2048_S1x1x2048_0_0_0 _)) (k0_pay13 (k0_pay3 (rd arg4 ![0, 0] inb_S1x2048_S1x2048_0_0 _)) (rd arg3 ![0, 0] inb_S64x2048_S64x2048_0_0 _))
      (k0_pay14 (rd arg8 ![0, 0, 0] inb_S1x1x2048_S1x1x2048_0_0_0 _)) = _
    rw [rd_unread, rd_unread, rd_unread, rd_unread]
    rfl
  · refine (View.read_writes_cons_put arg16.view _ _ _ _ (off2_eq i)).trans ?_
    rw [View.writes_nil, harg16.read_unread]
    show putRows i x16 (k0_pay11 (rd arg3 ![0, 0] inb_S64x2048_S64x2048_0_0 _)) = _
    rw [rd_unread]
  · refine (View.read_writes_full arg17.view _ _ _ _).trans ?_
    show k0_pay9 (k0_pay7 (rdHalf arg15 _ (k0_off1_inb i) _) (rd arg10 ![0, 0] inb_S2048x512_S2048x512_0_0 _) (rd arg11 ![0, 0] inb_S2048x512_S2048x512_0_0 _))
      (k0_pay8 i (rd arg17 ![0, 0] inb_S512x2048_S512x2048_0_0 _)) (rd arg12 ![0, 0] inb_S512x2048_S512x2048_0_0 _) = _
    rw [rdHalf_eq arg15 _ i _ (off1_eq i), harg15.read_unread, rd_unread, rd_unread, rd_unread, rd_unread]
    rfl

/-- What the last point of a row tile leaves: the finished rows in the output buffer, and the three scratches. -/
theorem last_reads (h1 : ¬ condFirst i = 1#1) (h2 : k0_cond2 i = 1#1) :
    arg15.view.read (Elt F) (arg15.view.writes (Elt F) (harg15.unread x15) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.1) = putRows i x15 (chunkH x3 x4 x7 x8)
    ∧ arg16.view.read (Elt F) (arg16.view.writes (Elt F) (harg16.unread x16) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.1) = putRows i x16 (k0_pay11 x3)
    ∧ arg17.view.read (Elt F) (arg17.view.writes (Elt F) (harg17.unread x17) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.2.1)
      = accOf i x10 x11 x12 (half ((i 0).val % 2) (mod2_lt _) x15) x17
    ∧ arg14.view.read (Elt F) (arg14.view.writes (Elt F) (harg14.unread x14) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).1)
      = k0_pay2 (half ((i 0).val % 2) (mod2_lt _) x16) x9 (accOf i x10 x11 x12 (half ((i 0).val % 2) (mod2_lt _) x15) x17) x13 := by
  refine ⟨?_, ?_, ?_, ?_⟩
  · refine (View.read_writes_cons_put arg15.view _ _ _ _ (off2_eq i)).trans ?_
    rw [View.writes_nil, harg15.read_unread]
    show putRows i x15 (k0_pay1 (k0_pay12 (rd arg7 ![0, 0, 0] inb_S1x1x2048_S1x1x2048_0_0_0 _)) (k0_pay13 (k0_pay3 (rd arg4 ![0, 0] inb_S1x2048_S1x2048_0_0 _)) (rd arg3 ![0, 0] inb_S64x2048_S64x2048_0_0 _)) (k0_pay14 (rd arg8 ![0, 0, 0] inb_S1x1x2048_S1x1x2048_0_0_0 _))) = putRows i x15 _
    rw [rd_unread, rd_unread, rd_unread, rd_unread]
    rfl
  · refine (View.read_writes_cons_put arg16.view _ _ _ _ (off2_eq i)).trans ?_
    rw [View.writes_nil, harg16.read_unread]
    show putRows i x16 (k0_pay11 (rd arg3 ![0, 0] inb_S64x2048_S64x2048_0_0 _)) = _
    rw [rd_unread]
  · refine (View.read_writes_full arg17.view _ _ _ _).trans ?_
    show k0_pay9 (k0_pay7 (rdHalf arg15 _ (k0_off1_inb i) _) (rd arg10 ![0, 0] inb_S2048x512_S2048x512_0_0 _) (rd arg11 ![0, 0] inb_S2048x512_S2048x512_0_0 _)) (k0_pay8 i (rd arg17 ![0, 0] inb_S512x2048_S512x2048_0_0 _)) (rd arg12 ![0, 0] inb_S512x2048_S512x2048_0_0 _) = _
    rw [rdHalf_eq arg15 _ i _ (off1_eq i), harg15.read_unread, rd_unread, rd_unread, rd_unread, rd_unread]
    rfl
  · refine (View.read_writes_full arg14.view _ _ _ _).trans ?_
    have e16 : runLast.sl.v85 c i h2 arg3 harg3 arg16 harg16 x3 x16 = half ((i 0).val % 2) (mod2_lt _) x16 := by
      refine (rdHalf_eq arg16 _ i _ (off3_eq i) (k0_off3_inb i h2)).trans ?_
      rw [← half_putRows i x16 (k0_pay11 x3)]
      refine congrArg _ ((View.read_writes_cons_put arg16.view _ _ _ _ (off2_eq i)).trans ?_)
      rw [View.writes_nil, harg16.read_unread]
      show putRows i x16 (k0_pay11 (rd arg3 ![0, 0] inb_S64x2048_S64x2048_0_0 _)) = _
      rw [rd_unread]
    have e17 : runLast.sl.v91 c i arg4 harg4 arg10 harg10 arg11 harg11 arg12 harg12 arg15 harg15 arg17 harg17 x4 x10 x11 x12 x15 x17
        = accOf i x10 x11 x12 (half ((i 0).val % 2) (mod2_lt _) x15) x17 := by
      refine (View.readCov_full arg17.view _ _ _ _).trans ?_
      show k0_pay9 (k0_pay7 (rdHalf arg15 _ (k0_off1_inb i) _) (rd arg10 ![0, 0] inb_S2048x512_S2048x512_0_0 _) (rd arg11 ![0, 0] inb_S2048x512_S2048x512_0_0 _)) (k0_pay8 i (rd arg17 ![0, 0] inb_S512x2048_S512x2048_0_0 _)) (rd arg12 ![0, 0] inb_S512x2048_S512x2048_0_0 _) = _
      rw [rdHalf_eq arg15 _ i _ (off1_eq i), harg15.read_unread, rd_unread, rd_unread, rd_unread, rd_unread]
      rfl
    show k0_pay2 _ (rd arg9 ![0, 0, 0] inb_S1x1x2048_S1x1x2048_0_0_0 _) _ (rd arg13 ![0, 0] inb_S1x2048_S1x2048_0_0 _) = _
    rw [rd_unread, rd_unread]
    exact congrArg₂ (fun u v => k0_pay2 u x9 v x13) e16 e17

/-- What the first point leaves: the first row tile in half 0, and the rows of the next in half 1. -/
theorem first_reads (h1 : condFirst i = 1#1) (h2 : ¬ k0_cond2 i = 1#1) :
    arg15.view.read (Elt F) (arg15.view.writes (Elt F) (harg15.unread x15) (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).1) = putRows i (putTile x15 (k0_pay6 x4 x2 x5 x6)) (chunkH x3 x4 x7 x8)
    ∧ arg16.view.read (Elt F) (arg16.view.writes (Elt F) (harg16.unread x16) (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.1) = putRows i (putTile x16 (k0_pay5 x2)) (k0_pay11 x3)
    ∧ arg17.view.read (Elt F) (arg17.view.writes (Elt F) (harg17.unread x17) (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.1)
      = accOf i x10 x11 x12 (half ((i 0).val % 2) (mod2_lt _) (putTile x15 (k0_pay6 x4 x2 x5 x6))) x17 := by
  have e15 : arg15.view.read (Elt F) (arg15.view.writes (Elt F) (harg15.unread x15) (runFirst.sl.H15_1 c arg2 harg2 arg4 harg4 arg5 harg5 arg6 harg6 x2 x4 x5 x6))
      = putTile x15 (k0_pay6 x4 x2 x5 x6) := by
    refine (View.read_writes_cons_put arg15.view _ _ _ _ rfl).trans ?_
    rw [View.writes_nil, harg15.read_unread]
    show putTile x15 (k0_pay6 (rd arg4 ![0, 0] inb_S1x2048_S1x2048_0_0 _) (rd arg2 ![0, 0] inb_S512x2048_S512x2048_0_0 _) (rd arg5 ![0, 0, 0] inb_S1x1x2048_S1x1x2048_0_0_0 _) (rd arg6 ![0, 0, 0] inb_S1x1x2048_S1x1x2048_0_0_0 _)) = _
    rw [rd_unread, rd_unread, rd_unread, rd_unread]
  refine ⟨?_, ?_, ?_⟩
  · refine (View.read_writes_cons_put arg15.view _ _ _ _ (off2_eq i)).trans ?_
    rw [e15]
    show putRows i _ (k0_pay1 (k0_pay12 (rd arg7 ![0, 0, 0] inb_S1x1x2048_S1x1x2048_0_0_0 _)) (k0_pay13 (k0_pay3 (rd arg4 ![0, 0] inb_S1x2048_S1x2048_0_0 _)) (rd arg3 ![0, 0] inb_S64x2048_S64x2048_0_0 _)) (k0_pay14 (rd arg8 ![0, 0, 0] inb_S1x1x2048_S1x1x2048_0_0_0 _))) = putRows i _ _
    rw [rd_unread, rd_unread, rd_unread, rd_unread]
    rfl
  · refine (View.read_writes_cons_put arg16.view _ _ _ _ (off2_eq i)).trans ?_
    refine (congrArg (fun z => putRows i z _) (View.read_writes_cons_put arg16.view _ _ _ _ rfl)).trans ?_
    rw [View.writes_nil, harg16.read_unread]
    show putRows i (putTile x16 (k0_pay5 (rd arg2 ![0, 0] inb_S512x2048_S512x2048_0_0 _))) (k0_pay11 (rd arg3 ![0, 0] inb_S64x2048_S64x2048_0_0 _)) = _
    rw [rd_unread, rd_unread]
  · refine (View.read_writes_full arg17.view _ _ _ _).trans ?_
    show k0_pay9 (k0_pay7 (rdHalf arg15 _ (k0_off1_inb i) _) (rd arg10 ![0, 0] inb_S2048x512_S2048x512_0_0 _) (rd arg11 ![0, 0] inb_S2048x512_S2048x512_0_0 _)) (k0_pay8 i (rd arg17 ![0, 0] inb_S512x2048_S512x2048_0_0 _)) (rd arg12 ![0, 0] inb_S512x2048_S512x2048_0_0 _) = _
    rw [rdHalf_eq arg15 _ i _ (off1_eq i), e15, rd_unread, rd_unread, rd_unread, rd_unread]
    rfl

/-- One grid point: from any contents of its buffers, what it leaves in each. -/
theorem step (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out14 i x9 x10 x11 x12 x13 x14 (start15 i x2 x4 x5 x6 x15) (start16 i x2 x16) x17) ∗ owns (c : Thread nD τ) arg15 fullShare (putRows i (start15 i x2 x4 x5 x6 x15) (chunkH x3 x4 x7 x8)) ∗ owns (c : Thread nD τ) arg16 fullShare (putRows i (start16 i x2 x16) (k0_pay11 x3)) ∗ owns (c : Thread nD τ) arg17 fullShare (accOf i x10 x11 x12 (half ((i 0).val % 2) (mod2_lt _) (start15 i x2 x4 x5 x6 x15)) x17)) -∗ K ⟨⟩))
      ⊢ wp frame (wpE (defs₀ (F := F)) 𝒱₀ c none) E (cc0_ffn_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases h1 : condFirst i = 1#1
  · have h2 : ¬ k0_cond2 i = 1#1 := fun h => by
      have := (condLast_iff i).mp h; have := ((condFirst_iff i).mp h1).2; omega
    have h := (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.2 E K
    obtain ⟨r15, r16, r17⟩ := first_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17 h1 h2
    have s15 : start15 i x2 x4 x5 x6 x15 = putTile x15 (k0_pay6 x4 x2 x5 x6) := if_pos ((condFirst_iff i).mp h1)
    have s16 : start16 i x2 x16 = putTile x16 (k0_pay5 x2) := if_pos ((condFirst_iff i).mp h1)
    have s14 : out14 i x9 x10 x11 x12 x13 x14 (start15 i x2 x4 x5 x6 x15) (start16 i x2 x16) x17 = x14 := if_neg (fun e => h2 ((condLast_iff i).mpr e))
    rw [s14, s15, s16]
    rw [← r15, ← r16, ← r17]
    exact h
  · have s15 : start15 i x2 x4 x5 x6 x15 = x15 := if_neg (fun e => h1 ((condFirst_iff i).mpr e))
    have s16 : start16 i x2 x16 = x16 := if_neg (fun e => h1 ((condFirst_iff i).mpr e))
    rw [s15, s16]
    by_cases h2 : k0_cond2 i = 1#1
    · have h := (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.2.2 E K
      obtain ⟨r15, r16, r17, r14⟩ := last_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17 h1 h2
      have s14 : out14 i x9 x10 x11 x12 x13 x14 x15 x16 x17
        = k0_pay2 (half ((i 0).val % 2) (mod2_lt _) x16) x9 (accOf i x10 x11 x12 (half ((i 0).val % 2) (mod2_lt _) x15) x17) x13 := if_pos ((condLast_iff i).mp h2)
      rw [s14]
      rw [← r14, ← r15, ← r16, ← r17]
      exact h
    · have h := (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17).2.2.2 E K
      obtain ⟨r15, r16, r17⟩ := mid_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17 h1 h2
      have s14 : out14 i x9 x10 x11 x12 x13 x14 x15 x16 x17 = x14 := if_neg (fun e => h2 ((condLast_iff i).mpr e))
      rw [s14]
      rw [← r15, ← r16, ← r17]
      exact h

end mid

end Cert.FfnClaims

end
-- ==== Proof.FfnInv.lean ====
/- What the feed-forward call's scratches hold before each grid point, as functions of the windows' blocks. -/
module

public import proofs.«01_k».proof.Proof.FfnStep
public import Idealize.ShloMosaic.Lib.Pointwise

@[expose] public section

set_option maxRecDepth 16384

noncomputable section

namespace Cert.FfnClaims

open Cert.Kernel2Ideal Cert.Kernel2Ideal.Gen
open Idealize.ShloMosaic Idealize.ShloMosaic.TcCoe Idealize.ShloMosaic.Tactic

variable {F : FTy → Type} [FloatOps F]

/-- The grid point at position `t`. -/
def co (t : ℕ) : grid0.Coords := grid0.coords (⟨t % 352, Nat.mod_lt _ (by decide)⟩ : Fin 352)

/-- The row tile of a step. -/
theorem co_row (t : ℕ) (ht : t < 352) : (co t 0).val = t / 11 := by
  have h : ∀ t : Fin 352, (grid0.coords (⟨t.val % 352, Nat.mod_lt _ (by decide)⟩ : Fin 352) 0).val = t.val / 11 := by decide +kernel
  exact h ⟨t, ht⟩

/-- The column tile of a step. -/
theorem co_col (t : ℕ) (ht : t < 352) : (co t 1).val = t % 11 := by
  have h : ∀ t : Fin 352, (grid0.coords (⟨t.val % 352, Nat.mod_lt _ (by decide)⟩ : Fin 352) 1).val = t.val % 11 := by decide +kernel
  exact h ⟨t, ht⟩

/-- The input windows' blocks at each position. -/
structure Blocks (F : FTy → Type) where
  x2 : ℕ → Vec F S512x2048 .f32
  x3 : ℕ → Vec F S64x2048 .f32
  x4 : ℕ → Vec F S1x2048 .f32
  x5 : ℕ → Vec F S1x1x2048 .f32
  x6 : ℕ → Vec F S1x1x2048 .f32
  x7 : ℕ → Vec F S1x1x2048 .f32
  x8 : ℕ → Vec F S1x1x2048 .f32
  x9 : ℕ → Vec F S1x1x2048 .f32
  x10 : ℕ → Vec F S2048x512 .bf16
  x11 : ℕ → Vec F S2048x512 .bf16
  x12 : ℕ → Vec F S512x2048 .bf16
  x13 : ℕ → Vec F S1x2048 .f32

variable (b : Blocks F)

/-- The column tile at which the rows of 64-row group `q` get their last value: the last group is written four times. -/
def lastAt (q : ℕ) : ℕ := if q = 7 then 10 else q

/-- The residual rows of row tile `i`. -/
def resid : ℕ → Vec F S1x512x2048 .f32
  | 0 => k0_pay5 (b.x2 0)
  | i + 1 => fun y => k0_pay11 (b.x3 (11 * i + lastAt ((y 1).val / 64))) (ix3 (0 : Fin 1) (⟨(y 1).val % 64, Nat.mod_lt _ (by decide)⟩ : Fin 64) (y 2))

/-- The normalised and modulated rows of row tile `i`. -/
def normed : ℕ → Vec F S1x512x2048 .bf16
  | 0 => k0_pay6 (b.x4 0) (b.x2 0) (b.x5 0) (b.x6 0)
  | i + 1 => fun y => chunkH (b.x3 (11 * i + lastAt ((y 1).val / 64))) (b.x4 (11 * i + lastAt ((y 1).val / 64)))
      (b.x7 (11 * i + lastAt ((y 1).val / 64))) (b.x8 (11 * i + lastAt ((y 1).val / 64))) (ix3 (0 : Fin 1) (⟨(y 1).val % 64, Nat.mod_lt _ (by decide)⟩ : Fin 64) (y 2))

/-- The residual rows that a step of the prefetch leaves for the next row tile. -/
theorem resid_succ (i : ℕ) (y : S1x512x2048.Idx) : resid b (i + 1) y
    = k0_pay11 (b.x3 (11 * i + lastAt ((y 1).val / 64))) (ix3 (0 : Fin 1) (⟨(y 1).val % 64, Nat.mod_lt _ (by decide)⟩ : Fin 64) (y 2)) := rfl

/-- The modulated rows that a step of the prefetch leaves for the next row tile. -/
theorem normed_succ (i : ℕ) (y : S1x512x2048.Idx) : normed b (i + 1) y
    = chunkH (b.x3 (11 * i + lastAt ((y 1).val / 64))) (b.x4 (11 * i + lastAt ((y 1).val / 64)))
      (b.x7 (11 * i + lastAt ((y 1).val / 64))) (b.x8 (11 * i + lastAt ((y 1).val / 64))) (ix3 (0 : Fin 1) (⟨(y 1).val % 64, Nat.mod_lt _ (by decide)⟩ : Fin 64) (y 2)) := rfl

/-- The accumulator of row tile `i` after `j` column tiles. -/
def accum (i : ℕ) : ℕ → Vec F S512x2048 .f32
  | 0 => broadcast S512x2048 (Scalar.ofBits .f32 0x00000000#32)
  | j + 1 => accOf (co (11 * i + j)) (b.x10 (11 * i + j)) (b.x11 (11 * i + j)) (b.x12 (11 * i + j)) (normed b i) (accum i j)

/-- What a finished row tile leaves in the output buffer. -/
def finished (t : ℕ) : Vec F S512x2048 .f32 :=
  k0_pay2 (resid b (t / 11)) (b.x9 t) (accum b (t / 11) 11) (b.x13 t)

/-- What the scratches hold before position `t`: the half in use is complete, the finished groups of the other half
    are those of the next row tile, and the accumulator has the row tile's earlier column tiles. -/
structure Inv (t : ℕ) (h : Vec F S2x512x2048 .bf16) (r : Vec F S2x512x2048 .f32) (a : Vec F S512x2048 .f32) : Prop where
  cur_h : 0 < t → half (t / 11 % 2) (mod2_lt _) h = normed b (t / 11)
  cur_r : 0 < t → half (t / 11 % 2) (mod2_lt _) r = resid b (t / 11)
  nxt_h : ∀ y : S1x512x2048.Idx, lastAt ((y 1).val / 64) < t % 11 → half (1 - t / 11 % 2) (by omega) h y = normed b (t / 11 + 1) y
  nxt_r : ∀ y : S1x512x2048.Idx, lastAt ((y 1).val / 64) < t % 11 → half (1 - t / 11 % 2) (by omega) r y = resid b (t / 11 + 1) y
  acc : 0 < t % 11 → a = accum b (t / 11) (t % 11)

/-- Before the first step nothing is asked of the scratches. -/
theorem inv_zero (h : Vec F S2x512x2048 .bf16) (r : Vec F S2x512x2048 .f32) (a : Vec F S512x2048 .f32) : Inv b 0 h r a :=
  ⟨fun h => absurd h (by decide), fun h => absurd h (by decide), fun _ h => absurd h (by simp), fun _ h => absurd h (by simp), fun h => absurd h (by decide)⟩

section rows
variable {α : Type} (i : grid0.Coords) (x : S2x512x2048.Idx → α) (w : S1x64x2048.Idx → α) (y : S1x512x2048.Idx)

/-- A row of the group just put reads the rows put. -/
theorem putRows_in (k : ℕ) (hk : k < 2) (hki : k = 1 - (i 0).val % 2) (hy : (y 1).val / 64 = min (i 1).val 7) :
    half k hk (putRows i x w) y = w (ix3 (0 : Fin 1) (⟨(y 1).val % 64, Nat.mod_lt _ (by decide)⟩ : Fin 64) (y 2)) := by
  subst hki
  unfold half VecWindow.window putRows VecWindow.put
  have h0 : (y 0).val = 0 := by have : (y 0).val < 1 := (y 0).isLt; omega
  have h2 : (y 2).val < 2048 := (y 2).isLt
  rw [dif_pos]
  · refine congrArg w (funext fun a => Fin.ext ?_)
    match a with
    | 0 => show (1 - (i 0).val % 2 + 1 * (y 0).val) - (1 - (i 0).val % 2) = 0; omega
    | 1 => show (0 + 1 * (y 1).val) - 64 * min (i 1).val 7 = (y 1).val % 64; omega
    | 2 => show (0 + 1 * (y 2).val) - 0 = (y 2).val; omega
  · intro a
    match a with
    | 0 => show 1 - (i 0).val % 2 ≤ 1 - (i 0).val % 2 + 1 * (y 0).val ∧ 1 - (i 0).val % 2 + 1 * (y 0).val < 1 - (i 0).val % 2 + 1; omega
    | 1 => show 64 * min (i 1).val 7 ≤ 0 + 1 * (y 1).val ∧ 0 + 1 * (y 1).val < 64 * min (i 1).val 7 + 64; omega
    | 2 => show 0 ≤ 0 + 1 * (y 2).val ∧ 0 + 1 * (y 2).val < 0 + 2048; omega

/-- A row of another group reads what was there. -/
theorem putRows_out (k : ℕ) (hk : k < 2) (hy : (y 1).val / 64 ≠ min (i 1).val 7) :
    half k hk (putRows i x w) y = half k hk x y := by
  unfold half VecWindow.window putRows VecWindow.put
  rw [dif_neg]
  intro h
  have h1 : 64 * min (i 1).val 7 ≤ 0 + 1 * (y 1).val ∧ 0 + 1 * (y 1).val < 64 * min (i 1).val 7 + 64 := h 1
  omega

end rows

/-- The half in use does not depend on what the first point found. -/
theorem half_start15 (t : ℕ) (ht : t < 352) {h : Vec F S2x512x2048 .bf16} {r : Vec F S2x512x2048 .f32} {a : Vec F S512x2048 .f32} (hi : Inv b t h r a) :
    half ((co t 0).val % 2) (mod2_lt _) (start15 (co t) (b.x2 t) (b.x4 t) (b.x5 t) (b.x6 t) h) = normed b (t / 11) := by
  have e0 := co_row t ht
  have e1 := co_col t ht
  by_cases h0 : t = 0
  · subst h0
    unfold start15
    rw [if_pos ⟨e0, e1⟩]
    have : half ((co 0 0).val % 2) (mod2_lt _) = half (α := Elt F .bf16) 0 (by decide) := by congr 1
    rw [this]
    exact VecWindow.window_put_same _ _ _ _ _
  · unfold start15
    rw [if_neg (by omega)]
    have := hi.cur_h (by omega)
    rw [← this]; congr 1; omega

/-- At a step past the first of all, the current half of the modulated scratch holds the whole row tile. -/
theorem half_start16 (t : ℕ) (ht : t < 352) {h : Vec F S2x512x2048 .bf16} {r : Vec F S2x512x2048 .f32} {a : Vec F S512x2048 .f32} (hi : Inv b t h r a) :
    half ((co t 0).val % 2) (mod2_lt _) (start16 (co t) (b.x2 t) r) = resid b (t / 11) := by
  have e0 := co_row t ht
  have e1 := co_col t ht
  by_cases h0 : t = 0
  · subst h0
    unfold start16
    rw [if_pos ⟨e0, e1⟩]
    have : half ((co 0 0).val % 2) (mod2_lt _) = half (α := Elt F .f32) 0 (by decide) := by congr 1
    rw [this]
    exact VecWindow.window_put_same _ _ _ _ _
  · unfold start16
    rw [if_neg (by omega)]
    have := hi.cur_r (by omega)
    rw [← this]; congr 1; omega

/-- The mask "past the first column tile" as a word. -/
theorem cond_gt : ∀ j : Fin 11, Scalar.cmpi .sgt (BitVec.ofNat 32 j.val) 0#32 = if j.val = 0 then 0#1 else 1#1 := by decide +kernel

/-- At a row tile's first column tile the accumulator's old contents are not read. -/
theorem pay8_of (i : grid0.Coords) (a : Vec F S512x2048 .f32) :
    k0_pay8 i a = if (i 1).val = 0 then broadcast S512x2048 (Scalar.ofBits .f32 0x00000000#32) else a := by
  unfold k0_pay8
  have := cond_gt (i 1)
  dsimp only
  rw [this]
  split <;> rfl

/-- The accumulator after a step does not depend on what it held where the step starts a row tile. -/
theorem accOf_of (i : grid0.Coords) (x10 x11 : Vec F S2048x512 .bf16) (x12 : Vec F S512x2048 .bf16) (h : Vec F S1x512x2048 .bf16) (a a' : Vec F S512x2048 .f32)
    (ha : 0 < (i 1).val → a = a') : accOf i x10 x11 x12 h a = accOf i x10 x11 x12 h a' := by
  unfold accOf
  rw [pay8_of, pay8_of]
  split
  · rfl
  · rw [ha (by omega)]

/-- The accumulator after the point. -/
theorem acc_next (t : ℕ) (ht : t < 352) {h : Vec F S2x512x2048 .bf16} {r : Vec F S2x512x2048 .f32} {a : Vec F S512x2048 .f32} (hi : Inv b t h r a) :
    accOf (co t) (b.x10 t) (b.x11 t) (b.x12 t) (half ((co t 0).val % 2) (mod2_lt _) (start15 (co t) (b.x2 t) (b.x4 t) (b.x5 t) (b.x6 t) h)) a
      = accum b (t / 11) (t % 11 + 1) := by
  rw [half_start15 b t ht hi]
  have et : 11 * (t / 11) + t % 11 = t := Nat.div_add_mod t 11
  show _ = accOf (co (11 * (t / 11) + t % 11)) (b.x10 (11 * (t / 11) + t % 11)) (b.x11 (11 * (t / 11) + t % 11)) (b.x12 (11 * (t / 11) + t % 11)) _ _
  rw [et]
  exact accOf_of _ _ _ _ _ _ _ fun hp => hi.acc (by rw [co_col t ht] at hp; exact hp)

section next
variable (t : ℕ) (ht : t < 352) {h : Vec F S2x512x2048 .bf16} {r : Vec F S2x512x2048 .f32} {a : Vec F S512x2048 .f32}

/-- The start leaves the other half alone. -/
theorem half_other15 (ht : t < 352) (k : ℕ) (hk : k < 2) (e : k = 1 - t / 11 % 2) (x2 : Vec F S512x2048 .f32) (x4 : Vec F S1x2048 .f32) (x5 x6 : Vec F S1x1x2048 .f32) :
    half k hk (start15 (co t) x2 x4 x5 x6 h) = half k hk h := by
  unfold start15
  split
  · rename_i hc
    rw [co_row t ht] at hc
    refine VecWindow.window_put_of_disjoint _ _ _ _ _ _ _ 0 (Or.inr ?_)
    show 0 + 1 ≤ k
    omega
  · rfl

/-- The rows of the other half after a step, in the modulated scratch. -/
theorem half_other16 (ht : t < 352) (k : ℕ) (hk : k < 2) (e : k = 1 - t / 11 % 2) (x2 : Vec F S512x2048 .f32) :
    half k hk (start16 (co t) x2 r) = half k hk r := by
  unfold start16
  split
  · rename_i hc
    rw [co_row t ht] at hc
    refine VecWindow.window_put_of_disjoint _ _ _ _ _ _ _ 0 (Or.inr ?_)
    show 0 + 1 ≤ k
    omega
  · rfl

/-- After the point, the groups whose last value has been written hold the next row tile's rows. -/
theorem other_h (ht : t < 352) (hi : Inv b t h r a) (k : ℕ) (hk : k < 2) (e : k = 1 - t / 11 % 2) (y : S1x512x2048.Idx) (hy : lastAt ((y 1).val / 64) < t % 11 + 1) :
    half k hk (putRows (co t) (start15 (co t) (b.x2 t) (b.x4 t) (b.x5 t) (b.x6 t) h) (chunkH (b.x3 t) (b.x4 t) (b.x7 t) (b.x8 t))) y = normed b (t / 11 + 1) y := by
  have e0 := co_row t ht
  have e1 := co_col t ht
  have h1 : (y 1).val < 512 := (y 1).isLt
  by_cases hq : (y 1).val / 64 = min (t % 11) 7
  · rw [putRows_in (co t) _ _ y k hk (by omega) (by omega)]
    have et : 11 * (t / 11) + lastAt ((y 1).val / 64) = t := by unfold lastAt at hy ⊢; split at hy <;> split <;> omega
    rw [normed_succ, et]
  · rw [putRows_out (co t) _ _ y k hk (by omega), half_other15 t ht k hk e]
    subst e
    exact hi.nxt_h y (by unfold lastAt at hy ⊢; split at hy <;> split <;> omega)

/-- The rows of the other half after a step, in the residual scratch. -/
theorem other_r (ht : t < 352) (hi : Inv b t h r a) (k : ℕ) (hk : k < 2) (e : k = 1 - t / 11 % 2) (y : S1x512x2048.Idx) (hy : lastAt ((y 1).val / 64) < t % 11 + 1) :
    half k hk (putRows (co t) (start16 (co t) (b.x2 t) r) (k0_pay11 (b.x3 t))) y = resid b (t / 11 + 1) y := by
  have e0 := co_row t ht
  have e1 := co_col t ht
  have h1 : (y 1).val < 512 := (y 1).isLt
  by_cases hq : (y 1).val / 64 = min (t % 11) 7
  · rw [putRows_in (co t) _ _ y k hk (by omega) (by omega)]
    have et : 11 * (t / 11) + lastAt ((y 1).val / 64) = t := by unfold lastAt at hy ⊢; split at hy <;> split <;> omega
    rw [resid_succ, et]
  · rw [putRows_out (co t) _ _ y k hk (by omega), half_other16 t ht k hk e]
    subst e
    exact hi.nxt_r y (by unfold lastAt at hy ⊢; split at hy <;> split <;> omega)

/-- The half in use is not touched by the rows put. -/
theorem cur_kept {α : Type} (ht : t < 352) (x : S2x512x2048.Idx → α) (w : S1x64x2048.Idx → α) (k : ℕ) (hk : k < 2) (e : k = t / 11 % 2) :
    half k hk (putRows (co t) x w) = half ((co t 0).val % 2) (mod2_lt _) x := by
  have e0 := co_row t ht
  rw [← half_putRows (co t) x w]
  congr 1
  omega

/-- One point keeps the invariant. -/
theorem inv_next (ht : t < 352) (hi : Inv b t h r a) :
    Inv b (t + 1) (putRows (co t) (start15 (co t) (b.x2 t) (b.x4 t) (b.x5 t) (b.x6 t) h) (chunkH (b.x3 t) (b.x4 t) (b.x7 t) (b.x8 t)))
      (putRows (co t) (start16 (co t) (b.x2 t) r) (k0_pay11 (b.x3 t)))
      (accOf (co t) (b.x10 t) (b.x11 t) (b.x12 t) (half ((co t 0).val % 2) (mod2_lt _) (start15 (co t) (b.x2 t) (b.x4 t) (b.x5 t) (b.x6 t) h)) a) := by
  have hl : ∀ y : S1x512x2048.Idx, lastAt ((y 1).val / 64) < 11 := fun y => by
    have h1 : (y 1).val < 512 := (y 1).isLt
    unfold lastAt; split <;> omega
  by_cases hj : t % 11 = 10
  · have ed : (t + 1) / 11 = t / 11 + 1 := by omega
    have em : (t + 1) % 11 = 0 := by omega
    refine ⟨fun _ => ?_, fun _ => ?_, fun y hy => ?_, fun y hy => ?_, fun hp => ?_⟩
    · funext y
      rw [show normed b ((t + 1) / 11) y = normed b (t / 11 + 1) y by rw [ed]]
      exact other_h b t ht hi _ _ (by omega) y (by have := hl y; omega)
    · funext y
      rw [show resid b ((t + 1) / 11) y = resid b (t / 11 + 1) y by rw [ed]]
      exact other_r b t ht hi _ _ (by omega) y (by have := hl y; omega)
    · omega
    · omega
    · omega
  · have ed : (t + 1) / 11 = t / 11 := by omega
    have em : (t + 1) % 11 = t % 11 + 1 := by omega
    refine ⟨fun _ => ?_, fun _ => ?_, fun y hy => ?_, fun y hy => ?_, fun hp => ?_⟩
    · rw [cur_kept t ht _ _ _ _ (by omega), half_start15 b t ht hi, ed]
    · rw [cur_kept t ht _ _ _ _ (by omega), half_start16 b t ht hi, ed]
    · rw [show normed b ((t + 1) / 11 + 1) y = normed b (t / 11 + 1) y by rw [ed]]
      exact other_h b t ht hi _ _ (by omega) y (by omega)
    · rw [show resid b ((t + 1) / 11 + 1) y = resid b (t / 11 + 1) y by rw [ed]]
      exact other_r b t ht hi _ _ (by omega) y (by omega)
    · rw [acc_next b t ht hi, ed, em]

/-- The output buffer after the point. -/
theorem out_next (ht : t < 352) (hi : Inv b t h r a) (x14 : Vec F S512x2048 .f32) :
    out14 (co t) (b.x9 t) (b.x10 t) (b.x11 t) (b.x12 t) (b.x13 t) x14 (start15 (co t) (b.x2 t) (b.x4 t) (b.x5 t) (b.x6 t) h) (start16 (co t) (b.x2 t) r) a
      = if t % 11 = 10 then finished b t else x14 := by
  unfold out14
  rw [co_col t ht]
  split
  · rename_i hj
    rw [acc_next b t ht hi, half_start16 b t ht hi, hj]
    rfl
  · rfl

end next

end Cert.FfnClaims

end
-- ==== Proof.FfnRun.lean ====
/- The feed-forward call's run: the body at every grid point keeps the scratches' invariant, and the whole call ends. -/
module

public import proofs.«01_k».proof.Proof.FfnInv
public import Idealize.ShloMosaic.Lib.Pipeline.Quiescent

@[expose] public section

set_option maxRecDepth 16384

noncomputable section

namespace Cert.FfnClaims

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point at position `t`, as a number below the grid's size. -/
def pt (t : ℕ) : Fin cfg0.N := (⟨t % 352, Nat.mod_lt _ (by decide)⟩ : Fin 352)

/-- A point of the grid is the point of its own number. -/
theorem pt_eq (t : Fin cfg0.N) : pt t.val = t := by
  have ht : t.val < 352 := t.isLt
  exact Fin.ext (Nat.mod_eq_of_lt ht)

/-- The blocks of the twelve input windows. -/
def blocks (c : Dev nD) : Blocks F where
  x2 t := iblk m c 0 (pt t)
  x3 t := iblk m c 1 (pt t)
  x4 t := iblk m c 2 (pt t)
  x5 t := iblk m c 3 (pt t)
  x6 t := iblk m c 4 (pt t)
  x7 t := iblk m c 5 (pt t)
  x8 t := iblk m c 6 (pt t)
  x9 t := iblk m c 7 (pt t)
  x10 t := iblk m c 8 (pt t)
  x11 t := iblk m c 9 (pt t)
  x12 t := iblk m c 10 (pt t)
  x13 t := iblk m c 11 (pt t)

/-- The scratches before position `t`: some contents that keep the invariant. -/
def held (c : Dev nD) (t : ℕ) : sProp 𝕄 :=
  iprop(∃ h : Vec F S2x512x2048 .bf16, ∃ r : Vec F S2x512x2048 .f32, ∃ a : Vec F S512x2048 .f32, ⌜Inv (blocks m c) t h r a⌝
    ∗ owns (c : Thread nD τ) (Memref.whole cc0_scratch0) fullShare h ∗ owns (c : Thread nD τ) (Memref.whole cc0_scratch1) fullShare r
    ∗ owns (c : Thread nD τ) (Memref.whole cc0_scratch2) fullShare a ∗ ∃ g, prngReg c g)

/-- The proof data: inputs stay, the output buffer is handed on finished, and the scratches keep their invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => finished (blocks m c) t.val
  Φ t := held m c t.val
  q w := Pipeline.shareOf spec0 w
  owed _ := 0

/-- The arrays that the windows stand on are the ones the host prepared. -/
theorem A_eq (c : Dev nD) (w : Fin cfg0.W) : (dats m 0 c).A w = V m c (Pipeline.arrRef spec0 w) := by dsimp only [dats]

/-- What window 0 holds after a step. -/
theorem after0_0 (c : Dev nD) (t : Fin cfg0.N) : (dats m 0 c).after 0 t = iblk m c 0 t := by dsimp only [dats]
/-- What window 1 holds after a step. -/
theorem after0_1 (c : Dev nD) (t : Fin cfg0.N) : (dats m 0 c).after 1 t = iblk m c 1 t := by dsimp only [dats]
/-- What window 2 holds after a step. -/
theorem after0_2 (c : Dev nD) (t : Fin cfg0.N) : (dats m 0 c).after 2 t = iblk m c 2 t := by dsimp only [dats]
/-- What window 3 holds after a step. -/
theorem after0_3 (c : Dev nD) (t : Fin cfg0.N) : (dats m 0 c).after 3 t = iblk m c 3 t := by dsimp only [dats]
/-- What window 4 holds after a step. -/
theorem after0_4 (c : Dev nD) (t : Fin cfg0.N) : (dats m 0 c).after 4 t = iblk m c 4 t := by dsimp only [dats]
/-- What window 5 holds after a step. -/
theorem after0_5 (c : Dev nD) (t : Fin cfg0.N) : (dats m 0 c).after 5 t = iblk m c 5 t := by dsimp only [dats]
/-- What window 6 holds after a step. -/
theorem after0_6 (c : Dev nD) (t : Fin cfg0.N) : (dats m 0 c).after 6 t = iblk m c 6 t := by dsimp only [dats]
/-- What window 7 holds after a step. -/
theorem after0_7 (c : Dev nD) (t : Fin cfg0.N) : (dats m 0 c).after 7 t = iblk m c 7 t := by dsimp only [dats]
/-- What window 8 holds after a step. -/
theorem after0_8 (c : Dev nD) (t : Fin cfg0.N) : (dats m 0 c).after 8 t = iblk m c 8 t := by dsimp only [dats]
/-- What window 9 holds after a step. -/
theorem after0_9 (c : Dev nD) (t : Fin cfg0.N) : (dats m 0 c).after 9 t = iblk m c 9 t := by dsimp only [dats]
/-- What window 10 holds after a step. -/
theorem after0_10 (c : Dev nD) (t : Fin cfg0.N) : (dats m 0 c).after 10 t = iblk m c 10 t := by dsimp only [dats]
/-- What window 11 holds after a step. -/
theorem after0_11 (c : Dev nD) (t : Fin cfg0.N) : (dats m 0 c).after 11 t = iblk m c 11 t := by dsimp only [dats]
/-- What window 12 holds after a step. -/
theorem after0_12 (c : Dev nD) (t : Fin cfg0.N) : (dats m 0 c).after 12 t = finished (blocks m c) t.val := by dsimp only [dats]

/-- The output window is left alone off the last column tile. -/
theorem idle_eq (t : Fin cfg0.N) : cfg0.idle 12 (cfg0.grid.coords t) = !decide (t.val % 11 = 10) := by
  have h : ∀ t : Fin 352, cfg0.idle 12 (cfg0.grid.coords t) = !decide (t.val % 11 = 10) := by decide +kernel
  exact h t

/-- A row tile of the result is written back after its last column tile. -/
theorem flush_eq (t : Fin cfg0.N) : (cfg0.win 12).flush t = decide (t.val % 11 = 10) := by
  have := flush0_12 t
  rcases h : (cfg0.win 12).flush t with _ | _ <;> simp_all

/-- What window 0 holds before a step. -/
theorem before0_0 (c : Dev nD) (t : Fin cfg0.N) (d) : (dats m 0 c).before 0 t d = iblk m c 0 t :=
  before0_0_of m (dats m 0 c) (A_eq m c 0) (after0_0 m c) t d
/-- What window 1 holds before a step. -/
theorem before0_1 (c : Dev nD) (t : Fin cfg0.N) (d) : (dats m 0 c).before 1 t d = iblk m c 1 t :=
  before0_1_of m (dats m 0 c) (A_eq m c 1) (after0_1 m c) t d
/-- What window 2 holds before a step. -/
theorem before0_2 (c : Dev nD) (t : Fin cfg0.N) (d) : (dats m 0 c).before 2 t d = iblk m c 2 t :=
  before0_2_of m (dats m 0 c) (A_eq m c 2) (after0_2 m c) t d
/-- What window 3 holds before a step. -/
theorem before0_3 (c : Dev nD) (t : Fin cfg0.N) (d) : (dats m 0 c).before 3 t d = iblk m c 3 t :=
  before0_3_of m (dats m 0 c) (A_eq m c 3) (after0_3 m c) t d
/-- What window 4 holds before a step. -/
theorem before0_4 (c : Dev nD) (t : Fin cfg0.N) (d) : (dats m 0 c).before 4 t d = iblk m c 4 t :=
  before0_4_of m (dats m 0 c) (A_eq m c 4) (after0_4 m c) t d
/-- What window 5 holds before a step. -/
theorem before0_5 (c : Dev nD) (t : Fin cfg0.N) (d) : (dats m 0 c).before 5 t d = iblk m c 5 t :=
  before0_5_of m (dats m 0 c) (A_eq m c 5) (after0_5 m c) t d
/-- What window 6 holds before a step. -/
theorem before0_6 (c : Dev nD) (t : Fin cfg0.N) (d) : (dats m 0 c).before 6 t d = iblk m c 6 t :=
  before0_6_of m (dats m 0 c) (A_eq m c 6) (after0_6 m c) t d
/-- What window 7 holds before a step. -/
theorem before0_7 (c : Dev nD) (t : Fin cfg0.N) (d) : (dats m 0 c).before 7 t d = iblk m c 7 t :=
  before0_7_of m (dats m 0 c) (A_eq m c 7) (after0_7 m c) t d
/-- What window 8 holds before a step. -/
theorem before0_8 (c : Dev nD) (t : Fin cfg0.N) (d) : (dats m 0 c).before 8 t d = iblk m c 8 t :=
  before0_8_of m (dats m 0 c) (A_eq m c 8) (after0_8 m c) t d
/-- What window 9 holds before a step. -/
theorem before0_9 (c : Dev nD) (t : Fin cfg0.N) (d) : (dats m 0 c).before 9 t d = iblk m c 9 t :=
  before0_9_of m (dats m 0 c) (A_eq m c 9) (after0_9 m c) t d
/-- What window 10 holds before a step. -/
theorem before0_10 (c : Dev nD) (t : Fin cfg0.N) (d) : (dats m 0 c).before 10 t d = iblk m c 10 t :=
  before0_10_of m (dats m 0 c) (A_eq m c 10) (after0_10 m c) t d
/-- What window 11 holds before a step. -/
theorem before0_11 (c : Dev nD) (t : Fin cfg0.N) (d) : (dats m 0 c).before 11 t d = iblk m c 11 t :=
  before0_11_of m (dats m 0 c) (A_eq m c 11) (after0_11 m c) t d

/-- The coordinates of a step are those of its grid point. -/
theorem co_eq (t : Fin cfg0.N) : co t.val = grid0.coords t := congrArg grid0.coords (pt_eq t)

/-- The body at a grid point, from the windows' buffers and the scratches' invariant. -/
def bodyPre (c : Dev nD) (t : Fin cfg0.N) : sProp 𝕄 :=
  iprop(held m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it leaves: the output buffer finished at the last column tile, else as it was. -/
def bodyPost (c : Dev nD) (t : Fin cfg0.N) : sProp 𝕄 :=
  iprop(held m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ ∃ d, owns (c : Thread nD τ) (st0_12 t) fullShare (if t.val % 11 = 10 then finished (blocks m c) t.val else (dats m 0 c).before 12 t d))

set_option maxHeartbeats 1200000 in
/-- A step of the grid takes the invariant and the windows before it to those after it. -/
theorem sound_body (c : Dev nD) (t : Fin cfg0.N) :
    bodyPre m c t ⊢ wp frame (wpE (defs₀ (F := F)) 𝒱₀ c none) Set.univ (bodyAt0 t) (fun _ => bodyPost m c t) := by
  have ht : t.val < 352 := t.isLt
  have b2 : (blocks m c).x2 t.val = iblk m c 0 t := by
    have e := pt_eq t; show iblk m c 0 (pt t.val) = iblk m c 0 t; generalize pt t.val = s at e ⊢; subst e; rfl
  have b3 : (blocks m c).x3 t.val = iblk m c 1 t := by
    have e := pt_eq t; show iblk m c 1 (pt t.val) = iblk m c 1 t; generalize pt t.val = s at e ⊢; subst e; rfl
  have b4 : (blocks m c).x4 t.val = iblk m c 2 t := by
    have e := pt_eq t; show iblk m c 2 (pt t.val) = iblk m c 2 t; generalize pt t.val = s at e ⊢; subst e; rfl
  have b5 : (blocks m c).x5 t.val = iblk m c 3 t := by
    have e := pt_eq t; show iblk m c 3 (pt t.val) = iblk m c 3 t; generalize pt t.val = s at e ⊢; subst e; rfl
  have b6 : (blocks m c).x6 t.val = iblk m c 4 t := by
    have e := pt_eq t; show iblk m c 4 (pt t.val) = iblk m c 4 t; generalize pt t.val = s at e ⊢; subst e; rfl
  have b7 : (blocks m c).x7 t.val = iblk m c 5 t := by
    have e := pt_eq t; show iblk m c 5 (pt t.val) = iblk m c 5 t; generalize pt t.val = s at e ⊢; subst e; rfl
  have b8 : (blocks m c).x8 t.val = iblk m c 6 t := by
    have e := pt_eq t; show iblk m c 6 (pt t.val) = iblk m c 6 t; generalize pt t.val = s at e ⊢; subst e; rfl
  have b9 : (blocks m c).x9 t.val = iblk m c 7 t := by
    have e := pt_eq t; show iblk m c 7 (pt t.val) = iblk m c 7 t; generalize pt t.val = s at e ⊢; subst e; rfl
  have b10 : (blocks m c).x10 t.val = iblk m c 8 t := by
    have e := pt_eq t; show iblk m c 8 (pt t.val) = iblk m c 8 t; generalize pt t.val = s at e ⊢; subst e; rfl
  have b11 : (blocks m c).x11 t.val = iblk m c 9 t := by
    have e := pt_eq t; show iblk m c 9 (pt t.val) = iblk m c 9 t; generalize pt t.val = s at e ⊢; subst e; rfl
  have b12 : (blocks m c).x12 t.val = iblk m c 10 t := by
    have e := pt_eq t; show iblk m c 10 (pt t.val) = iblk m c 10 t; generalize pt t.val = s at e ⊢; subst e; rfl
  have b13 : (blocks m c).x13 t.val = iblk m c 11 t := by
    have e := pt_eq t; show iblk m c 11 (pt t.val) = iblk m c 11 t; generalize pt t.val = s at e ⊢; subst e; rfl
  unfold bodyPre bodyPost bodyAt0 held
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  iintro ⟨⟨%h, %r, %a, %hi, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hn := inv_next (blocks m c) t.val ht hi
  have ho := out_next (blocks m c) t.val ht hi ((dats m 0 c).before 12 t d12)
  rw [co_eq, b2, b3, b4, b5, b6, b7, b8, b10, b11, b12] at hn
  rw [co_eq, b2, b4, b5, b6, b9, b10, b11, b12, b13] at ho
  iapply (step c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) h r a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  rw [ho]
  isplitl [HS0 HS1 HS2 Hg]
  · iexists _; iexists _; iexists _
    isplitr; · ipureintro; exact hn
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12; iexact H12

/-- The definitions of a step, as the run asks for them. -/
theorem defs₀_row (t : Fin cfg0.N) :
    defs₀ (F := F) .tc cfg0.body (cfg0.bodyArgs t (cfg0.slots t)) = bodyAt0 t := by
  unfold defs₀; rw [Defs.onTc_tc]

/-- The output window's part of what the body leaves. -/
theorem post12 (c : Dev nD) (t : Fin cfg0.N) :
    (iprop(∃ d, owns (c : Thread nD τ) (st0_12 t) fullShare (if t.val % 11 = 10 then finished (blocks m c) t.val else (dats m 0 c).before 12 t d)) : sProp 𝕄)
      ⊢ (match cfg0.idle 12 (cfg0.grid.coords t) with
          | true =>
            match (cfg0.win 12).flush t with
            | false => iprop(∃ d, owns (c : Thread nD τ) ((cfg0.win 12).stage (cfg0.slots t 12)) fullShare ((dats m 0 c).before 12 t d))
            | true =>
              match cfg0.loose 12 with
              | true => iprop(∃ d, owns (c : Thread nD τ) ((cfg0.win 12).stage (cfg0.slots t 12)) fullShare ((cfg0.win 12).fill (cfg0.grid.coords t) d ((cfg0.win 12).cut (cfg0.grid.coords t) ((dats m 0 c).after 12 t))))
              | false => owns (c : Thread nD τ) ((cfg0.win 12).stage (cfg0.slots t 12)) fullShare ((dats m 0 c).after 12 t)
          | false =>
            match cfg0.loose 12 with
            | true => iprop(∃ d, owns (c : Thread nD τ) ((cfg0.win 12).stage (cfg0.slots t 12)) fullShare ((cfg0.win 12).fill (cfg0.grid.coords t) d ((cfg0.win 12).cut (cfg0.grid.coords t) ((dats m 0 c).after 12 t))))
            | false => owns (c : Thread nD τ) ((cfg0.win 12).stage (cfg0.slots t 12)) fullShare ((dats m 0 c).after 12 t)) := by
  rw [idle_eq, flush_eq, show cfg0.loose 12 = false from rfl, after0_12]
  by_cases hj : t.val % 11 = 10
  · simp only [hj, decide_true, Bool.not_true, if_true]
    iintro ⟨%d, H⟩
    iexact H
  · simp only [hj, decide_false, Bool.not_false, if_false]
    exact .rfl

/-- What the scratches hold after a step. -/
theorem Phi_succ (c : Dev nD) (t : Fin cfg0.N) : (dats m 0 c).Φ t.succ = held m c (t.val + 1) := by
  dsimp only [dats]; rw [Fin.val_succ]

/-- The library's body obligation. -/
theorem body_obligation (c : Dev nD) : BodyObligationLoose (dats (F := F) m 0 c) (defs₀ (F := F)) 𝒱₀ () Set.univ := fun t => by
  rw [bigSep_W0, bigSep_W0, defs₀_row, Phi_succ]
  refine triple_restated (sound_body m c t) rfl .rfl fun _ => ?_
  unfold bodyPost
  iintro ⟨HP, Ho, H0, H1, H2, H3, H4, H5, H6, H7, H8, H9, H10, H11, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (post12 m c t)
  iexact H12

/-- What the pipeline hands over and takes back: the three scratches at some contents. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ ∃ d, owns (c : Thread nD τ) (Memref.whole cc0_scratch2) fullShare d) ∗ ∃ r, prngReg c r) := by
  unfold Pipeline.ΦA; rw [scopedRest0_eq]; simp only [owns_whole]

/-- The scratches at any contents keep the invariant before the first point. -/
theorem held_in (c : Dev nD) : Pipeline.ΦA spec0 c ⊢ (dats m 0 c).Φ 0 := by
  show _ ⊢ held m c 0
  rw [PhiA_eq]
  unfold held
  iintro ⟨⟨⟨%f0, H0⟩, ⟨%f1, H1⟩, ⟨%f2, H2⟩⟩, Hg⟩
  iexists f0; iexists f1; iexists f2
  isplitr; · ipureintro; exact inv_zero _ _ _ _
  isplitl [H0]; · iexact H0
  isplitl [H1]; · iexact H1
  isplitl [H2]; · iexact H2
  iexact Hg

/-- The last invariant gives back the scratches with some contents. -/
theorem held_out (c : Dev nD) : (dats m 0 c).Φ (Fin.last cfg0.N) ⊢ Pipeline.ΦA spec0 c := by
  dsimp only [dats]
  rw [PhiA_eq]
  unfold held
  iintro ⟨%h, %r, %a, -, H0, H1, H2, Hg⟩
  isplitl [H0 H1 H2]
  · isplitl [H0]; · iexists h; iexact H0
    isplitl [H1]; · iexists r; iexact H1
    iexists a; iexact H2
  iexact Hg

set_option backward.isDefEq.respectTransparency.types false in
/-- The call runs to its end: every array at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := body_obligation m) (hq := fun _ _ _ => rfl)
    (howed := fun _ _ => rfl) (V := V m) (hmain := hmain m 𝒱₀) (hA := A_eq m) (hin := held_in m) (hout := held_out m)

/-- The frame of the call, over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_with_sems (frame_of m ρ (dats m) (A_eq m)) (run_main m ρ)

end Cert.FfnClaims

end
-- ==== Proof.FfnPlaces.lean ====
module

public import proofs.«01_k».proof.Proof.FfnRun
public import Idealize.ShloMosaic.Lib.Pointwise

/-! # Which part of its array each window of the feed-forward call is at a grid point

Point `t` of the grid is row tile `t / 11` and column tile `t % 11`. -/

@[expose] public section

set_option maxRecDepth 16384

noncomputable section

namespace Cert.FfnClaims

open Cert.Kernel2Ideal Cert.Kernel2Ideal.Gen
open Idealize.ShloMosaic Idealize.ShloMosaic.TcCoe
open Idealize.ShloMosaic.Pipeline (Window Dat)

/-- The grid has 352 points. -/
theorem lt_points (t : Fin cfg0.N) : t.val < 352 := t.isLt

/-- The block of window 0 at a grid point. -/
theorem place0 : ∀ t : Fin grid0.N, win0_0.index t = ![0, 0] := by decide +kernel
/-- The block of window 1 at a grid point. -/
theorem place1 : ∀ t : Fin grid0.N, win0_1.index t = ![8 * (min (t.val / 11 + 1) 31) + min (t.val % 11) 7, 0] := by decide +kernel
/-- The block of window 2 at a grid point. -/
theorem place2 : ∀ t : Fin grid0.N, win0_2.index t = ![0, 0] := by decide +kernel
/-- The block of window 3 at a grid point. -/
theorem place3 : ∀ t : Fin grid0.N, win0_3.index t = ![t.val / 176, 0, 0] := by decide +kernel
/-- The block of window 4 at a grid point. -/
theorem place4 : ∀ t : Fin grid0.N, win0_4.index t = ![t.val / 176, 0, 0] := by decide +kernel
/-- The block of window 5 at a grid point. -/
theorem place5 : ∀ t : Fin grid0.N, win0_5.index t = ![(min (t.val / 11 + 1) 31) / 16, 0, 0] := by decide +kernel
/-- The block of window 6 at a grid point. -/
theorem place6 : ∀ t : Fin grid0.N, win0_6.index t = ![(min (t.val / 11 + 1) 31) / 16, 0, 0] := by decide +kernel
/-- The block of window 7 at a grid point. -/
theorem place7 : ∀ t : Fin grid0.N, win0_7.index t = ![t.val / 176, 0, 0] := by decide +kernel
/-- The block of window 8 at a grid point. -/
theorem place8 : ∀ t : Fin grid0.N, win0_8.index t = ![0, t.val % 11] := by decide +kernel
/-- The block of window 9 at a grid point. -/
theorem place9 : ∀ t : Fin grid0.N, win0_9.index t = ![0, t.val % 11] := by decide +kernel
/-- The block of window 10 at a grid point. -/
theorem place10 : ∀ t : Fin grid0.N, win0_10.index t = ![t.val % 11, 0] := by decide +kernel
/-- The block of window 11 at a grid point. -/
theorem place11 : ∀ t : Fin grid0.N, win0_11.index t = ![0, 0] := by decide +kernel
/-- The block of window 12 at a grid point. -/
theorem place12 : ∀ t : Fin grid0.N, win0_12.index t = ![t.val / 11, 0] := by decide +kernel

/-- The first row tile. -/
theorem put0 (t : Fin cfg0.N) (p : Fin 512) (q : Fin 2048) : ((cfg0.win 0).blk t).view.emb (ix2 p q)
    = ix2 ⟨p, by omega⟩ q := by
  have hi := place0 t
  funext a
  apply Fin.ext
  refine (Window.rect_emb_val win0_0 t (ix2 p q) a).trans ?_
  fin_cases a
  · show win0_0.index t 0 * 512 + p.val = _; rw [hi]; show 0 * 512 + _ = _; simp
  · show win0_0.index t 1 * 2048 + q.val = _; rw [hi]; show 0 * 2048 + _ = _; simp

/-- An entry of the block that window 0 holds, in its array. -/
theorem take0 (t : Fin cfg0.N) (p : Fin 512) (q : Fin 2048) (A : S16384x2048.Idx → EReal) :
    ((cfg0.win 0).blk t).view.read (Elt Ideal) A (ix2 p q) = A (ix2 ⟨p, by omega⟩ q) := by
  rw [View.read_apply, put0]
  rfl

/-- The 64 rows being prepared. -/
theorem put1 (t : Fin cfg0.N) (p : Fin 64) (q : Fin 2048) : ((cfg0.win 1).blk t).view.emb (ix2 p q)
    = ix2 ⟨64 * (8 * (min (t.val / 11 + 1) 31) + min (t.val % 11) 7) + p, by have := lt_points t; omega⟩ q := by
  have hi := place1 t
  funext a
  apply Fin.ext
  refine (Window.rect_emb_val win0_1 t (ix2 p q) a).trans ?_
  fin_cases a
  · show win0_1.index t 0 * 64 + p.val = _; rw [hi]; exact congrArg (· + p.val) (Nat.mul_comm _ _)
  · show win0_1.index t 1 * 2048 + q.val = _; rw [hi]; show 0 * 2048 + _ = _; simp

/-- An entry of the block that window 1 holds, in its array. -/
theorem take1 (t : Fin cfg0.N) (p : Fin 64) (q : Fin 2048) (A : S16384x2048.Idx → EReal) :
    ((cfg0.win 1).blk t).view.read (Elt Ideal) A (ix2 p q) = A (ix2 ⟨64 * (8 * (min (t.val / 11 + 1) 31) + min (t.val % 11) 7) + p, by have := lt_points t; omega⟩ q) := by
  rw [View.read_apply, put1]
  rfl

/-- The norm's weights. -/
theorem put2 (t : Fin cfg0.N) (p : Fin 2048) : ((cfg0.win 2).blk t).view.emb (ix2 0 p)
    = ix2 0 p := by
  have hi := place2 t
  funext a
  apply Fin.ext
  refine (Window.rect_emb_val win0_2 t (ix2 0 p) a).trans ?_
  fin_cases a
  · show win0_2.index t 0 * 1 + 0 = _; rw [hi]; show 0 * 1 + _ = _; simp
  · show win0_2.index t 1 * 2048 + p.val = _; rw [hi]; show 0 * 2048 + _ = _; simp

/-- An entry of the block that window 2 holds, in its array. -/
theorem take2 (t : Fin cfg0.N) (p : Fin 2048) (A : S1x2048.Idx → EReal) :
    ((cfg0.win 2).blk t).view.read (Elt Ideal) A (ix2 0 p) = A (ix2 0 p) := by
  rw [View.read_apply, put2]
  rfl

/-- The shift of the tile's batch. -/
theorem put3 (t : Fin cfg0.N) (p : Fin 2048) : ((cfg0.win 3).blk t).view.emb (ix3 0 0 p)
    = ix3 ⟨t.val / 176, by have := lt_points t; omega⟩ 0 p := by
  have hi := place3 t
  funext a
  apply Fin.ext
  refine (Window.rect_emb_val win0_3 t (ix3 0 0 p) a).trans ?_
  fin_cases a
  · show win0_3.index t 0 * 1 + 0 = _; rw [hi]; show _ * 1 + 0 = _; simp
  · show win0_3.index t 1 * 1 + 0 = _; rw [hi]; show 0 * 1 + _ = _; simp
  · show win0_3.index t 2 * 2048 + p.val = _; rw [hi]; show 0 * 2048 + _ = _; simp

/-- An entry of the block that window 3 holds, in its array. -/
theorem take3 (t : Fin cfg0.N) (p : Fin 2048) (A : S2x1x2048.Idx → EReal) :
    ((cfg0.win 3).blk t).view.read (Elt Ideal) A (ix3 0 0 p) = A (ix3 ⟨t.val / 176, by have := lt_points t; omega⟩ 0 p) := by
  rw [View.read_apply, put3]
  rfl

/-- The scale of the tile's batch. -/
theorem put4 (t : Fin cfg0.N) (p : Fin 2048) : ((cfg0.win 4).blk t).view.emb (ix3 0 0 p)
    = ix3 ⟨t.val / 176, by have := lt_points t; omega⟩ 0 p := by
  have hi := place4 t
  funext a
  apply Fin.ext
  refine (Window.rect_emb_val win0_4 t (ix3 0 0 p) a).trans ?_
  fin_cases a
  · show win0_4.index t 0 * 1 + 0 = _; rw [hi]; show _ * 1 + 0 = _; simp
  · show win0_4.index t 1 * 1 + 0 = _; rw [hi]; show 0 * 1 + _ = _; simp
  · show win0_4.index t 2 * 2048 + p.val = _; rw [hi]; show 0 * 2048 + _ = _; simp

/-- An entry of the block that window 4 holds, in its array. -/
theorem take4 (t : Fin cfg0.N) (p : Fin 2048) (A : S2x1x2048.Idx → EReal) :
    ((cfg0.win 4).blk t).view.read (Elt Ideal) A (ix3 0 0 p) = A (ix3 ⟨t.val / 176, by have := lt_points t; omega⟩ 0 p) := by
  rw [View.read_apply, put4]
  rfl

/-- The shift of the next tile's batch. -/
theorem put5 (t : Fin cfg0.N) (p : Fin 2048) : ((cfg0.win 5).blk t).view.emb (ix3 0 0 p)
    = ix3 ⟨(min (t.val / 11 + 1) 31) / 16, by have := lt_points t; omega⟩ 0 p := by
  have hi := place5 t
  funext a
  apply Fin.ext
  refine (Window.rect_emb_val win0_5 t (ix3 0 0 p) a).trans ?_
  fin_cases a
  · show win0_5.index t 0 * 1 + 0 = _; rw [hi]; show _ * 1 + 0 = _; simp
  · show win0_5.index t 1 * 1 + 0 = _; rw [hi]; show 0 * 1 + _ = _; simp
  · show win0_5.index t 2 * 2048 + p.val = _; rw [hi]; show 0 * 2048 + _ = _; simp

/-- An entry of the block that window 5 holds, in its array. -/
theorem take5 (t : Fin cfg0.N) (p : Fin 2048) (A : S2x1x2048.Idx → EReal) :
    ((cfg0.win 5).blk t).view.read (Elt Ideal) A (ix3 0 0 p) = A (ix3 ⟨(min (t.val / 11 + 1) 31) / 16, by have := lt_points t; omega⟩ 0 p) := by
  rw [View.read_apply, put5]
  rfl

/-- The scale of the next tile's batch. -/
theorem put6 (t : Fin cfg0.N) (p : Fin 2048) : ((cfg0.win 6).blk t).view.emb (ix3 0 0 p)
    = ix3 ⟨(min (t.val / 11 + 1) 31) / 16, by have := lt_points t; omega⟩ 0 p := by
  have hi := place6 t
  funext a
  apply Fin.ext
  refine (Window.rect_emb_val win0_6 t (ix3 0 0 p) a).trans ?_
  fin_cases a
  · show win0_6.index t 0 * 1 + 0 = _; rw [hi]; show _ * 1 + 0 = _; simp
  · show win0_6.index t 1 * 1 + 0 = _; rw [hi]; show 0 * 1 + _ = _; simp
  · show win0_6.index t 2 * 2048 + p.val = _; rw [hi]; show 0 * 2048 + _ = _; simp

/-- An entry of the block that window 6 holds, in its array. -/
theorem take6 (t : Fin cfg0.N) (p : Fin 2048) (A : S2x1x2048.Idx → EReal) :
    ((cfg0.win 6).blk t).view.read (Elt Ideal) A (ix3 0 0 p) = A (ix3 ⟨(min (t.val / 11 + 1) 31) / 16, by have := lt_points t; omega⟩ 0 p) := by
  rw [View.read_apply, put6]
  rfl

/-- The gate of the tile's batch. -/
theorem put7 (t : Fin cfg0.N) (p : Fin 2048) : ((cfg0.win 7).blk t).view.emb (ix3 0 0 p)
    = ix3 ⟨t.val / 176, by have := lt_points t; omega⟩ 0 p := by
  have hi := place7 t
  funext a
  apply Fin.ext
  refine (Window.rect_emb_val win0_7 t (ix3 0 0 p) a).trans ?_
  fin_cases a
  · show win0_7.index t 0 * 1 + 0 = _; rw [hi]; show _ * 1 + 0 = _; simp
  · show win0_7.index t 1 * 1 + 0 = _; rw [hi]; show 0 * 1 + _ = _; simp
  · show win0_7.index t 2 * 2048 + p.val = _; rw [hi]; show 0 * 2048 + _ = _; simp

/-- An entry of the block that window 7 holds, in its array. -/
theorem take7 (t : Fin cfg0.N) (p : Fin 2048) (A : S2x1x2048.Idx → EReal) :
    ((cfg0.win 7).blk t).view.read (Elt Ideal) A (ix3 0 0 p) = A (ix3 ⟨t.val / 176, by have := lt_points t; omega⟩ 0 p) := by
  rw [View.read_apply, put7]
  rfl

/-- A column tile of the first weight. -/
theorem put8 (t : Fin cfg0.N) (p : Fin 2048) (q : Fin 512) : ((cfg0.win 8).blk t).view.emb (ix2 p q)
    = ix2 p ⟨512 * (t.val % 11) + q, by have := lt_points t; omega⟩ := by
  have hi := place8 t
  funext a
  apply Fin.ext
  refine (Window.rect_emb_val win0_8 t (ix2 p q) a).trans ?_
  fin_cases a
  · show win0_8.index t 0 * 2048 + p.val = _; rw [hi]; show 0 * 2048 + _ = _; simp
  · show win0_8.index t 1 * 512 + q.val = _; rw [hi]; exact congrArg (· + q.val) (Nat.mul_comm _ _)

/-- An entry of the block that window 8 holds, in its array. -/
theorem take8 (t : Fin cfg0.N) (p : Fin 2048) (q : Fin 512) (A : S2048x5632.Idx → EReal) :
    ((cfg0.win 8).blk t).view.read (Elt Ideal) A (ix2 p q) = A (ix2 p ⟨512 * (t.val % 11) + q, by have := lt_points t; omega⟩) := by
  rw [View.read_apply, put8]
  rfl

/-- A column tile of the third weight. -/
theorem put9 (t : Fin cfg0.N) (p : Fin 2048) (q : Fin 512) : ((cfg0.win 9).blk t).view.emb (ix2 p q)
    = ix2 p ⟨512 * (t.val % 11) + q, by have := lt_points t; omega⟩ := by
  have hi := place9 t
  funext a
  apply Fin.ext
  refine (Window.rect_emb_val win0_9 t (ix2 p q) a).trans ?_
  fin_cases a
  · show win0_9.index t 0 * 2048 + p.val = _; rw [hi]; show 0 * 2048 + _ = _; simp
  · show win0_9.index t 1 * 512 + q.val = _; rw [hi]; exact congrArg (· + q.val) (Nat.mul_comm _ _)

/-- An entry of the block that window 9 holds, in its array. -/
theorem take9 (t : Fin cfg0.N) (p : Fin 2048) (q : Fin 512) (A : S2048x5632.Idx → EReal) :
    ((cfg0.win 9).blk t).view.read (Elt Ideal) A (ix2 p q) = A (ix2 p ⟨512 * (t.val % 11) + q, by have := lt_points t; omega⟩) := by
  rw [View.read_apply, put9]
  rfl

/-- A row tile of the second weight. -/
theorem put10 (t : Fin cfg0.N) (p : Fin 512) (q : Fin 2048) : ((cfg0.win 10).blk t).view.emb (ix2 p q)
    = ix2 ⟨512 * (t.val % 11) + p, by have := lt_points t; omega⟩ q := by
  have hi := place10 t
  funext a
  apply Fin.ext
  refine (Window.rect_emb_val win0_10 t (ix2 p q) a).trans ?_
  fin_cases a
  · show win0_10.index t 0 * 512 + p.val = _; rw [hi]; exact congrArg (· + p.val) (Nat.mul_comm _ _)
  · show win0_10.index t 1 * 2048 + q.val = _; rw [hi]; show 0 * 2048 + _ = _; simp

/-- An entry of the block that window 10 holds, in its array. -/
theorem take10 (t : Fin cfg0.N) (p : Fin 512) (q : Fin 2048) (A : S5632x2048.Idx → EReal) :
    ((cfg0.win 10).blk t).view.read (Elt Ideal) A (ix2 p q) = A (ix2 ⟨512 * (t.val % 11) + p, by have := lt_points t; omega⟩ q) := by
  rw [View.read_apply, put10]
  rfl

/-- The last norm's weights. -/
theorem put11 (t : Fin cfg0.N) (p : Fin 2048) : ((cfg0.win 11).blk t).view.emb (ix2 0 p)
    = ix2 0 p := by
  have hi := place11 t
  funext a
  apply Fin.ext
  refine (Window.rect_emb_val win0_11 t (ix2 0 p) a).trans ?_
  fin_cases a
  · show win0_11.index t 0 * 1 + 0 = _; rw [hi]; show 0 * 1 + _ = _; simp
  · show win0_11.index t 1 * 2048 + p.val = _; rw [hi]; show 0 * 2048 + _ = _; simp

/-- An entry of the block that window 11 holds, in its array. -/
theorem take11 (t : Fin cfg0.N) (p : Fin 2048) (A : S1x2048.Idx → EReal) :
    ((cfg0.win 11).blk t).view.read (Elt Ideal) A (ix2 0 p) = A (ix2 0 p) := by
  rw [View.read_apply, put11]
  rfl

/-- A row tile of the result. -/
theorem put12 (t : Fin cfg0.N) (p : Fin 512) (q : Fin 2048) : ((cfg0.win 12).blk t).view.emb (ix2 p q)
    = ix2 ⟨512 * (t.val / 11) + p, by have := lt_points t; omega⟩ q := by
  have hi := place12 t
  funext a
  apply Fin.ext
  refine (Window.rect_emb_val win0_12 t (ix2 p q) a).trans ?_
  fin_cases a
  · show win0_12.index t 0 * 512 + p.val = _; rw [hi]; exact congrArg (· + p.val) (Nat.mul_comm _ _)
  · show win0_12.index t 1 * 2048 + q.val = _; rw [hi]; show 0 * 2048 + _ = _; simp

end Cert.FfnClaims

end
-- ==== Proof.FfnRow.lean ====
module

public import proofs.«01_k».proof.Proof.FfnInv
public import Idealize.ShloMosaic.Lib.Pointwise

/-! # What the feed-forward call's block computations are, entry by entry, over the reals -/

@[expose] public section

set_option maxRecDepth 16384

noncomputable section

namespace Cert.FfnClaims

open Cert.Kernel2Ideal Cert.Kernel2Ideal.Gen
open Idealize.ShloMosaic Idealize.ShloMosaic.TcCoe

/-- A row divided by its root mean square, times the weights. -/
def nrm (x g : Fin 2048 → EReal) (d : Fin 2048) : EReal :=
  x d * Ideal.rsqrt (Ideal.div (∑ e, x e * x e) (Ideal.ofBits .f32 0x45000000#32) + Ideal.ofBits .f32 0x358637BD#32) * g d

/-- A normalised row, scaled and shifted. -/
def modl (x g sh sc : Fin 2048 → EReal) (d : Fin 2048) : EReal :=
  nrm x g d * (Ideal.ofBits .f32 0x3F800000#32 + sc d) + sh d

/-- The gated activation of hidden unit `k`, from its two columns. -/
def gated (h a b : Fin 2048 → EReal) : EReal :=
  (∑ e, h e * a e) * Ideal.logistic (∑ e, h e * a e) * ∑ e, h e * b e

/-- A sum of squares along the last axis. -/
theorem sum_last {a n : ℕ} (v : FVec Ideal ⟨2, ![a, n]⟩ .f32) (h1) (h2) (h3) (p : Fin a) :
    multiReduction .add [1] ⟨1, ![a]⟩ v 0x00000000#32 h1 h2 h3 (ix1 p) = ∑ e : Fin n, v (ix2 p e) := by
  pointwise

/-- The modulated rows of the first row tile, entrywise. -/
theorem pay6_at (g : Vec Ideal S1x2048 .f32) (x : Vec Ideal S512x2048 .f32) (sh sc : Vec Ideal S1x1x2048 .f32) (p : Fin 512) (d : Fin 2048) :
    k0_pay6 g x sh sc (ix3 0 p d)
      = modl (fun e => x (ix2 p e)) (fun e => g (ix2 0 e)) (fun e => sh (ix3 0 0 e)) (fun e => sc (ix3 0 0 e)) d := by
  pointwise [k0_pay6, k0_pay4, k0_pay3, modl, nrm]

/-- The modulated rows of a prefetched chunk, entrywise. -/
theorem chunk_at (g : Vec Ideal S1x2048 .f32) (x : Vec Ideal S64x2048 .f32) (sh sc : Vec Ideal S1x1x2048 .f32) (p : Fin 64) (d : Fin 2048) :
    chunkH x g sh sc (ix3 0 p d)
      = modl (fun e => x (ix2 p e)) (fun e => g (ix2 0 e)) (fun e => sh (ix3 0 0 e)) (fun e => sc (ix3 0 0 e)) d := by
  pointwise [chunkH, k0_pay1, k0_pay3, k0_pay10, k0_pay12, k0_pay13, k0_pay14, modl, nrm]

/-- The residual rows of the first row tile, entrywise. -/
theorem pay5_at (x : Vec Ideal S512x2048 .f32) (p : Fin 512) (d : Fin 2048) : k0_pay5 x (ix3 0 p d) = x (ix2 p d) := by
  pointwise [k0_pay5, k0_pay4]

/-- The residual rows of a prefetched chunk, entrywise. -/
theorem pay11_at (x : Vec Ideal S64x2048 .f32) (p : Fin 64) (d : Fin 2048) : k0_pay11 x (ix3 0 p d) = x (ix2 p d) := by
  pointwise [k0_pay11, k0_pay10]

/-- The gated products of a column tile, entrywise. -/
theorem pay7_at (h : Vec Ideal S1x512x2048 .bf16) (w1 w3 : Vec Ideal S2048x512 .bf16) (p k : Fin 512) :
    k0_pay7 h w1 w3 (ix2 p k) = gated (fun e => h (ix3 0 p e)) (fun e => w1 (ix2 e k)) (fun e => w3 (ix2 e k)) := by
  pointwise [k0_pay7, gated]

/-- The accumulator after a column tile, entrywise. -/
theorem pay9_at (u : FVec Ideal S512x512 .bf16) (a : Vec Ideal S512x2048 .f32) (w2 : Vec Ideal S512x2048 .bf16) (p : Fin 512) (d : Fin 2048) :
    k0_pay9 u a w2 (ix2 p d) = a (ix2 p d) + ∑ k : Fin 512, u (ix2 p k) * w2 (ix2 k d) := by
  pointwise [k0_pay9]

/-- The finished rows, entrywise. -/
theorem pay2_at (x : Vec Ideal S1x512x2048 .f32) (gt : Vec Ideal S1x1x2048 .f32) (a : Vec Ideal S512x2048 .f32) (g : Vec Ideal S1x2048 .f32)
    (p : Fin 512) (d : Fin 2048) : k0_pay2 x gt a g (ix2 p d)
      = nrm (fun e => x (ix3 0 p e) + Ideal.ofBits .f32 0x3F000000#32 * gt (ix3 0 0 e) * a (ix2 p e)) (fun e => g (ix2 0 e)) d := by
  pointwise [k0_pay2, nrm]

end Cert.FfnClaims

end
-- ==== Proof.FfnArrays.lean ====
module

public import proofs.«01_k».proof.Proof.FfnPlaces
public import proofs.«01_k».proof.Proof.FfnRow

/-! # What the feed-forward call's result array holds after the run -/

@[expose] public section

set_option maxRecDepth 16384

noncomputable section

namespace Cert.FfnClaims

open Cert.Kernel2Ideal Cert.Kernel2Ideal.Gen
open Idealize.ShloMosaic Idealize.ShloMosaic.TcCoe
open Idealize.ShloMosaic.Pipeline (Window Dat)

/-! ## The layer as a function of the arrays -/

/-- A row of the input, normalised and modulated. -/
def rowH (X : S16384x2048.Idx → EReal) (g : S1x2048.Idx → EReal) (sh sc : S2x1x2048.Idx → EReal) (R : Fin 16384) : Fin 2048 → EReal :=
  modl (fun e => X (ix2 R e)) (fun e => g (ix2 0 e)) (fun e => sh (ix3 ⟨R.val / 8192, by omega⟩ 0 e)) (fun e => sc (ix3 ⟨R.val / 8192, by omega⟩ 0 e))

/-- Hidden unit `k`'s part of the second product of a row, at column `d`. -/
def term (h : Fin 2048 → EReal) (w1 w3 : S2048x5632.Idx → EReal) (w2 : S5632x2048.Idx → EReal) (d : Fin 2048) (k : Fin 5632) : EReal :=
  gated h (fun e => w1 (ix2 e k)) (fun e => w3 (ix2 e k)) * w2 (ix2 k d)

/-- The same on all the natural numbers, zero past the hidden units. -/
def termN (h : Fin 2048 → EReal) (w1 w3 : S2048x5632.Idx → EReal) (w2 : S5632x2048.Idx → EReal) (d : Fin 2048) (k : ℕ) : EReal :=
  if hk : k < 5632 then term h w1 w3 w2 d ⟨k, hk⟩ else 0

/-- An entry of the result. -/
def layer (X : S16384x2048.Idx → EReal) (g : S1x2048.Idx → EReal) (sh sc gt : S2x1x2048.Idx → EReal)
    (w1 w3 : S2048x5632.Idx → EReal) (w2 : S5632x2048.Idx → EReal) (fn : S1x2048.Idx → EReal) (R : Fin 16384) (d : Fin 2048) : EReal :=
  nrm (fun e => X (ix2 R e) + Ideal.ofBits .f32 0x3F000000#32 * gt (ix3 ⟨R.val / 8192, by omega⟩ 0 e)
      * ∑ k, term (rowH X g sh sc R) w1 w3 w2 e k) (fun e => fn (ix2 0 e)) d

/-! ## The blocks off the arrays -/

variable (m : (ℓ : Loc nD τ sig) → Buf (Elt Ideal) ℓ) (c : Dev nD)

/-- The position a number below the grid's size stands for. -/
theorem pt_val {t : ℕ} (ht : t < 352) : (pt t).val = t := Nat.mod_eq_of_lt ht

/-- A row read through an equal row number. -/
theorem row_congr {n k : ℕ} (A : (⟨2, ![n, k]⟩ : Shape).Idx → EReal) {a b : Fin n} (e : Fin k) (h : a.val = b.val) : A (ix2 a e) = A (ix2 b e) := by
  rw [Fin.ext h]

/-- A column read through an equal column number. -/
theorem col_congr {n k : ℕ} (A : (⟨2, ![n, k]⟩ : Shape).Idx → EReal) (e : Fin n) {a b : Fin k} (h : a.val = b.val) : A (ix2 e a) = A (ix2 e b) := by
  rw [Fin.ext h]

/-- A batch's vector read through an equal batch number. -/
theorem batch_congr {n k : ℕ} (A : (⟨3, ![n, 1, k]⟩ : Shape).Idx → EReal) {a b : Fin n} (e : Fin k) (h : a.val = b.val) :
    A (ix3 a 0 e) = A (ix3 b 0 e) := by
  rw [Fin.ext h]

/-- The first row tile's rows. -/
theorem x2_at (R : Fin 16384) (p : Fin 512) (hR : R.val = p.val) (e : Fin 2048) :
    (blocks m c).x2 0 (ix2 p e) = V m c main_v0 (ix2 R e) :=
  (take0 (pt 0) p e (V m c main_v0)).trans (row_congr (V m c main_v0) e hR.symm)

/-- The 64 rows being prepared. -/
theorem x3_at {t : ℕ} (ht : t < 352) (R : Fin 16384) (p : Fin 64)
    (hR : R.val = 64 * (8 * (min (t / 11 + 1) 31) + min (t % 11) 7) + p.val) (e : Fin 2048) :
    (blocks m c).x3 t (ix2 p e) = V m c main_v0 (ix2 R e) :=
  (take1 (pt t) p e (V m c main_v0)).trans (row_congr (V m c main_v0) e (by dsimp only; rw [pt_val ht]; exact hR.symm))

/-- The norm's weights. -/
theorem x4_at (t : ℕ) (e : Fin 2048) : (blocks m c).x4 t (ix2 0 e) = V m c main_v4 (ix2 0 e) :=
  take2 (pt t) e (V m c main_v4)

/-- The shift of the tile's batch. -/
theorem x5_at {t : ℕ} (ht : t < 352) (b : Fin 2) (hb : b.val = t / 176) (e : Fin 2048) :
    (blocks m c).x5 t (ix3 0 0 e) = V m c main_arg2 (ix3 b 0 e) :=
  (take3 (pt t) e (V m c main_arg2)).trans (batch_congr (V m c main_arg2) e (by dsimp only; rw [pt_val ht]; exact hb.symm))

/-- The scale of the tile's batch. -/
theorem x6_at {t : ℕ} (ht : t < 352) (b : Fin 2) (hb : b.val = t / 176) (e : Fin 2048) :
    (blocks m c).x6 t (ix3 0 0 e) = V m c main_arg3 (ix3 b 0 e) :=
  (take4 (pt t) e (V m c main_arg3)).trans (batch_congr (V m c main_arg3) e (by dsimp only; rw [pt_val ht]; exact hb.symm))

/-- The shift of the next tile's batch. -/
theorem x7_at {t : ℕ} (ht : t < 352) (b : Fin 2) (hb : b.val = min (t / 11 + 1) 31 / 16) (e : Fin 2048) :
    (blocks m c).x7 t (ix3 0 0 e) = V m c main_arg2 (ix3 b 0 e) :=
  (take5 (pt t) e (V m c main_arg2)).trans (batch_congr (V m c main_arg2) e (by dsimp only; rw [pt_val ht]; exact hb.symm))

/-- The scale of the next tile's batch. -/
theorem x8_at {t : ℕ} (ht : t < 352) (b : Fin 2) (hb : b.val = min (t / 11 + 1) 31 / 16) (e : Fin 2048) :
    (blocks m c).x8 t (ix3 0 0 e) = V m c main_arg3 (ix3 b 0 e) :=
  (take6 (pt t) e (V m c main_arg3)).trans (batch_congr (V m c main_arg3) e (by dsimp only; rw [pt_val ht]; exact hb.symm))

/-- The gate of the tile's batch. -/
theorem x9_at {t : ℕ} (ht : t < 352) (b : Fin 2) (hb : b.val = t / 176) (e : Fin 2048) :
    (blocks m c).x9 t (ix3 0 0 e) = V m c main_arg4 (ix3 b 0 e) :=
  (take7 (pt t) e (V m c main_arg4)).trans (batch_congr (V m c main_arg4) e (by dsimp only; rw [pt_val ht]; exact hb.symm))

/-- A column of the first weight. -/
theorem x10_at {t : ℕ} (ht : t < 352) (k : Fin 5632) (q : Fin 512) (hk : k.val = 512 * (t % 11) + q.val) (e : Fin 2048) :
    (blocks m c).x10 t (ix2 e q) = V m c main_v1 (ix2 e k) :=
  (take8 (pt t) e q (V m c main_v1)).trans (col_congr (V m c main_v1) e (by dsimp only; rw [pt_val ht]; exact hk.symm))

/-- A column of the third weight. -/
theorem x11_at {t : ℕ} (ht : t < 352) (k : Fin 5632) (q : Fin 512) (hk : k.val = 512 * (t % 11) + q.val) (e : Fin 2048) :
    (blocks m c).x11 t (ix2 e q) = V m c main_v2 (ix2 e k) :=
  (take9 (pt t) e q (V m c main_v2)).trans (col_congr (V m c main_v2) e (by dsimp only; rw [pt_val ht]; exact hk.symm))

/-- A row of the second weight. -/
theorem x12_at {t : ℕ} (ht : t < 352) (k : Fin 5632) (q : Fin 512) (hk : k.val = 512 * (t % 11) + q.val) (e : Fin 2048) :
    (blocks m c).x12 t (ix2 q e) = V m c main_v3 (ix2 k e) :=
  (take10 (pt t) q e (V m c main_v3)).trans (row_congr (V m c main_v3) e (by dsimp only; rw [pt_val ht]; exact hk.symm))

/-- The last norm's weights. -/
theorem x13_at (t : ℕ) (e : Fin 2048) : (blocks m c).x13 t (ix2 0 e) = V m c main_v5 (ix2 0 e) :=
  take11 (pt t) e (V m c main_v5)

/-! ## The rows a row tile computes with -/

/-- The residual of a row tile is its rows of the input. -/
theorem resid_at {i : ℕ} (hi : i < 32) (p : Fin 512) (R : Fin 16384) (hR : R.val = 512 * i + p.val) (d : Fin 2048) :
    resid (blocks m c) i (ix3 0 p d) = V m c main_v0 (ix2 R d) := by
  cases i with
  | zero => exact (pay5_at _ p d).trans (x2_at m c R p (by omega) d)
  | succ i =>
    rw [resid_succ]
    refine (pay11_at _ _ d).trans (x3_at m c (t := 11 * i + lastAt (p.val / 64)) ?_ R _ ?_ d)
    · unfold lastAt; split <;> omega
    · show R.val = _ + p.val % 64
      unfold lastAt; split <;> omega

/-- The rows a row tile multiplies are the input's, normalised and modulated. -/
theorem normed_at {i : ℕ} (hi : i < 32) (p : Fin 512) (R : Fin 16384) (hR : R.val = 512 * i + p.val) (d : Fin 2048) :
    normed (blocks m c) i (ix3 0 p d) = rowH (V m c main_v0) (V m c main_v4) (V m c main_arg2) (V m c main_arg3) R d := by
  cases i with
  | zero =>
    refine (pay6_at _ _ _ _ p d).trans ?_
    unfold rowH
    simp only [x2_at m c R p (by omega), x4_at m c 0, x5_at m c (t := 0) (by omega) ⟨R.val / 8192, by omega⟩ (by dsimp only; omega),
      x6_at m c (t := 0) (by omega) ⟨R.val / 8192, by omega⟩ (by dsimp only; omega)]
  | succ i =>
    have hl : 11 * i + lastAt (p.val / 64) < 352 := by unfold lastAt; split <;> omega
    have hq : (11 * i + lastAt (p.val / 64)) / 11 = i := by unfold lastAt; split <;> omega
    have hm : min ((11 * i + lastAt (p.val / 64)) % 11) 7 = p.val / 64 := by unfold lastAt; split <;> omega
    rw [normed_succ]
    refine (chunk_at _ _ _ _ _ d).trans ?_
    unfold rowH
    have h3 := x3_at m c hl R (⟨p.val % 64, by omega⟩ : Fin 64) (by rw [hq, hm]; dsimp only; omega)
    have h7 := x7_at m c hl ⟨R.val / 8192, by omega⟩ (by rw [hq]; dsimp only; omega)
    have h8 := x8_at m c hl ⟨R.val / 8192, by omega⟩ (by rw [hq]; dsimp only; omega)
    have h4 := x4_at m c (11 * i + lastAt (p.val / 64))
    show modl (fun e => (blocks m c).x3 (11 * i + lastAt (p.val / 64)) (ix2 (⟨p.val % 64, _⟩ : Fin 64) e))
      (fun e => (blocks m c).x4 (11 * i + lastAt (p.val / 64)) (ix2 0 e)) (fun e => (blocks m c).x7 (11 * i + lastAt (p.val / 64)) (ix3 0 0 e))
      (fun e => (blocks m c).x8 (11 * i + lastAt (p.val / 64)) (ix3 0 0 e)) d = _
    rw [funext h3, funext h4, funext h7, funext h8]

/-- The accumulator after `j` column tiles: the terms of the first `512 * j` hidden units. -/
theorem accum_at {i : ℕ} (hi : i < 32) (p : Fin 512) (R : Fin 16384) (hR : R.val = 512 * i + p.val) (d : Fin 2048) (j : ℕ) (hj : j ≤ 11) :
    accum (blocks m c) i j (ix2 p d)
      = ∑ k ∈ Finset.range (512 * j), termN (rowH (V m c main_v0) (V m c main_v4) (V m c main_arg2) (V m c main_arg3) R)
          (V m c main_v1) (V m c main_v2) (V m c main_v3) d k := by
  induction j with
  | zero =>
    show Ideal.ofBits .f32 0x00000000#32 = _
    simp [Ideal.ofBits, Ideal.ieee]
  | succ j ih =>
    have ht : 11 * i + j < 352 := by omega
    have hc : (11 * i + j) % 11 = j := by omega
    have h8 : k0_pay8 (co (11 * i + j)) (accum (blocks m c) i j) = accum (blocks m c) i j := by
      rw [pay8_of, co_col _ ht, hc]
      split
      · next h => subst h; rfl
      · rfl
    show accOf _ _ _ _ _ _ (ix2 p d) = _
    unfold accOf
    rw [h8, pay9_at, ih (by omega), Nat.mul_succ, Finset.sum_range_add, Finset.sum_range (n := 512)]
    refine congrArg (_ + ·) (Finset.sum_congr rfl fun q _ => ?_)
    have hk : 512 * j + q.val < 5632 := by omega
    rw [pay7_at, x12_at m c ht ⟨512 * j + q.val, hk⟩ q (by dsimp only; rw [hc])]
    unfold termN term
    rw [dif_pos hk, funext (normed_at m c hi p R hR), funext (x10_at m c ht ⟨512 * j + q.val, hk⟩ q (by dsimp only; rw [hc])),
      funext (x11_at m c ht ⟨512 * j + q.val, hk⟩ q (by dsimp only; rw [hc]))]

/-- After all the column tiles: the whole second product. -/
theorem accum_all {i : ℕ} (hi : i < 32) (p : Fin 512) (R : Fin 16384) (hR : R.val = 512 * i + p.val) (d : Fin 2048) :
    accum (blocks m c) i 11 (ix2 p d)
      = ∑ k, term (rowH (V m c main_v0) (V m c main_v4) (V m c main_arg2) (V m c main_arg3) R) (V m c main_v1) (V m c main_v2) (V m c main_v3) d k := by
  rw [accum_at m c hi p R hR d 11 le_rfl, Finset.sum_range (n := 512 * 11)]
  refine Finset.sum_congr rfl fun k _ => ?_
  unfold termN
  exact dif_pos k.isLt

/-- What a finished row tile writes is the layer's rows. -/
theorem finished_at {i : ℕ} (hi : i < 32) (p : Fin 512) (R : Fin 16384) (hR : R.val = 512 * i + p.val) (d : Fin 2048) :
    finished (blocks m c) (11 * i + 10) (ix2 p d)
      = layer (V m c main_v0) (V m c main_v4) (V m c main_arg2) (V m c main_arg3) (V m c main_arg4) (V m c main_v1) (V m c main_v2) (V m c main_v3)
          (V m c main_v5) R d := by
  have hq : (11 * i + 10) / 11 = i := by omega
  unfold finished layer
  rw [hq, pay2_at, funext (x13_at m c (11 * i + 10))]
  refine congrArg (nrm · _ d) (funext fun e => ?_)
  rw [resid_at m c hi p R hR, accum_all m c hi p R hR, x9_at m c (by omega) ⟨R.val / 8192, by omega⟩ (by dsimp only; omega)]

/-- A place a block is put at lies in the block. -/
theorem mem_of_put {sg : RefSig} {κ : Kind} {sp : Space} {s : Shape} {e : EltTy} {v : View sg κ sp s e} {x : v.ty.Idx} (y : s.Idx)
    (h : x = v.emb y) : x ∈ v.set := h ▸ v.emb_mem_set y

/-- The result array. -/
theorem array12 : (dats m 0 c).arrAt 12 cfg0.N
    = fun x => layer (V m c main_v0) (V m c main_v4) (V m c main_arg2) (V m c main_arg3) (V m c main_arg4) (V m c main_v1) (V m c main_v2)
        (V m c main_v3) (V m c main_v5) (x 0) (x 1) := by
  refine Dat.arrAt_eq_of_cover _ 12 _ (fun t hf => ?_) (fun x => ?_)
  · have ht := lt_points t
    have h10 : t.val % 11 = 10 := (flush0_12 t).1 hf
    funext y
    obtain ⟨r, d, rfl⟩ : ∃ (r : Fin 512) (d : Fin 2048), y = ix2 r d := ⟨y 0, y 1, by funext a; fin_cases a <;> rfl⟩
    rw [View.read_apply, put12]
    show finished (blocks m c) t.val (ix2 r d) = _
    have e : t.val = 11 * (t.val / 11) + 10 := by omega
    refine (congrArg (fun n => finished (blocks m c) n (ix2 r d)) e).trans ?_
    refine (finished_at m c (i := t.val / 11) (by omega) r ⟨512 * (t.val / 11) + r.val, by omega⟩ rfl d).trans ?_
    rfl
  · obtain ⟨R, C, rfl⟩ : ∃ (R : Fin 16384) (C : Fin 2048), x = ix2 R C := ⟨x 0, x 1, by funext a; fin_cases a <;> rfl⟩
    have hlt : 11 * (R.val / 512) + 10 < 352 := by omega
    refine ⟨⟨_, hlt.trans_eq N_0.symm⟩, (flush0_12 _).2 (by dsimp only; omega), mem_of_put (ix2 (⟨R.val % 512, by omega⟩ : Fin 512) C) ?_⟩
    rw [put12]
    congr 1
    apply Fin.ext
    show R.val = 512 * ((11 * (R.val / 512) + 10) / 11) + R.val % 512
    omega

end Cert.FfnClaims

end
-- ==== Proof.FfnReference.lean ====
module

public import proofs.«01_k».proof.Proof.Gen.Reference2Ideal.Run
public import proofs.«01_k».proof.Proof.FfnArrays
public import Idealize.ShloMosaic.Lib.Pointwise

/-! # What the feed-forward reference computes, at an entry -/

@[expose] public section

set_option maxRecDepth 16384

noncomputable section

namespace Cert.Reference2Ideal.Ffn

open Idealize.ShloMosaic Idealize.ShloMosaic.TcCoe Cert.Reference2Ideal Cert.Reference2Ideal.Gen

/-- Rows divided by their root mean square, times the weights. -/
def norms (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2
      (Host.rsqrt (addf (Host.divf (broadcastInDim S2x8192x1 ![0, 1] bcast_S2x8192_S2x8192x1_0_1
          (Host.reduceAdd (mulf x x) (constant S_ .f32 0x00000000#32) reducesTo_S2x8192x2048_S2x8192_d2 h_S_))
        (broadcastInDim S2x8192x1 ![] bcast_S_S2x8192x1 (constant S_ .f32 0x45000000#32)))
        (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))

/-- The normalised rows, scaled and shifted. -/
def modulated (x : FVec Ideal S2x8192x2048 .f32) (g : FVec Ideal S2048 .f32) (sh sc : FVec Ideal S2x1x2048 .f32) : FVec Ideal S2x8192x2048 .f32 :=
  addf (mulf (norms x g) (broadcastInDim S2x8192x2048 ![0, 1, 2] bcast_S2x1x2048_S2x8192x2048_0_1_2
      (addf (broadcastInDim S2x1x2048 ![] bcast_S_S2x1x2048 (constant S_ .f32 0x3F800000#32)) sc)))
    (broadcastInDim S2x8192x2048 ![0, 1, 2] bcast_S2x1x2048_S2x8192x2048_0_1_2 sh)

/-- The rows through a first weight. -/
def through (h : FVec Ideal S2x8192x2048 .f32) (w : FVec Ideal S2048x5632 .f32) : FVec Ideal S2x8192x5632 .f32 :=
  Host.dotGeneral dot_S2x8192x2048_S2048x5632_S2x8192x5632_2_0_01_1_n_n none h w

/-- The logistic-weighted activation. -/
def silu (a : FVec Ideal S2x8192x5632 .f32) : FVec Ideal S2x8192x5632 .f32 :=
  mulf a (Host.divf (broadcastInDim S2x8192x5632 ![] bcast_S_S2x8192x5632 (constant S_ .f32 0x3F800000#32))
    (addf (broadcastInDim S2x8192x5632 ![] bcast_S_S2x8192x5632 (constant S_ .f32 0x3F800000#32)) (Host.exp (Host.negf a))))

/-- The input and the gated feed-forward. -/
def added (x : FVec Ideal S2x8192x2048 .f32) (gt : FVec Ideal S2x1x2048 .f32) (u : FVec Ideal S2x8192x5632 .f32) (w2 : FVec Ideal S5632x2048 .f32) :
    FVec Ideal S2x8192x2048 .f32 :=
  addf x (mulf (broadcastInDim S2x8192x2048 ![0, 1, 2] bcast_S2x1x2048_S2x8192x2048_0_1_2
      (mulf (broadcastInDim S2x1x2048 ![] bcast_S_S2x1x2048 (constant S_ .f32 0x3F000000#32)) gt))
    (Host.dotGeneral dot_S2x8192x5632_S5632x2048_S2x8192x2048_2_0_01_1_n_n none u w2))

/-- The reference's result of its nine arguments. -/
def out (x : FVec Ideal S2x8192x2048 .f32) (g : FVec Ideal S2048 .f32) (sh sc gt : FVec Ideal S2x1x2048 .f32)
    (w1 w3 : FVec Ideal S2048x5632 .f32) (w2 : FVec Ideal S5632x2048 .f32) (fn : FVec Ideal S2048 .f32) : FVec Ideal S16384x2048 .f32 :=
  shapeCast _ (norms (added x gt (mulf (silu (through (modulated x g sh sc) w1)) (through (modulated x g sh sc) w3)) w2) fn)
    shapeCasts_S2x8192x2048_S16384x2048

/-- The generated run's term is this one. -/
theorem out_eq (m : (ℓ : Loc nD τ sig) → Buf (Elt Ideal) ℓ) (c : Dev nD) : Value.res_main_v42 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Value.res_main_v42 out added silu through modulated norms
  rfl

section entries

variable (x : FVec Ideal S2x8192x2048 .f32) (g : FVec Ideal S2048 .f32) (sh sc gt : FVec Ideal S2x1x2048 .f32)
  (w1 w3 : FVec Ideal S2048x5632 .f32) (w2 : FVec Ideal S5632x2048 .f32) (fn : FVec Ideal S2048 .f32) (b : Fin 2) (s : Fin 8192)

/-- A normalised row. -/
theorem norms_at (d : Fin 2048) : norms x g (ix3 b s d) = FfnClaims.nrm (fun e => x (ix3 b s e)) (fun e => g (ix1 e)) d := by
  pointwise [norms, FfnClaims.nrm]

/-- A modulated row. -/
theorem modulated_at (d : Fin 2048) : modulated x g sh sc (ix3 b s d)
    = FfnClaims.modl (fun e => x (ix3 b s e)) (fun e => g (ix1 e)) (fun e => sh (ix3 b 0 e)) (fun e => sc (ix3 b 0 e)) d := by
  have h := norms_at x g b s d
  unfold modulated FfnClaims.modl
  rw [← h]
  generalize norms x g = n
  pointwise

/-- An entry of a first product. -/
theorem through_at (h : FVec Ideal S2x8192x2048 .f32) (k : Fin 5632) : through h w1 (ix3 b s k) = ∑ e : Fin 2048, h (ix3 b s e) * w1 (ix2 e k) := by
  pointwise [through]

/-- An activation. -/
theorem silu_at (a : FVec Ideal S2x8192x5632 .f32) (k : Fin 5632) :
    silu a (ix3 b s k) = a (ix3 b s k) * Ideal.logistic (a (ix3 b s k)) := by
  unfold Ideal.logistic
  pointwise [silu]

/-- An entry of the sum of the input and the gated feed-forward. -/
theorem added_at (u : FVec Ideal S2x8192x5632 .f32) (d : Fin 2048) : added x gt u w2 (ix3 b s d)
    = x (ix3 b s d) + Ideal.ofBits .f32 0x3F000000#32 * gt (ix3 b 0 d) * ∑ k : Fin 5632, u (ix3 b s k) * w2 (ix2 k d) := by
  pointwise [added]

/-- A row of the flattened result is a row of its batch. -/
theorem flat_at (y : FVec Ideal S2x8192x2048 .f32) (R : Fin 16384) (d : Fin 2048) :
    shapeCast S16384x2048 y shapeCasts_S2x8192x2048_S16384x2048 (ix2 R d) = y (ix3 ⟨R.val / 8192, by omega⟩ ⟨R.val % 8192, by omega⟩ d) := by
  pointwise

end entries

end Cert.Reference2Ideal.Ffn

end
-- ==== Proof.FfnEquation.lean ====
module

public import proofs.«01_k».proof.Proof.FfnReference

/-! # The feed-forward call's result is the reference's -/

@[expose] public section

set_option maxRecDepth 16384

noncomputable section

namespace Cert.FfnClaims

open Cert.Kernel2Ideal Cert.Kernel2Ideal.Gen
open Idealize.ShloMosaic Idealize.ShloMosaic.TcCoe

variable (m : (ℓ : Loc nD τ sig) → Buf (Elt Ideal) ℓ) (c : Dev nD)

/-- The call is handed the input with its batches flattened. -/
theorem V_x : V m c main_v0 = shapeCast S16384x2048 (m ((c : Thread nD τ).loc main_arg0)) shapeCasts_S2x8192x2048_S16384x2048 := by
  dsimp only [V]
  after_results_simp
  rfl

/-- The call is handed the first weight, narrowed. -/
theorem V_w1 : V m c main_v1 = truncf (F := Ideal) (s := S2048x5632) (φ := .f32) .bf16 (m ((c : Thread nD τ).loc main_arg5)) bitsLt_bf16_f32 := by
  dsimp only [V]
  after_results_simp

/-- The call is handed the third weight, narrowed. -/
theorem V_w3 : V m c main_v2 = truncf (F := Ideal) (s := S2048x5632) (φ := .f32) .bf16 (m ((c : Thread nD τ).loc main_arg6)) bitsLt_bf16_f32 := by
  dsimp only [V]
  after_results_simp

/-- The call is handed the second weight, narrowed. -/
theorem V_w2 : V m c main_v3 = truncf (F := Ideal) (s := S5632x2048) (φ := .f32) .bf16 (m ((c : Thread nD τ).loc main_arg7)) bitsLt_bf16_f32 := by
  dsimp only [V]
  after_results_simp

/-- The call is handed the norm's weights as a row. -/
theorem V_g : V m c main_v4 = shapeCast S1x2048 (m ((c : Thread nD τ).loc main_arg1)) shapeCasts_S2048_S1x2048 := by
  dsimp only [V]
  after_results_simp
  rfl

/-- The call is handed the last norm's weights as a row. -/
theorem V_fn : V m c main_v5 = shapeCast S1x2048 (m ((c : Thread nD τ).loc main_arg8)) shapeCasts_S2048_S1x2048 := by
  dsimp only [V]
  after_results_simp
  rfl

section entries

variable (x : FVec Ideal S2x8192x2048 .f32) (g : FVec Ideal S2048 .f32) (sh sc gt : FVec Ideal S2x1x2048 .f32)
  (w1 w3 : FVec Ideal S2048x5632 .f32) (w2 : FVec Ideal S5632x2048 .f32) (fn : FVec Ideal S2048 .f32)

/-- A row of the flattened input. -/
theorem flat_row (R : Fin 16384) (e : Fin 2048) : shapeCast S16384x2048 x shapeCasts_S2x8192x2048_S16384x2048 (ix2 R e)
    = x (ix3 ⟨R.val / 8192, by omega⟩ ⟨R.val % 8192, by omega⟩ e) :=
  Cert.Reference2Ideal.Ffn.flat_at x R e

/-- A vector as a row. -/
theorem vector_row (e : Fin 2048) : shapeCast S1x2048 g shapeCasts_S2048_S1x2048 (ix2 0 e) = g (ix1 e) := by
  pointwise

/-- The modulated row is the reference's. -/
theorem rowH_eq (R : Fin 16384) : rowH (shapeCast S16384x2048 x shapeCasts_S2x8192x2048_S16384x2048) (shapeCast S1x2048 g shapeCasts_S2048_S1x2048) sh sc R
    = fun d => Cert.Reference2Ideal.Ffn.modulated x g sh sc (ix3 ⟨R.val / 8192, by omega⟩ ⟨R.val % 8192, by omega⟩ d) := by
  funext d
  rw [Cert.Reference2Ideal.Ffn.modulated_at]
  unfold rowH
  simp only [flat_row, vector_row]

/-- The layer is the reference, entry by entry. -/
theorem layer_eq (R : Fin 16384) (d : Fin 2048) :
    layer (shapeCast S16384x2048 x shapeCasts_S2x8192x2048_S16384x2048) (shapeCast S1x2048 g shapeCasts_S2048_S1x2048) sh sc gt w1 w3 w2
        (shapeCast S1x2048 fn shapeCasts_S2048_S1x2048) R d
      = Cert.Reference2Ideal.Ffn.out x g sh sc gt w1 w3 w2 fn (ix2 R d) := by
  unfold Cert.Reference2Ideal.Ffn.out
  refine Eq.trans ?_ (Cert.Reference2Ideal.Ffn.flat_at _ R d).symm
  rw [Cert.Reference2Ideal.Ffn.norms_at]
  unfold layer
  simp only [vector_row, flat_row]
  refine congrArg (nrm · _ d) (funext fun e => ?_)
  rw [Cert.Reference2Ideal.Ffn.added_at]
  refine congrArg (_ + _ * ·) (Finset.sum_congr rfl fun k _ => ?_)
  unfold term gated
  rw [rowH_eq]
  refine congrArg (· * w2 (ix2 k e)) ?_
  rw [← Cert.Reference2Ideal.Ffn.through_at, ← Cert.Reference2Ideal.Ffn.through_at, ← Cert.Reference2Ideal.Ffn.silu_at]
  rfl

end entries

/-- The array the call leaves is the reference's result. -/
theorem array_eq : (dats m 0 c).arrAt 12 cfg0.N
    = Cert.Reference2Ideal.Ffn.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [array12, V_x, V_g, V_fn, V_w1, V_w2, V_w3, V_main_arg2, V_main_arg3, V_main_arg4]
  funext x
  obtain ⟨r, d, rfl⟩ : ∃ (r : Fin 16384) (d : Fin 2048), x = ix2 r d := ⟨x 0, x 1, by funext a; fin_cases a <;> rfl⟩
  exact layer_eq _ _ _ _ _ _ _ _ _ r d

end Cert.FfnClaims

end
-- ==== Proof.FfnTwin.lean ====
/- The feed-forward kernel's frame from its idealized twin's. -/
module

public import proofs.«01_k».proof.Defs
public import proofs.«01_k».proof.Proof.Gen.Kernel2Ideal
public import proofs.«01_k».proof.Proof.Gen.Kernel2
public import Idealize.ShloMosaic.Lib.Tactic

@[expose] public section

set_option maxRecDepth 65536

noncomputable section

namespace Cert.FfnClaims

open Idealize.ShloMosaic Idealize.ShloMosaic.TcCoe Idealize.SL.Sem

attribute [local instance] Cert.Kernel2.Gen.facts Cert.Kernel2Ideal.Gen.facts

/-- The printed kernel and the idealized one have the same text: a frame of the second, at any values, is one of the first. -/
theorem twin
    (h : ∀ (m : (ℓ : Loc Cert.Kernel2Ideal.nD Cert.Kernel2Ideal.τ Cert.Kernel2Ideal.sig) → Buf (Elt Bits) ℓ) (g : Dev Cert.Kernel2Ideal.nD → PrngReg),
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)) : Cert.quiescent_Kernel2 := by
  intro m g _
  refine Eq.mp ?_ (h m g)
  sl_kernel_rfl

end Cert.FfnClaims

end
-- ==== Proof.Feedforward.lean ====
module

public import proofs.«01_k».proof.Defs
public import proofs.«01_k».proof.Proof.FfnEquation
public import proofs.«01_k».proof.Proof.FfnTwin
public import Idealize.ShloMosaic.Adequacy
public import Idealize.ShloMosaic.Lib.Claim
public import Idealize.ShloMosaic.Init

/-! # The claims about the last feed-forward call -/

@[expose] public section

set_option maxRecDepth 16384

noncomputable section

namespace Cert.FfnClaims

open Idealize.ShloMosaic Idealize.ShloMosaic.TcCoe Idealize.SL.Sem

section Kernel

open Cert.Kernel2Ideal Cert.Kernel2Ideal.Gen

/-- What the kernel leaves: its result array, and its arguments. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h.1.1 c).1 12, h.2.1 c⟩) (θ_run_and (run_main m ρ) (frame_any m ρ))

end Kernel

section Reference

open Cert.Reference2Ideal Cert.Reference2Ideal.Gen

/-- What the reference leaves, by name. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = Ffn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (Ffn.out_eq m c), (h c).2⟩) (Value.run m ρ)

end Reference

/-! ## The claims -/

/-- The kernel leaves its arguments and ends quiescent. -/
theorem frame_p : Cert.quiescent_Kernel2 := twin fun m g => frame_any m g

/-- So does the idealized kernel. -/
theorem frame_pi : Cert.quiescent_Kernel2Ideal := fun m ρ _ => frame_any m ρ

/-- So does the reference. -/
theorem frame_ri : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run m ρ)

/-- The idealized kernel is the kernel's own text. -/
theorem preserves : Cert.preserves_Kernel2_Kernel2Ideal := trivial

/-- Equal arguments give equal results of the reference. -/
theorem out_congr {x x' : FVec Ideal Cert.Reference2Ideal.S2x8192x2048 .f32} {g g' fn fn' : FVec Ideal Cert.Reference2Ideal.S2048 .f32}
    {sh sh' sc sc' gt gt' : FVec Ideal Cert.Reference2Ideal.S2x1x2048 .f32} {w1 w1' w3 w3' : FVec Ideal Cert.Reference2Ideal.S2048x5632 .f32}
    {w2 w2' : FVec Ideal Cert.Reference2Ideal.S5632x2048 .f32} (h0 : x = x') (h1 : g = g') (h2 : sh = sh') (h3 : sc = sc') (h4 : gt = gt')
    (h5 : w1 = w1') (h6 : w3 = w3') (h7 : w2 = w2') (h8 : fn = fn') :
    Cert.Reference2Ideal.Ffn.out x g sh sc gt w1 w3 w2 fn = Cert.Reference2Ideal.Ffn.out x' g' sh' sc' gt' w1' w3' w2' fn' := by
  subst h0 h1 h2 h3 h4 h5 h6 h7 h8; rfl

/-- Over the reals the kernel's result is the reference's. -/
theorem algebraic : Cert.algebraic_Kernel2Ideal_Reference2Ideal := by
  intro m ρ m' ρ' _ hag
  refine ⟨fun c => (dats m 0 c).arrAt 12 Cert.Kernel2Ideal.cfg0.N, run_kernel m ρ,
    (θ_run Cert.Reference2Ideal.defs _ _).mono (fun r h c => ?_) (run_reference m' ρ')⟩
  obtain ⟨h0, hk⟩ := h c
  obtain ⟨a0, a1, a2, a3, a4, a5, a6, a7, a8⟩ := hag c
  exact ⟨h0.trans ((out_congr a0 a1 a2 a3 a4 a5 a6 a7 a8).trans (array_eq m c).symm), hk⟩

end Cert.FfnClaims

end
-- ==== Proof.InnerBody.lean ====
/- The setting of the inner feed-forward call's run: the conditional at its first point. -/
module

public import proofs.«01_k».proof.Proof.Gen.Kernel3Ideal.Frame
public import proofs.«01_k».proof.Proof.Gen.Kernel3Ideal.Skeleton
public import Idealize.ShloMosaic.Lib.Tactic

@[expose] public section

set_option maxRecDepth 16384

noncomputable section

namespace Cert.InnerClaims

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No loop variants are needed. -/
abbrev 𝒱₀ : Variants := Variants.none

/-- The first conditional's condition: both coordinates are zero. -/
abbrev condFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-- The grid point of row tile `a` and column tile `b`. -/
def at2 (a : Fin 33) (b : Fin 11) : grid0.Coords := fun | 0 => a | 1 => b

/-- A grid point is the point of its two coordinates. -/
theorem at2_eta (i : grid0.Coords) : at2 (i 0) (i 1) = i := by
  funext k; revert k; intro k; match k with | 0 => rfl | 1 => rfl

/-- The half of the scratches that a row tile computes with. -/
theorem off1_eq (i : grid0.Coords) : k0_off1 i = ![(i 0).val % 2, 0, 0] := by
  have h : ∀ (a : Fin 33) (b : Fin 11), k0_off1 (at2 a b) = ![a.val % 2, 0, 0] := by decide +kernel
  exact (congrArg k0_off1 (at2_eta i).symm).trans (h _ _)

/-- The rows of the other half that a point prepares for the next row tile. -/
theorem off2_eq (i : grid0.Coords) : k0_off2 i = ![1 - (i 0).val % 2, 64 * min (i 1).val 7, 0] := by
  have h : ∀ (a : Fin 33) (b : Fin 11), k0_off2 (at2 a b) = ![1 - a.val % 2, 64 * min b.val 7, 0] := by decide +kernel
  exact (congrArg k0_off2 (at2_eta i).symm).trans (h _ _)

/-- The half of the residual scratch that the last column tile reads. -/
theorem off3_eq (i : grid0.Coords) : k0_off3 i = ![(i 0).val % 2, 0, 0] := by
  have h : ∀ (a : Fin 33) (b : Fin 11), k0_off3 (at2 a b) = ![a.val % 2, 0, 0] := by decide +kernel
  exact (congrArg k0_off3 (at2_eta i).symm).trans (h _ _)

/-- The first conditional is taken at the first point alone. -/
theorem condFirst_iff (i : grid0.Coords) : condFirst i = 1#1 ↔ (i 0).val = 0 ∧ (i 1).val = 0 := by
  have h : ∀ (a : Fin 33) (b : Fin 11), condFirst (at2 a b) = 1#1 ↔ a.val = 0 ∧ b.val = 0 := by decide +kernel
  have := h (i 0) (i 1)
  rwa [at2_eta] at this

/-- The second conditional is taken at the last column tile. -/
theorem condLast_iff (i : grid0.Coords) : k0_cond2 i = 1#1 ↔ (i 1).val = 10 := by
  have h : ∀ (a : Fin 33) (b : Fin 11), k0_cond2 (at2 a b) = 1#1 ↔ b.val = 10 := by decide +kernel
  have := h (i 0) (i 1)
  rwa [at2_eta] at this

/-- The offset of the half being multiplied, in closed form. -/
instance (i : grid0.Coords) : ClosedOff (k0_off1 i) := ⟨![(i 0).val % 2, 0, 0], off1_eq i⟩
/-- The offset of the rows being prepared in the other half, in closed form. -/
instance (i : grid0.Coords) : ClosedOff (k0_off2 i) := ⟨![1 - (i 0).val % 2, 64 * min (i 1).val 7, 0], off2_eq i⟩
/-- The offset of the half whose rows are finished, in closed form. -/
instance (i : grid0.Coords) : ClosedOff (k0_off3 i) := ⟨![(i 0).val % 2, 0, 0], off3_eq i⟩

end Cert.InnerClaims

end
-- ==== Proof.InnerFirst.lean ====
/- One grid point of the inner feed-forward call, run from any contents of its buffers: what it leaves in each. -/
module

public import proofs.«01_k».proof.Proof.InnerBody

@[expose] public section

set_option maxRecDepth 16384

noncomputable section

namespace Cert.InnerClaims

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3328000 in
/-- The first point: it fills half 0 of both scratches from the first block, then goes on as any other. -/
noncomputable def runFirst (c : Dev nD) (i : grid0.Coords) (h1 : condFirst i = 1#1) (h2 : ¬ k0_cond2 i = 1#1)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S2x512x2048 .bf16) (harg14 : arg14.IsWhole) (arg15 : Memref sig .tc .vmem S2x512x2048 .f32) (harg15 : arg15.IsWhole) (arg16 : Memref sig .tc .vmem S512x2048 .f32) (harg16 : arg16.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S512x2048 .f32) (x14 : Vec F S2x512x2048 .bf16) (x15 : Vec F S2x512x2048 .f32) (x16 : Vec F S512x2048 .f32) :
    Σ' (L14 : List (View.Piece (Elt F) S2x512x2048 .bf16)), Σ' (L15 : List (View.Piece (Elt F) S2x512x2048 .f32)), { L16 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (arg14.view.read (Elt F) (arg14.view.writes (Elt F) (harg14.unread x14) L14)) ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16))) -∗ K ⟨⟩))
          ⊢ wp frame (wpE (defs₀ (F := F)) 𝒱₀ c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_ffn_eq_skeleton]; unfold cc0_ffn_skel
    simp only [k0_part1_eq_skeleton, k0_part2_eq_skeleton]; unfold k0_part1_skel k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    have hi : (i 0).val = 0 := ((condFirst_iff i).mp h1).1
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; rfl
    isplitl [H15]
    · iexists _; isplitr; swap; · iexact H15
      ipureintro; rfl
    iexists _; isplitr; swap; · iexact H16
    ipureintro; rfl

end Cert.InnerClaims

end
-- ==== Proof.InnerMid.lean ====
/- One grid point of the inner feed-forward call, run from any contents of its buffers: what it leaves in each. -/
module

public import proofs.«01_k».proof.Proof.InnerBody

@[expose] public section

set_option maxRecDepth 16384

noncomputable section

namespace Cert.InnerClaims

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3328000 in
/-- A point that is neither the first nor the last of its row tile. -/
noncomputable def runMid (c : Dev nD) (i : grid0.Coords) (h1 : ¬ condFirst i = 1#1) (h2 : ¬ k0_cond2 i = 1#1)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S2x512x2048 .bf16) (harg14 : arg14.IsWhole) (arg15 : Memref sig .tc .vmem S2x512x2048 .f32) (harg15 : arg15.IsWhole) (arg16 : Memref sig .tc .vmem S512x2048 .f32) (harg16 : arg16.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S512x2048 .f32) (x14 : Vec F S2x512x2048 .bf16) (x15 : Vec F S2x512x2048 .f32) (x16 : Vec F S512x2048 .f32) :
    Σ' (L14 : List (View.Piece (Elt F) S2x512x2048 .bf16)), Σ' (L15 : List (View.Piece (Elt F) S2x512x2048 .f32)), { L16 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (arg14.view.read (Elt F) (arg14.view.writes (Elt F) (harg14.unread x14) L14)) ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16))) -∗ K ⟨⟩))
          ⊢ wp frame (wpE (defs₀ (F := F)) 𝒱₀ c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_ffn_eq_skeleton]; unfold cc0_ffn_skel
    simp only [k0_part1_eq_skeleton, k0_part2_eq_skeleton]; unfold k0_part1_skel k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; rfl
    isplitl [H15]
    · iexists _; isplitr; swap; · iexact H15
      ipureintro; rfl
    iexists _; isplitr; swap; · iexact H16
    ipureintro; rfl

end Cert.InnerClaims

end
-- ==== Proof.InnerLast.lean ====
/- One grid point of the inner feed-forward call, run from any contents of its buffers: what it leaves in each. -/
module

public import proofs.«01_k».proof.Proof.InnerBody

@[expose] public section

set_option maxRecDepth 16384

noncomputable section

namespace Cert.InnerClaims

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3328000 in
/-- The last point of a row tile: it stores the tile's rows. -/
noncomputable def runLast (c : Dev nD) (i : grid0.Coords) (h1 : ¬ condFirst i = 1#1) (h2 : k0_cond2 i = 1#1)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S2x512x2048 .bf16) (harg14 : arg14.IsWhole) (arg15 : Memref sig .tc .vmem S2x512x2048 .f32) (harg15 : arg15.IsWhole) (arg16 : Memref sig .tc .vmem S512x2048 .f32) (harg16 : arg16.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S512x2048 .f32) (x14 : Vec F S2x512x2048 .bf16) (x15 : Vec F S2x512x2048 .f32) (x16 : Vec F S512x2048 .f32) :
    Σ' (L13 : List (View.Piece (Elt F) S512x2048 .f32)), Σ' (L14 : List (View.Piece (Elt F) S2x512x2048 .bf16)), Σ' (L15 : List (View.Piece (Elt F) S2x512x2048 .f32)), { L16 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14)) ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16))) -∗ K ⟨⟩))
          ⊢ wp frame (wpE (defs₀ (F := F)) 𝒱₀ c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_ffn_eq_skeleton]; unfold cc0_ffn_skel
    simp only [k0_part1_eq_skeleton, k0_part2_eq_skeleton]; unfold k0_part1_skel k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    iexists _; isplitr; swap; · iexact H16
    ipureintro; rfl

end Cert.InnerClaims

end
-- ==== Proof.InnerStep.lean ====
/- One grid point of the inner feed-forward call as a step on the values of its buffers. -/
module

public import proofs.«01_k».proof.Proof.InnerFirst
public import proofs.«01_k».proof.Proof.InnerMid
public import proofs.«01_k».proof.Proof.InnerLast
public import Idealize.ShloMosaic.Lib.VecWindow

@[expose] public section

set_option maxRecDepth 16384

noncomputable section

namespace Cert.InnerClaims

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The 64 normalised and modulated rows a point prepares for the next row tile. -/
def chunkH (x3 : Vec F S64x2048 .f32) (x4 : Vec F S1x2048 .f32) (x7 x8 : Vec F S1x1x2048 .f32) : Vec F S1x64x2048 .bf16 :=
  k0_pay1 (k0_pay12 x7) (k0_pay13 (k0_pay3 x4) x3) (k0_pay14 x8)

/-- One half of a two-half buffer. -/
def half {α : Type} (k : ℕ) (hk : k < 2) (x : S2x512x2048.Idx → α) : S1x512x2048.Idx → α :=
  VecWindow.window x ![k, 0, 0] S1x512x2048.size (by intro a; fin_cases a <;> simp <;> omega)

/-- A remainder by two is below two. -/
theorem mod2_lt (n : ℕ) : n % 2 < 2 := Nat.mod_lt _ (by decide)

/-- The rows of the next row tile, put into the half not in use. -/
def putRows {α : Type} (i : grid0.Coords) (x : S2x512x2048.Idx → α) (w : S1x64x2048.Idx → α) : S2x512x2048.Idx → α :=
  VecWindow.put x ![1 - (i 0).val % 2, 64 * min (i 1).val 7, 0] S1x64x2048.size w

/-- The first row tile, put into half 0. -/
def putTile {α : Type} (x : S2x512x2048.Idx → α) (w : S1x512x2048.Idx → α) : S2x512x2048.Idx → α :=
  VecWindow.put x ![0, 0, 0] S1x512x2048.size w

/-- The accumulator after a point: the half in use, through the two column tiles and the row tile of the weights. -/
def accOf (i : grid0.Coords) (x10 x11 : Vec F S2048x512 .bf16) (x12 : Vec F S512x2048 .bf16) (h : Vec F S1x512x2048 .bf16) (x16 : Vec F S512x2048 .f32) :
    Vec F S512x2048 .f32 :=
  k0_pay9 (k0_pay7 h x10 x11) (k0_pay8 i x16) x12

/-- A load of a whole buffer. -/
def rd {S : Shape} {e : EltTy} (m : Memref sig .tc .vmem S e) (off : Fin S.rank → ℕ) (inb : ∀ a, off a + S.size a ≤ S.size a) (f : m.view.ty.Contents (Elt F)) : Vec F S e :=
  m.view.readAt (Elt F) (Rect.unit off S.size inb).toLoadRect f

/-- Reading back a whole buffer at an offset gives the block at that offset. -/
theorem rd_unread {S : Shape} {e : EltTy} (m : Memref sig .tc .vmem S e) (hm : m.IsWhole) (off : Fin S.rank → ℕ) (inb : ∀ a, off a + S.size a ≤ S.size a) (x : Vec F S e) :
    rd m off inb (hm.unread x) = x :=
  (View.readAt_full m.view _ inb).trans (hm.read_unread x)

/-- A load of the half in use. -/
def rdHalf {e : EltTy} (m : Memref sig .tc .vmem S2x512x2048 e) (off : Fin 3 → ℕ) (inb : ∀ a, off a + S1x512x2048.size a ≤ S2x512x2048.size a) (f : m.view.ty.Contents (Elt F)) : Vec F S1x512x2048 e :=
  m.view.readAt (Elt F) (Rect.unit (s := S2x512x2048) off S1x512x2048.size inb).toLoadRect f

/-- Reading the current half of a scratch. -/
theorem rdHalf_eq {e : EltTy} (m : Memref sig .tc .vmem S2x512x2048 e) (f : m.view.ty.Contents (Elt F)) (i : grid0.Coords)
    (off : Fin 3 → ℕ) (hoff : off = ![(i 0).val % 2, 0, 0]) (inb) :
    rdHalf m off inb f = half ((i 0).val % 2) (mod2_lt _) (m.view.read (Elt F) f) :=
  View.readAt_unit m.view f inb hoff _

/-- The rows put into the other half leave the half in use. -/
theorem half_putRows {α : Type} (i : grid0.Coords) (x : S2x512x2048.Idx → α) (w : S1x64x2048.Idx → α) :
    half ((i 0).val % 2) (mod2_lt _) (putRows i x w) = half ((i 0).val % 2) (mod2_lt _) x := by
  refine VecWindow.window_put_of_disjoint x _ _ _ _ _ w 0 ?_
  have := mod2_lt (i 0).val
  simp
  omega

/-- The normalised rows as a point finds them: at the first point the first row tile has just been put in. -/
def start15 (i : grid0.Coords) (x2 : Vec F S512x2048 .f32) (x4 : Vec F S1x2048 .f32) (x5 x6 : Vec F S1x1x2048 .f32) (x14 : Vec F S2x512x2048 .bf16) : Vec F S2x512x2048 .bf16 :=
  if (i 0).val = 0 ∧ (i 1).val = 0 then putTile x14 (k0_pay6 x4 x2 x5 x6) else x14

/-- The residual rows as a point finds them. -/
def start16 (i : grid0.Coords) (x2 : Vec F S512x2048 .f32) (x15 : Vec F S2x512x2048 .f32) : Vec F S2x512x2048 .f32 :=
  if (i 0).val = 0 ∧ (i 1).val = 0 then putTile x15 (k0_pay5 x2) else x15

/-- The output buffer after a point: the finished rows at the last column tile, else what it held. -/
def out14 (i : grid0.Coords) (x9 : Vec F S1x1x2048 .f32) (x10 x11 : Vec F S2048x512 .bf16) (x12 : Vec F S512x2048 .bf16)
    (x13 : Vec F S512x2048 .f32) (h : Vec F S2x512x2048 .bf16) (r : Vec F S2x512x2048 .f32) (x16 : Vec F S512x2048 .f32) : Vec F S512x2048 .f32 :=
  if (i 1).val = 10 then k0_pay2 (half ((i 0).val % 2) (mod2_lt _) r) x9 (accOf i x10 x11 x12 (half ((i 0).val % 2) (mod2_lt _) h) x16) else x13

section mid
variable (c : Dev nD) (i : grid0.Coords)
    (arg2 : Memref sig .tc .vmem S512x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S2x512x2048 .bf16) (harg14 : arg14.IsWhole) (arg15 : Memref sig .tc .vmem S2x512x2048 .f32) (harg15 : arg15.IsWhole) (arg16 : Memref sig .tc .vmem S512x2048 .f32) (harg16 : arg16.IsWhole)
    (x2 : Vec F S512x2048 .f32) (x3 : Vec F S64x2048 .f32) (x4 : Vec F S1x2048 .f32) (x5 : Vec F S1x1x2048 .f32) (x6 : Vec F S1x1x2048 .f32) (x7 : Vec F S1x1x2048 .f32) (x8 : Vec F S1x1x2048 .f32) (x9 : Vec F S1x1x2048 .f32) (x10 : Vec F S2048x512 .bf16) (x11 : Vec F S2048x512 .bf16) (x12 : Vec F S512x2048 .bf16) (x13 : Vec F S512x2048 .f32) (x14 : Vec F S2x512x2048 .bf16) (x15 : Vec F S2x512x2048 .f32) (x16 : Vec F S512x2048 .f32)

/-- What a middle point leaves in its three scratches. -/
theorem mid_reads (h1 : ¬ condFirst i = 1#1) (h2 : ¬ k0_cond2 i = 1#1) :
    arg14.view.read (Elt F) (arg14.view.writes (Elt F) (harg14.unread x14) (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).1) = putRows i x14 (chunkH x3 x4 x7 x8)
    ∧ arg15.view.read (Elt F) (arg15.view.writes (Elt F) (harg15.unread x15) (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.1) = putRows i x15 (k0_pay11 x3)
    ∧ arg16.view.read (Elt F) (arg16.view.writes (Elt F) (harg16.unread x16) (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.1)
      = accOf i x10 x11 x12 (half ((i 0).val % 2) (mod2_lt _) x14) x16 := by
  refine ⟨?_, ?_, ?_⟩
  · refine (View.read_writes_cons_put arg14.view _ _ _ _ (off2_eq i)).trans ?_
    rw [View.writes_nil, harg14.read_unread]
    show putRows i x14 _ = putRows i x14 _
    congr 1
    show k0_pay1 (k0_pay12 (rd arg7 ![0, 0, 0] inb_S1x1x2048_S1x1x2048_0_0_0 _)) (k0_pay13 (k0_pay3 (rd arg4 ![0, 0] inb_S1x2048_S1x2048_0_0 _)) (rd arg3 ![0, 0] inb_S64x2048_S64x2048_0_0 _))
      (k0_pay14 (rd arg8 ![0, 0, 0] inb_S1x1x2048_S1x1x2048_0_0_0 _)) = _
    rw [rd_unread, rd_unread, rd_unread, rd_unread]
    rfl
  · refine (View.read_writes_cons_put arg15.view _ _ _ _ (off2_eq i)).trans ?_
    rw [View.writes_nil, harg15.read_unread]
    show putRows i x15 (k0_pay11 (rd arg3 ![0, 0] inb_S64x2048_S64x2048_0_0 _)) = _
    rw [rd_unread]
  · refine (View.read_writes_full arg16.view _ _ _ _).trans ?_
    show k0_pay9 (k0_pay7 (rdHalf arg14 _ (k0_off1_inb i) _) (rd arg10 ![0, 0] inb_S2048x512_S2048x512_0_0 _) (rd arg11 ![0, 0] inb_S2048x512_S2048x512_0_0 _))
      (k0_pay8 i (rd arg16 ![0, 0] inb_S512x2048_S512x2048_0_0 _)) (rd arg12 ![0, 0] inb_S512x2048_S512x2048_0_0 _) = _
    rw [rdHalf_eq arg14 _ i _ (off1_eq i), harg14.read_unread, rd_unread, rd_unread, rd_unread, rd_unread]
    rfl

/-- What the last point of a row tile leaves: the finished rows in the output buffer, and the three scratches. -/
theorem last_reads (h1 : ¬ condFirst i = 1#1) (h2 : k0_cond2 i = 1#1) :
    arg14.view.read (Elt F) (arg14.view.writes (Elt F) (harg14.unread x14) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.1) = putRows i x14 (chunkH x3 x4 x7 x8)
    ∧ arg15.view.read (Elt F) (arg15.view.writes (Elt F) (harg15.unread x15) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.1) = putRows i x15 (k0_pay11 x3)
    ∧ arg16.view.read (Elt F) (arg16.view.writes (Elt F) (harg16.unread x16) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.2.1)
      = accOf i x10 x11 x12 (half ((i 0).val % 2) (mod2_lt _) x14) x16
    ∧ arg13.view.read (Elt F) (arg13.view.writes (Elt F) (harg13.unread x13) (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).1)
      = k0_pay2 (half ((i 0).val % 2) (mod2_lt _) x15) x9 (accOf i x10 x11 x12 (half ((i 0).val % 2) (mod2_lt _) x14) x16) := by
  refine ⟨?_, ?_, ?_, ?_⟩
  · refine (View.read_writes_cons_put arg14.view _ _ _ _ (off2_eq i)).trans ?_
    rw [View.writes_nil, harg14.read_unread]
    show putRows i x14 (k0_pay1 (k0_pay12 (rd arg7 ![0, 0, 0] inb_S1x1x2048_S1x1x2048_0_0_0 _)) (k0_pay13 (k0_pay3 (rd arg4 ![0, 0] inb_S1x2048_S1x2048_0_0 _)) (rd arg3 ![0, 0] inb_S64x2048_S64x2048_0_0 _)) (k0_pay14 (rd arg8 ![0, 0, 0] inb_S1x1x2048_S1x1x2048_0_0_0 _))) = putRows i x14 _
    rw [rd_unread, rd_unread, rd_unread, rd_unread]
    rfl
  · refine (View.read_writes_cons_put arg15.view _ _ _ _ (off2_eq i)).trans ?_
    rw [View.writes_nil, harg15.read_unread]
    show putRows i x15 (k0_pay11 (rd arg3 ![0, 0] inb_S64x2048_S64x2048_0_0 _)) = _
    rw [rd_unread]
  · refine (View.read_writes_full arg16.view _ _ _ _).trans ?_
    show k0_pay9 (k0_pay7 (rdHalf arg14 _ (k0_off1_inb i) _) (rd arg10 ![0, 0] inb_S2048x512_S2048x512_0_0 _) (rd arg11 ![0, 0] inb_S2048x512_S2048x512_0_0 _)) (k0_pay8 i (rd arg16 ![0, 0] inb_S512x2048_S512x2048_0_0 _)) (rd arg12 ![0, 0] inb_S512x2048_S512x2048_0_0 _) = _
    rw [rdHalf_eq arg14 _ i _ (off1_eq i), harg14.read_unread, rd_unread, rd_unread, rd_unread, rd_unread]
    rfl
  · refine (View.read_writes_full arg13.view _ _ _ _).trans ?_
    have e16 : runLast.sl.v85 c i h2 arg3 harg3 arg15 harg15 x3 x15 = half ((i 0).val % 2) (mod2_lt _) x15 := by
      refine (rdHalf_eq arg15 _ i _ (off3_eq i) (k0_off3_inb i h2)).trans ?_
      rw [← half_putRows i x15 (k0_pay11 x3)]
      refine congrArg _ ((View.read_writes_cons_put arg15.view _ _ _ _ (off2_eq i)).trans ?_)
      rw [View.writes_nil, harg15.read_unread]
      show putRows i x15 (k0_pay11 (rd arg3 ![0, 0] inb_S64x2048_S64x2048_0_0 _)) = _
      rw [rd_unread]
    have e17 : runLast.sl.v91 c i arg4 harg4 arg10 harg10 arg11 harg11 arg12 harg12 arg14 harg14 arg16 harg16 x4 x10 x11 x12 x14 x16
        = accOf i x10 x11 x12 (half ((i 0).val % 2) (mod2_lt _) x14) x16 := by
      refine (View.readCov_full arg16.view _ _ _ _).trans ?_
      show k0_pay9 (k0_pay7 (rdHalf arg14 _ (k0_off1_inb i) _) (rd arg10 ![0, 0] inb_S2048x512_S2048x512_0_0 _) (rd arg11 ![0, 0] inb_S2048x512_S2048x512_0_0 _)) (k0_pay8 i (rd arg16 ![0, 0] inb_S512x2048_S512x2048_0_0 _)) (rd arg12 ![0, 0] inb_S512x2048_S512x2048_0_0 _) = _
      rw [rdHalf_eq arg14 _ i _ (off1_eq i), harg14.read_unread, rd_unread, rd_unread, rd_unread, rd_unread]
      rfl
    show k0_pay2 _ (rd arg9 ![0, 0, 0] inb_S1x1x2048_S1x1x2048_0_0_0 _) _ = _
    rw [rd_unread]
    exact congrArg₂ (fun u v => k0_pay2 u x9 v) e16 e17

/-- What the first point leaves: the first row tile in half 0, and the rows of the next in half 1. -/
theorem first_reads (h1 : condFirst i = 1#1) (h2 : ¬ k0_cond2 i = 1#1) :
    arg14.view.read (Elt F) (arg14.view.writes (Elt F) (harg14.unread x14) (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).1) = putRows i (putTile x14 (k0_pay6 x4 x2 x5 x6)) (chunkH x3 x4 x7 x8)
    ∧ arg15.view.read (Elt F) (arg15.view.writes (Elt F) (harg15.unread x15) (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.1) = putRows i (putTile x15 (k0_pay5 x2)) (k0_pay11 x3)
    ∧ arg16.view.read (Elt F) (arg16.view.writes (Elt F) (harg16.unread x16) (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.1)
      = accOf i x10 x11 x12 (half ((i 0).val % 2) (mod2_lt _) (putTile x14 (k0_pay6 x4 x2 x5 x6))) x16 := by
  have e15 : arg14.view.read (Elt F) (arg14.view.writes (Elt F) (harg14.unread x14) (runFirst.sl.H14_1 c arg2 harg2 arg4 harg4 arg5 harg5 arg6 harg6 x2 x4 x5 x6))
      = putTile x14 (k0_pay6 x4 x2 x5 x6) := by
    refine (View.read_writes_cons_put arg14.view _ _ _ _ rfl).trans ?_
    rw [View.writes_nil, harg14.read_unread]
    show putTile x14 (k0_pay6 (rd arg4 ![0, 0] inb_S1x2048_S1x2048_0_0 _) (rd arg2 ![0, 0] inb_S512x2048_S512x2048_0_0 _) (rd arg5 ![0, 0, 0] inb_S1x1x2048_S1x1x2048_0_0_0 _) (rd arg6 ![0, 0, 0] inb_S1x1x2048_S1x1x2048_0_0_0 _)) = _
    rw [rd_unread, rd_unread, rd_unread, rd_unread]
  refine ⟨?_, ?_, ?_⟩
  · refine (View.read_writes_cons_put arg14.view _ _ _ _ (off2_eq i)).trans ?_
    rw [e15]
    show putRows i _ (k0_pay1 (k0_pay12 (rd arg7 ![0, 0, 0] inb_S1x1x2048_S1x1x2048_0_0_0 _)) (k0_pay13 (k0_pay3 (rd arg4 ![0, 0] inb_S1x2048_S1x2048_0_0 _)) (rd arg3 ![0, 0] inb_S64x2048_S64x2048_0_0 _)) (k0_pay14 (rd arg8 ![0, 0, 0] inb_S1x1x2048_S1x1x2048_0_0_0 _))) = putRows i _ _
    rw [rd_unread, rd_unread, rd_unread, rd_unread]
    rfl
  · refine (View.read_writes_cons_put arg15.view _ _ _ _ (off2_eq i)).trans ?_
    refine (congrArg (fun z => putRows i z _) (View.read_writes_cons_put arg15.view _ _ _ _ rfl)).trans ?_
    rw [View.writes_nil, harg15.read_unread]
    show putRows i (putTile x15 (k0_pay5 (rd arg2 ![0, 0] inb_S512x2048_S512x2048_0_0 _))) (k0_pay11 (rd arg3 ![0, 0] inb_S64x2048_S64x2048_0_0 _)) = _
    rw [rd_unread, rd_unread]
  · refine (View.read_writes_full arg16.view _ _ _ _).trans ?_
    show k0_pay9 (k0_pay7 (rdHalf arg14 _ (k0_off1_inb i) _) (rd arg10 ![0, 0] inb_S2048x512_S2048x512_0_0 _) (rd arg11 ![0, 0] inb_S2048x512_S2048x512_0_0 _)) (k0_pay8 i (rd arg16 ![0, 0] inb_S512x2048_S512x2048_0_0 _)) (rd arg12 ![0, 0] inb_S512x2048_S512x2048_0_0 _) = _
    rw [rdHalf_eq arg14 _ i _ (off1_eq i), e15, rd_unread, rd_unread, rd_unread, rd_unread]
    rfl

/-- One grid point: from any contents of its buffers, what it leaves in each. -/
theorem step (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out14 i x9 x10 x11 x12 x13 (start15 i x2 x4 x5 x6 x14) (start16 i x2 x15) x16) ∗ owns (c : Thread nD τ) arg14 fullShare (putRows i (start15 i x2 x4 x5 x6 x14) (chunkH x3 x4 x7 x8)) ∗ owns (c : Thread nD τ) arg15 fullShare (putRows i (start16 i x2 x15) (k0_pay11 x3)) ∗ owns (c : Thread nD τ) arg16 fullShare (accOf i x10 x11 x12 (half ((i 0).val % 2) (mod2_lt _) (start15 i x2 x4 x5 x6 x14)) x16)) -∗ K ⟨⟩))
      ⊢ wp frame (wpE (defs₀ (F := F)) 𝒱₀ c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h1 : condFirst i = 1#1
  · have h2 : ¬ k0_cond2 i = 1#1 := fun h => by
      have := (condLast_iff i).mp h; have := ((condFirst_iff i).mp h1).2; omega
    have h := (runFirst c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.2 E K
    obtain ⟨r15, r16, r17⟩ := first_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16 h1 h2
    have s15 : start15 i x2 x4 x5 x6 x14 = putTile x14 (k0_pay6 x4 x2 x5 x6) := if_pos ((condFirst_iff i).mp h1)
    have s16 : start16 i x2 x15 = putTile x15 (k0_pay5 x2) := if_pos ((condFirst_iff i).mp h1)
    have s14 : out14 i x9 x10 x11 x12 x13 (start15 i x2 x4 x5 x6 x14) (start16 i x2 x15) x16 = x13 := if_neg (fun e => h2 ((condLast_iff i).mpr e))
    rw [s14, s15, s16]
    rw [← r15, ← r16, ← r17]
    exact h
  · have s15 : start15 i x2 x4 x5 x6 x14 = x14 := if_neg (fun e => h1 ((condFirst_iff i).mpr e))
    have s16 : start16 i x2 x15 = x15 := if_neg (fun e => h1 ((condFirst_iff i).mpr e))
    rw [s15, s16]
    by_cases h2 : k0_cond2 i = 1#1
    · have h := (runLast c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.2.2 E K
      obtain ⟨r15, r16, r17, r14⟩ := last_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16 h1 h2
      have s14 : out14 i x9 x10 x11 x12 x13 x14 x15 x16
        = k0_pay2 (half ((i 0).val % 2) (mod2_lt _) x15) x9 (accOf i x10 x11 x12 (half ((i 0).val % 2) (mod2_lt _) x14) x16) := if_pos ((condLast_iff i).mp h2)
      rw [s14]
      rw [← r14, ← r15, ← r16, ← r17]
      exact h
    · have h := (runMid c i h1 h2 arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16).2.2.2 E K
      obtain ⟨r15, r16, r17⟩ := mid_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 x11 x12 x13 x14 x15 x16 h1 h2
      have s14 : out14 i x9 x10 x11 x12 x13 x14 x15 x16 = x13 := if_neg (fun e => h2 ((condLast_iff i).mpr e))
      rw [s14]
      rw [← r15, ← r16, ← r17]
      exact h

end mid

end Cert.InnerClaims

end
-- ==== Proof.InnerInv.lean ====
/- What the inner feed-forward call's scratches hold before each grid point, as functions of the windows' blocks. -/
module

public import proofs.«01_k».proof.Proof.InnerStep
public import Idealize.ShloMosaic.Lib.Pointwise

@[expose] public section

set_option maxRecDepth 16384

noncomputable section

namespace Cert.InnerClaims

open Cert.Kernel3Ideal Cert.Kernel3Ideal.Gen
open Idealize.ShloMosaic Idealize.ShloMosaic.TcCoe Idealize.ShloMosaic.Tactic

variable {F : FTy → Type} [FloatOps F]

/-- The grid point at position `t`. -/
def co (t : ℕ) : grid0.Coords := grid0.coords (⟨t % 363, Nat.mod_lt _ (by decide)⟩ : Fin 363)

/-- The row tile of a step. -/
theorem co_row (t : ℕ) (ht : t < 363) : (co t 0).val = t / 11 := by
  have h : ∀ t : Fin 363, (grid0.coords (⟨t.val % 363, Nat.mod_lt _ (by decide)⟩ : Fin 363) 0).val = t.val / 11 := by decide +kernel
  exact h ⟨t, ht⟩

/-- The column tile of a step. -/
theorem co_col (t : ℕ) (ht : t < 363) : (co t 1).val = t % 11 := by
  have h : ∀ t : Fin 363, (grid0.coords (⟨t.val % 363, Nat.mod_lt _ (by decide)⟩ : Fin 363) 1).val = t.val % 11 := by decide +kernel
  exact h ⟨t, ht⟩

/-- The input windows' blocks at each position. -/
structure Blocks (F : FTy → Type) where
  x2 : ℕ → Vec F S512x2048 .f32
  x3 : ℕ → Vec F S64x2048 .f32
  x4 : ℕ → Vec F S1x2048 .f32
  x5 : ℕ → Vec F S1x1x2048 .f32
  x6 : ℕ → Vec F S1x1x2048 .f32
  x7 : ℕ → Vec F S1x1x2048 .f32
  x8 : ℕ → Vec F S1x1x2048 .f32
  x9 : ℕ → Vec F S1x1x2048 .f32
  x10 : ℕ → Vec F S2048x512 .bf16
  x11 : ℕ → Vec F S2048x512 .bf16
  x12 : ℕ → Vec F S512x2048 .bf16

variable (b : Blocks F)

/-- The column tile at which the rows of 64-row group `q` get their last value: the last group is written four times. -/
def lastAt (q : ℕ) : ℕ := if q = 7 then 10 else q

/-- The residual rows of row tile `i`. -/
def resid : ℕ → Vec F S1x512x2048 .f32
  | 0 => k0_pay5 (b.x2 0)
  | i + 1 => fun y => k0_pay11 (b.x3 (11 * i + lastAt ((y 1).val / 64))) (ix3 (0 : Fin 1) (⟨(y 1).val % 64, Nat.mod_lt _ (by decide)⟩ : Fin 64) (y 2))

/-- The normalised and modulated rows of row tile `i`. -/
def normed : ℕ → Vec F S1x512x2048 .bf16
  | 0 => k0_pay6 (b.x4 0) (b.x2 0) (b.x5 0) (b.x6 0)
  | i + 1 => fun y => chunkH (b.x3 (11 * i + lastAt ((y 1).val / 64))) (b.x4 (11 * i + lastAt ((y 1).val / 64)))
      (b.x7 (11 * i + lastAt ((y 1).val / 64))) (b.x8 (11 * i + lastAt ((y 1).val / 64))) (ix3 (0 : Fin 1) (⟨(y 1).val % 64, Nat.mod_lt _ (by decide)⟩ : Fin 64) (y 2))

/-- The residual rows that a step of the prefetch leaves for the next row tile. -/
theorem resid_succ (i : ℕ) (y : S1x512x2048.Idx) : resid b (i + 1) y
    = k0_pay11 (b.x3 (11 * i + lastAt ((y 1).val / 64))) (ix3 (0 : Fin 1) (⟨(y 1).val % 64, Nat.mod_lt _ (by decide)⟩ : Fin 64) (y 2)) := rfl

/-- The modulated rows that a step of the prefetch leaves for the next row tile. -/
theorem normed_succ (i : ℕ) (y : S1x512x2048.Idx) : normed b (i + 1) y
    = chunkH (b.x3 (11 * i + lastAt ((y 1).val / 64))) (b.x4 (11 * i + lastAt ((y 1).val / 64)))
      (b.x7 (11 * i + lastAt ((y 1).val / 64))) (b.x8 (11 * i + lastAt ((y 1).val / 64))) (ix3 (0 : Fin 1) (⟨(y 1).val % 64, Nat.mod_lt _ (by decide)⟩ : Fin 64) (y 2)) := rfl

/-- The accumulator of row tile `i` after `j` column tiles. -/
def accum (i : ℕ) : ℕ → Vec F S512x2048 .f32
  | 0 => broadcast S512x2048 (Scalar.ofBits .f32 0x00000000#32)
  | j + 1 => accOf (co (11 * i + j)) (b.x10 (11 * i + j)) (b.x11 (11 * i + j)) (b.x12 (11 * i + j)) (normed b i) (accum i j)

/-- What a finished row tile leaves in the output buffer. -/
def finished (t : ℕ) : Vec F S512x2048 .f32 :=
  k0_pay2 (resid b (t / 11)) (b.x9 t) (accum b (t / 11) 11)

/-- What the scratches hold before position `t`: the half in use is complete, the finished groups of the other half
    are those of the next row tile, and the accumulator has the row tile's earlier column tiles. -/
structure Inv (t : ℕ) (h : Vec F S2x512x2048 .bf16) (r : Vec F S2x512x2048 .f32) (a : Vec F S512x2048 .f32) : Prop where
  cur_h : 0 < t → half (t / 11 % 2) (mod2_lt _) h = normed b (t / 11)
  cur_r : 0 < t → half (t / 11 % 2) (mod2_lt _) r = resid b (t / 11)
  nxt_h : ∀ y : S1x512x2048.Idx, lastAt ((y 1).val / 64) < t % 11 → half (1 - t / 11 % 2) (by omega) h y = normed b (t / 11 + 1) y
  nxt_r : ∀ y : S1x512x2048.Idx, lastAt ((y 1).val / 64) < t % 11 → half (1 - t / 11 % 2) (by omega) r y = resid b (t / 11 + 1) y
  acc : 0 < t % 11 → a = accum b (t / 11) (t % 11)

/-- Before the first step nothing is asked of the scratches. -/
theorem inv_zero (h : Vec F S2x512x2048 .bf16) (r : Vec F S2x512x2048 .f32) (a : Vec F S512x2048 .f32) : Inv b 0 h r a :=
  ⟨fun h => absurd h (by decide), fun h => absurd h (by decide), fun _ h => absurd h (by simp), fun _ h => absurd h (by simp), fun h => absurd h (by decide)⟩

section rows
variable {α : Type} (i : grid0.Coords) (x : S2x512x2048.Idx → α) (w : S1x64x2048.Idx → α) (y : S1x512x2048.Idx)

/-- A row of the group just put reads the rows put. -/
theorem putRows_in (k : ℕ) (hk : k < 2) (hki : k = 1 - (i 0).val % 2) (hy : (y 1).val / 64 = min (i 1).val 7) :
    half k hk (putRows i x w) y = w (ix3 (0 : Fin 1) (⟨(y 1).val % 64, Nat.mod_lt _ (by decide)⟩ : Fin 64) (y 2)) := by
  subst hki
  unfold half VecWindow.window putRows VecWindow.put
  have h0 : (y 0).val = 0 := by have : (y 0).val < 1 := (y 0).isLt; omega
  have h2 : (y 2).val < 2048 := (y 2).isLt
  rw [dif_pos]
  · refine congrArg w (funext fun a => Fin.ext ?_)
    match a with
    | 0 => show (1 - (i 0).val % 2 + 1 * (y 0).val) - (1 - (i 0).val % 2) = 0; omega
    | 1 => show (0 + 1 * (y 1).val) - 64 * min (i 1).val 7 = (y 1).val % 64; omega
    | 2 => show (0 + 1 * (y 2).val) - 0 = (y 2).val; omega
  · intro a
    match a with
    | 0 => show 1 - (i 0).val % 2 ≤ 1 - (i 0).val % 2 + 1 * (y 0).val ∧ 1 - (i 0).val % 2 + 1 * (y 0).val < 1 - (i 0).val % 2 + 1; omega
    | 1 => show 64 * min (i 1).val 7 ≤ 0 + 1 * (y 1).val ∧ 0 + 1 * (y 1).val < 64 * min (i 1).val 7 + 64; omega
    | 2 => show 0 ≤ 0 + 1 * (y 2).val ∧ 0 + 1 * (y 2).val < 0 + 2048; omega

/-- A row of another group reads what was there. -/
theorem putRows_out (k : ℕ) (hk : k < 2) (hy : (y 1).val / 64 ≠ min (i 1).val 7) :
    half k hk (putRows i x w) y = half k hk x y := by
  unfold half VecWindow.window putRows VecWindow.put
  rw [dif_neg]
  intro h
  have h1 : 64 * min (i 1).val 7 ≤ 0 + 1 * (y 1).val ∧ 0 + 1 * (y 1).val < 64 * min (i 1).val 7 + 64 := h 1
  omega

end rows

/-- The half in use does not depend on what the first point found. -/
theorem half_start15 (t : ℕ) (ht : t < 363) {h : Vec F S2x512x2048 .bf16} {r : Vec F S2x512x2048 .f32} {a : Vec F S512x2048 .f32} (hi : Inv b t h r a) :
    half ((co t 0).val % 2) (mod2_lt _) (start15 (co t) (b.x2 t) (b.x4 t) (b.x5 t) (b.x6 t) h) = normed b (t / 11) := by
  have e0 := co_row t ht
  have e1 := co_col t ht
  by_cases h0 : t = 0
  · subst h0
    unfold start15
    rw [if_pos ⟨e0, e1⟩]
    have : half ((co 0 0).val % 2) (mod2_lt _) = half (α := Elt F .bf16) 0 (by decide) := by congr 1
    rw [this]
    exact VecWindow.window_put_same _ _ _ _ _
  · unfold start15
    rw [if_neg (by omega)]
    have := hi.cur_h (by omega)
    rw [← this]; congr 1; omega

/-- At a step past the first of all, the current half of the modulated scratch holds the whole row tile. -/
theorem half_start16 (t : ℕ) (ht : t < 363) {h : Vec F S2x512x2048 .bf16} {r : Vec F S2x512x2048 .f32} {a : Vec F S512x2048 .f32} (hi : Inv b t h r a) :
    half ((co t 0).val % 2) (mod2_lt _) (start16 (co t) (b.x2 t) r) = resid b (t / 11) := by
  have e0 := co_row t ht
  have e1 := co_col t ht
  by_cases h0 : t = 0
  · subst h0
    unfold start16
    rw [if_pos ⟨e0, e1⟩]
    have : half ((co 0 0).val % 2) (mod2_lt _) = half (α := Elt F .f32) 0 (by decide) := by congr 1
    rw [this]
    exact VecWindow.window_put_same _ _ _ _ _
  · unfold start16
    rw [if_neg (by omega)]
    have := hi.cur_r (by omega)
    rw [← this]; congr 1; omega

/-- The mask "past the first column tile" as a word. -/
theorem cond_gt : ∀ j : Fin 11, Scalar.cmpi .sgt (BitVec.ofNat 32 j.val) 0#32 = if j.val = 0 then 0#1 else 1#1 := by decide +kernel

/-- At a row tile's first column tile the accumulator's old contents are not read. -/
theorem pay8_of (i : grid0.Coords) (a : Vec F S512x2048 .f32) :
    k0_pay8 i a = if (i 1).val = 0 then broadcast S512x2048 (Scalar.ofBits .f32 0x00000000#32) else a := by
  unfold k0_pay8
  have := cond_gt (i 1)
  dsimp only
  rw [this]
  split <;> rfl

/-- The accumulator after a step does not depend on what it held where the step starts a row tile. -/
theorem accOf_of (i : grid0.Coords) (x10 x11 : Vec F S2048x512 .bf16) (x12 : Vec F S512x2048 .bf16) (h : Vec F S1x512x2048 .bf16) (a a' : Vec F S512x2048 .f32)
    (ha : 0 < (i 1).val → a = a') : accOf i x10 x11 x12 h a = accOf i x10 x11 x12 h a' := by
  unfold accOf
  rw [pay8_of, pay8_of]
  split
  · rfl
  · rw [ha (by omega)]

/-- The accumulator after the point. -/
theorem acc_next (t : ℕ) (ht : t < 363) {h : Vec F S2x512x2048 .bf16} {r : Vec F S2x512x2048 .f32} {a : Vec F S512x2048 .f32} (hi : Inv b t h r a) :
    accOf (co t) (b.x10 t) (b.x11 t) (b.x12 t) (half ((co t 0).val % 2) (mod2_lt _) (start15 (co t) (b.x2 t) (b.x4 t) (b.x5 t) (b.x6 t) h)) a
      = accum b (t / 11) (t % 11 + 1) := by
  rw [half_start15 b t ht hi]
  have et : 11 * (t / 11) + t % 11 = t := Nat.div_add_mod t 11
  show _ = accOf (co (11 * (t / 11) + t % 11)) (b.x10 (11 * (t / 11) + t % 11)) (b.x11 (11 * (t / 11) + t % 11)) (b.x12 (11 * (t / 11) + t % 11)) _ _
  rw [et]
  exact accOf_of _ _ _ _ _ _ _ fun hp => hi.acc (by rw [co_col t ht] at hp; exact hp)

section next
variable (t : ℕ) (ht : t < 363) {h : Vec F S2x512x2048 .bf16} {r : Vec F S2x512x2048 .f32} {a : Vec F S512x2048 .f32}

/-- The start leaves the other half alone. -/
theorem half_other15 (ht : t < 363) (k : ℕ) (hk : k < 2) (e : k = 1 - t / 11 % 2) (x2 : Vec F S512x2048 .f32) (x4 : Vec F S1x2048 .f32) (x5 x6 : Vec F S1x1x2048 .f32) :
    half k hk (start15 (co t) x2 x4 x5 x6 h) = half k hk h := by
  unfold start15
  split
  · rename_i hc
    rw [co_row t ht] at hc
    refine VecWindow.window_put_of_disjoint _ _ _ _ _ _ _ 0 (Or.inr ?_)
    show 0 + 1 ≤ k
    omega
  · rfl

/-- The rows of the other half after a step, in the modulated scratch. -/
theorem half_other16 (ht : t < 363) (k : ℕ) (hk : k < 2) (e : k = 1 - t / 11 % 2) (x2 : Vec F S512x2048 .f32) :
    half k hk (start16 (co t) x2 r) = half k hk r := by
  unfold start16
  split
  · rename_i hc
    rw [co_row t ht] at hc
    refine VecWindow.window_put_of_disjoint _ _ _ _ _ _ _ 0 (Or.inr ?_)
    show 0 + 1 ≤ k
    omega
  · rfl

/-- After the point, the groups whose last value has been written hold the next row tile's rows. -/
theorem other_h (ht : t < 363) (hi : Inv b t h r a) (k : ℕ) (hk : k < 2) (e : k = 1 - t / 11 % 2) (y : S1x512x2048.Idx) (hy : lastAt ((y 1).val / 64) < t % 11 + 1) :
    half k hk (putRows (co t) (start15 (co t) (b.x2 t) (b.x4 t) (b.x5 t) (b.x6 t) h) (chunkH (b.x3 t) (b.x4 t) (b.x7 t) (b.x8 t))) y = normed b (t / 11 + 1) y := by
  have e0 := co_row t ht
  have e1 := co_col t ht
  have h1 : (y 1).val < 512 := (y 1).isLt
  by_cases hq : (y 1).val / 64 = min (t % 11) 7
  · rw [putRows_in (co t) _ _ y k hk (by omega) (by omega)]
    have et : 11 * (t / 11) + lastAt ((y 1).val / 64) = t := by unfold lastAt at hy ⊢; split at hy <;> split <;> omega
    rw [normed_succ, et]
  · rw [putRows_out (co t) _ _ y k hk (by omega), half_other15 t ht k hk e]
    subst e
    exact hi.nxt_h y (by unfold lastAt at hy ⊢; split at hy <;> split <;> omega)

/-- The rows of the other half after a step, in the residual scratch. -/
theorem other_r (ht : t < 363) (hi : Inv b t h r a) (k : ℕ) (hk : k < 2) (e : k = 1 - t / 11 % 2) (y : S1x512x2048.Idx) (hy : lastAt ((y 1).val / 64) < t % 11 + 1) :
    half k hk (putRows (co t) (start16 (co t) (b.x2 t) r) (k0_pay11 (b.x3 t))) y = resid b (t / 11 + 1) y := by
  have e0 := co_row t ht
  have e1 := co_col t ht
  have h1 : (y 1).val < 512 := (y 1).isLt
  by_cases hq : (y 1).val / 64 = min (t % 11) 7
  · rw [putRows_in (co t) _ _ y k hk (by omega) (by omega)]
    have et : 11 * (t / 11) + lastAt ((y 1).val / 64) = t := by unfold lastAt at hy ⊢; split at hy <;> split <;> omega
    rw [resid_succ, et]
  · rw [putRows_out (co t) _ _ y k hk (by omega), half_other16 t ht k hk e]
    subst e
    exact hi.nxt_r y (by unfold lastAt at hy ⊢; split at hy <;> split <;> omega)

/-- The half in use is not touched by the rows put. -/
theorem cur_kept {α : Type} (ht : t < 363) (x : S2x512x2048.Idx → α) (w : S1x64x2048.Idx → α) (k : ℕ) (hk : k < 2) (e : k = t / 11 % 2) :
    half k hk (putRows (co t) x w) = half ((co t 0).val % 2) (mod2_lt _) x := by
  have e0 := co_row t ht
  rw [← half_putRows (co t) x w]
  congr 1
  omega

/-- One point keeps the invariant. -/
theorem inv_next (ht : t < 363) (hi : Inv b t h r a) :
    Inv b (t + 1) (putRows (co t) (start15 (co t) (b.x2 t) (b.x4 t) (b.x5 t) (b.x6 t) h) (chunkH (b.x3 t) (b.x4 t) (b.x7 t) (b.x8 t)))
      (putRows (co t) (start16 (co t) (b.x2 t) r) (k0_pay11 (b.x3 t)))
      (accOf (co t) (b.x10 t) (b.x11 t) (b.x12 t) (half ((co t 0).val % 2) (mod2_lt _) (start15 (co t) (b.x2 t) (b.x4 t) (b.x5 t) (b.x6 t) h)) a) := by
  have hl : ∀ y : S1x512x2048.Idx, lastAt ((y 1).val / 64) < 11 := fun y => by
    have h1 : (y 1).val < 512 := (y 1).isLt
    unfold lastAt; split <;> omega
  by_cases hj : t % 11 = 10
  · have ed : (t + 1) / 11 = t / 11 + 1 := by omega
    have em : (t + 1) % 11 = 0 := by omega
    refine ⟨fun _ => ?_, fun _ => ?_, fun y hy => ?_, fun y hy => ?_, fun hp => ?_⟩
    · funext y
      rw [show normed b ((t + 1) / 11) y = normed b (t / 11 + 1) y by rw [ed]]
      exact other_h b t ht hi _ _ (by omega) y (by have := hl y; omega)
    · funext y
      rw [show resid b ((t + 1) / 11) y = resid b (t / 11 + 1) y by rw [ed]]
      exact other_r b t ht hi _ _ (by omega) y (by have := hl y; omega)
    · omega
    · omega
    · omega
  · have ed : (t + 1) / 11 = t / 11 := by omega
    have em : (t + 1) % 11 = t % 11 + 1 := by omega
    refine ⟨fun _ => ?_, fun _ => ?_, fun y hy => ?_, fun y hy => ?_, fun hp => ?_⟩
    · rw [cur_kept t ht _ _ _ _ (by omega), half_start15 b t ht hi, ed]
    · rw [cur_kept t ht _ _ _ _ (by omega), half_start16 b t ht hi, ed]
    · rw [show normed b ((t + 1) / 11 + 1) y = normed b (t / 11 + 1) y by rw [ed]]
      exact other_h b t ht hi _ _ (by omega) y (by omega)
    · rw [show resid b ((t + 1) / 11 + 1) y = resid b (t / 11 + 1) y by rw [ed]]
      exact other_r b t ht hi _ _ (by omega) y (by omega)
    · rw [acc_next b t ht hi, ed, em]

/-- The output buffer after the point. -/
theorem out_next (ht : t < 363) (hi : Inv b t h r a) (x13 : Vec F S512x2048 .f32) :
    out14 (co t) (b.x9 t) (b.x10 t) (b.x11 t) (b.x12 t) x13 (start15 (co t) (b.x2 t) (b.x4 t) (b.x5 t) (b.x6 t) h) (start16 (co t) (b.x2 t) r) a
      = if t % 11 = 10 then finished b t else x13 := by
  unfold out14
  rw [co_col t ht]
  split
  · rename_i hj
    rw [acc_next b t ht hi, half_start16 b t ht hi, hj]
    rfl
  · rfl

end next

end Cert.InnerClaims

end
-- ==== Proof.InnerRun.lean ====
/- The inner feed-forward call's run: the body at every grid point keeps the scratches' invariant, and the whole call ends. -/
module

public import proofs.«01_k».proof.Proof.InnerInv
public import Idealize.ShloMosaic.Lib.Pipeline.Quiescent

@[expose] public section

set_option maxRecDepth 16384

noncomputable section

namespace Cert.InnerClaims

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point at position `t`, as a number below the grid's size. -/
def pt (t : ℕ) : Fin cfg0.N := (⟨t % 363, Nat.mod_lt _ (by decide)⟩ : Fin 363)

/-- A point of the grid is the point of its own number. -/
theorem pt_eq (t : Fin cfg0.N) : pt t.val = t := by
  have ht : t.val < 363 := t.isLt
  exact Fin.ext (Nat.mod_eq_of_lt ht)

/-- The blocks of the eleven input windows. -/
def blocks (c : Dev nD) : Blocks F where
  x2 t := iblk m c 0 (pt t)
  x3 t := iblk m c 1 (pt t)
  x4 t := iblk m c 2 (pt t)
  x5 t := iblk m c 3 (pt t)
  x6 t := iblk m c 4 (pt t)
  x7 t := iblk m c 5 (pt t)
  x8 t := iblk m c 6 (pt t)
  x9 t := iblk m c 7 (pt t)
  x10 t := iblk m c 8 (pt t)
  x11 t := iblk m c 9 (pt t)
  x12 t := iblk m c 10 (pt t)

/-- The scratches before position `t`: some contents that keep the invariant. -/
def held (c : Dev nD) (t : ℕ) : sProp 𝕄 :=
  iprop(∃ h : Vec F S2x512x2048 .bf16, ∃ r : Vec F S2x512x2048 .f32, ∃ a : Vec F S512x2048 .f32, ⌜Inv (blocks m c) t h r a⌝
    ∗ owns (c : Thread nD τ) (Memref.whole cc0_scratch0) fullShare h ∗ owns (c : Thread nD τ) (Memref.whole cc0_scratch1) fullShare r
    ∗ owns (c : Thread nD τ) (Memref.whole cc0_scratch2) fullShare a ∗ ∃ g, prngReg c g)

/-- The proof data: inputs stay, the output buffer is handed on finished, and the scratches keep their invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => finished (blocks m c) t.val
  Φ t := held m c t.val
  q w := Pipeline.shareOf spec0 w
  owed _ := 0

/-- The arrays that the windows stand on are the ones the host prepared. -/
theorem A_eq (c : Dev nD) (w : Fin cfg0.W) : (dats m 0 c).A w = V m c (Pipeline.arrRef spec0 w) := by dsimp only [dats]

/-- What window 0 holds after a step. -/
theorem after0_0 (c : Dev nD) (t : Fin cfg0.N) : (dats m 0 c).after 0 t = iblk m c 0 t := by dsimp only [dats]
/-- What window 1 holds after a step. -/
theorem after0_1 (c : Dev nD) (t : Fin cfg0.N) : (dats m 0 c).after 1 t = iblk m c 1 t := by dsimp only [dats]
/-- What window 2 holds after a step. -/
theorem after0_2 (c : Dev nD) (t : Fin cfg0.N) : (dats m 0 c).after 2 t = iblk m c 2 t := by dsimp only [dats]
/-- What window 3 holds after a step. -/
theorem after0_3 (c : Dev nD) (t : Fin cfg0.N) : (dats m 0 c).after 3 t = iblk m c 3 t := by dsimp only [dats]
/-- What window 4 holds after a step. -/
theorem after0_4 (c : Dev nD) (t : Fin cfg0.N) : (dats m 0 c).after 4 t = iblk m c 4 t := by dsimp only [dats]
/-- What window 5 holds after a step. -/
theorem after0_5 (c : Dev nD) (t : Fin cfg0.N) : (dats m 0 c).after 5 t = iblk m c 5 t := by dsimp only [dats]
/-- What window 6 holds after a step. -/
theorem after0_6 (c : Dev nD) (t : Fin cfg0.N) : (dats m 0 c).after 6 t = iblk m c 6 t := by dsimp only [dats]
/-- What window 7 holds after a step. -/
theorem after0_7 (c : Dev nD) (t : Fin cfg0.N) : (dats m 0 c).after 7 t = iblk m c 7 t := by dsimp only [dats]
/-- What window 8 holds after a step. -/
theorem after0_8 (c : Dev nD) (t : Fin cfg0.N) : (dats m 0 c).after 8 t = iblk m c 8 t := by dsimp only [dats]
/-- What window 9 holds after a step. -/
theorem after0_9 (c : Dev nD) (t : Fin cfg0.N) : (dats m 0 c).after 9 t = iblk m c 9 t := by dsimp only [dats]
/-- What window 10 holds after a step. -/
theorem after0_10 (c : Dev nD) (t : Fin cfg0.N) : (dats m 0 c).after 10 t = iblk m c 10 t := by dsimp only [dats]
/-- What window 11 holds after a step. -/
theorem after0_11 (c : Dev nD) (t : Fin cfg0.N) : (dats m 0 c).after 11 t = finished (blocks m c) t.val := by dsimp only [dats]

/-- The output window is left alone off the last column tile. -/
theorem idle_eq (t : Fin cfg0.N) : cfg0.idle 11 (cfg0.grid.coords t) = !decide (t.val % 11 = 10) := by
  have h : ∀ t : Fin 363, cfg0.idle 11 (cfg0.grid.coords t) = !decide (t.val % 11 = 10) := by decide +kernel
  exact h t

/-- A row tile of the result is written back after its last column tile. -/
theorem flush_eq (t : Fin cfg0.N) : (cfg0.win 11).flush t = decide (t.val % 11 = 10) := by
  have := flush0_11 t
  rcases h : (cfg0.win 11).flush t with _ | _ <;> simp_all

/-- What window 0 holds before a step. -/
theorem before0_0 (c : Dev nD) (t : Fin cfg0.N) (d) : (dats m 0 c).before 0 t d = iblk m c 0 t :=
  before0_0_of m (dats m 0 c) (A_eq m c 0) (after0_0 m c) t d
/-- What window 1 holds before a step. -/
theorem before0_1 (c : Dev nD) (t : Fin cfg0.N) (d) : (dats m 0 c).before 1 t d = iblk m c 1 t :=
  before0_1_of m (dats m 0 c) (A_eq m c 1) (after0_1 m c) t d
/-- What window 2 holds before a step. -/
theorem before0_2 (c : Dev nD) (t : Fin cfg0.N) (d) : (dats m 0 c).before 2 t d = iblk m c 2 t :=
  before0_2_of m (dats m 0 c) (A_eq m c 2) (after0_2 m c) t d
/-- What window 3 holds before a step. -/
theorem before0_3 (c : Dev nD) (t : Fin cfg0.N) (d) : (dats m 0 c).before 3 t d = iblk m c 3 t :=
  before0_3_of m (dats m 0 c) (A_eq m c 3) (after0_3 m c) t d
/-- What window 4 holds before a step. -/
theorem before0_4 (c : Dev nD) (t : Fin cfg0.N) (d) : (dats m 0 c).before 4 t d = iblk m c 4 t :=
  before0_4_of m (dats m 0 c) (A_eq m c 4) (after0_4 m c) t d
/-- What window 5 holds before a step. -/
theorem before0_5 (c : Dev nD) (t : Fin cfg0.N) (d) : (dats m 0 c).before 5 t d = iblk m c 5 t :=
  before0_5_of m (dats m 0 c) (A_eq m c 5) (after0_5 m c) t d
/-- What window 6 holds before a step. -/
theorem before0_6 (c : Dev nD) (t : Fin cfg0.N) (d) : (dats m 0 c).before 6 t d = iblk m c 6 t :=
  before0_6_of m (dats m 0 c) (A_eq m c 6) (after0_6 m c) t d
/-- What window 7 holds before a step. -/
theorem before0_7 (c : Dev nD) (t : Fin cfg0.N) (d) : (dats m 0 c).before 7 t d = iblk m c 7 t :=
  before0_7_of m (dats m 0 c) (A_eq m c 7) (after0_7 m c) t d
/-- What window 8 holds before a step. -/
theorem before0_8 (c : Dev nD) (t : Fin cfg0.N) (d) : (dats m 0 c).before 8 t d = iblk m c 8 t :=
  before0_8_of m (dats m 0 c) (A_eq m c 8) (after0_8 m c) t d
/-- What window 9 holds before a step. -/
theorem before0_9 (c : Dev nD) (t : Fin cfg0.N) (d) : (dats m 0 c).before 9 t d = iblk m c 9 t :=
  before0_9_of m (dats m 0 c) (A_eq m c 9) (after0_9 m c) t d
/-- What window 10 holds before a step. -/
theorem before0_10 (c : Dev nD) (t : Fin cfg0.N) (d) : (dats m 0 c).before 10 t d = iblk m c 10 t :=
  before0_10_of m (dats m 0 c) (A_eq m c 10) (after0_10 m c) t d

/-- The coordinates of a step are those of its grid point. -/
theorem co_eq (t : Fin cfg0.N) : co t.val = grid0.coords t := congrArg grid0.coords (pt_eq t)

/-- The body at a grid point, from the windows' buffers and the scratches' invariant. -/
def bodyPre (c : Dev nD) (t : Fin cfg0.N) : sProp 𝕄 :=
  iprop(held m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it leaves: the output buffer finished at the last column tile, else as it was. -/
def bodyPost (c : Dev nD) (t : Fin cfg0.N) : sProp 𝕄 :=
  iprop(held m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ ∃ d, owns (c : Thread nD τ) (st0_11 t) fullShare (if t.val % 11 = 10 then finished (blocks m c) t.val else (dats m 0 c).before 11 t d))

set_option maxHeartbeats 1200000 in
/-- A step of the grid takes the invariant and the windows before it to those after it. -/
theorem sound_body (c : Dev nD) (t : Fin cfg0.N) :
    bodyPre m c t ⊢ wp frame (wpE (defs₀ (F := F)) 𝒱₀ c none) Set.univ (bodyAt0 t) (fun _ => bodyPost m c t) := by
  have ht : t.val < 363 := t.isLt
  have b2 : (blocks m c).x2 t.val = iblk m c 0 t := by
    have e := pt_eq t; show iblk m c 0 (pt t.val) = iblk m c 0 t; generalize pt t.val = s at e ⊢; subst e; rfl
  have b3 : (blocks m c).x3 t.val = iblk m c 1 t := by
    have e := pt_eq t; show iblk m c 1 (pt t.val) = iblk m c 1 t; generalize pt t.val = s at e ⊢; subst e; rfl
  have b4 : (blocks m c).x4 t.val = iblk m c 2 t := by
    have e := pt_eq t; show iblk m c 2 (pt t.val) = iblk m c 2 t; generalize pt t.val = s at e ⊢; subst e; rfl
  have b5 : (blocks m c).x5 t.val = iblk m c 3 t := by
    have e := pt_eq t; show iblk m c 3 (pt t.val) = iblk m c 3 t; generalize pt t.val = s at e ⊢; subst e; rfl
  have b6 : (blocks m c).x6 t.val = iblk m c 4 t := by
    have e := pt_eq t; show iblk m c 4 (pt t.val) = iblk m c 4 t; generalize pt t.val = s at e ⊢; subst e; rfl
  have b7 : (blocks m c).x7 t.val = iblk m c 5 t := by
    have e := pt_eq t; show iblk m c 5 (pt t.val) = iblk m c 5 t; generalize pt t.val = s at e ⊢; subst e; rfl
  have b8 : (blocks m c).x8 t.val = iblk m c 6 t := by
    have e := pt_eq t; show iblk m c 6 (pt t.val) = iblk m c 6 t; generalize pt t.val = s at e ⊢; subst e; rfl
  have b9 : (blocks m c).x9 t.val = iblk m c 7 t := by
    have e := pt_eq t; show iblk m c 7 (pt t.val) = iblk m c 7 t; generalize pt t.val = s at e ⊢; subst e; rfl
  have b10 : (blocks m c).x10 t.val = iblk m c 8 t := by
    have e := pt_eq t; show iblk m c 8 (pt t.val) = iblk m c 8 t; generalize pt t.val = s at e ⊢; subst e; rfl
  have b11 : (blocks m c).x11 t.val = iblk m c 9 t := by
    have e := pt_eq t; show iblk m c 9 (pt t.val) = iblk m c 9 t; generalize pt t.val = s at e ⊢; subst e; rfl
  have b12 : (blocks m c).x12 t.val = iblk m c 10 t := by
    have e := pt_eq t; show iblk m c 10 (pt t.val) = iblk m c 10 t; generalize pt t.val = s at e ⊢; subst e; rfl
  unfold bodyPre bodyPost bodyAt0 held
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10]
  iintro ⟨⟨%h, %r, %a, %hi, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hn := inv_next (blocks m c) t.val ht hi
  have ho := out_next (blocks m c) t.val ht hi ((dats m 0 c).before 11 t d11)
  rw [co_eq, b2, b3, b4, b5, b6, b7, b8, b10, b11, b12] at hn
  rw [co_eq, b2, b4, b5, b6, b9, b10, b11, b12] at ho
  iapply (step c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) h r a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  rw [ho]
  isplitl [HS0 HS1 HS2 Hg]
  · iexists _; iexists _; iexists _
    isplitr; · ipureintro; exact hn
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

/-- The definitions of a step, as the run asks for them. -/
theorem defs₀_row (t : Fin cfg0.N) :
    defs₀ (F := F) .tc cfg0.body (cfg0.bodyArgs t (cfg0.slots t)) = bodyAt0 t := by
  unfold defs₀; rw [Defs.onTc_tc]

/-- The output window's part of what the body leaves. -/
theorem post11 (c : Dev nD) (t : Fin cfg0.N) :
    (iprop(∃ d, owns (c : Thread nD τ) (st0_11 t) fullShare (if t.val % 11 = 10 then finished (blocks m c) t.val else (dats m 0 c).before 11 t d)) : sProp 𝕄)
      ⊢ (match cfg0.idle 11 (cfg0.grid.coords t) with
          | true =>
            match (cfg0.win 11).flush t with
            | false => iprop(∃ d, owns (c : Thread nD τ) ((cfg0.win 11).stage (cfg0.slots t 11)) fullShare ((dats m 0 c).before 11 t d))
            | true =>
              match cfg0.loose 11 with
              | true => iprop(∃ d, owns (c : Thread nD τ) ((cfg0.win 11).stage (cfg0.slots t 11)) fullShare ((cfg0.win 11).fill (cfg0.grid.coords t) d ((cfg0.win 11).cut (cfg0.grid.coords t) ((dats m 0 c).after 11 t))))
              | false => owns (c : Thread nD τ) ((cfg0.win 11).stage (cfg0.slots t 11)) fullShare ((dats m 0 c).after 11 t)
          | false =>
            match cfg0.loose 11 with
            | true => iprop(∃ d, owns (c : Thread nD τ) ((cfg0.win 11).stage (cfg0.slots t 11)) fullShare ((cfg0.win 11).fill (cfg0.grid.coords t) d ((cfg0.win 11).cut (cfg0.grid.coords t) ((dats m 0 c).after 11 t))))
            | false => owns (c : Thread nD τ) ((cfg0.win 11).stage (cfg0.slots t 11)) fullShare ((dats m 0 c).after 11 t)) := by
  rw [idle_eq, flush_eq, show cfg0.loose 11 = false from rfl, after0_11]
  by_cases hj : t.val % 11 = 10
  · simp only [hj, decide_true, Bool.not_true, if_true]
    iintro ⟨%d, H⟩
    iexact H
  · simp only [hj, decide_false, Bool.not_false, if_false]
    exact .rfl

/-- What the scratches hold after a step. -/
theorem Phi_succ (c : Dev nD) (t : Fin cfg0.N) : (dats m 0 c).Φ t.succ = held m c (t.val + 1) := by
  dsimp only [dats]; rw [Fin.val_succ]

/-- The library's body obligation. -/
theorem body_obligation (c : Dev nD) : BodyObligationLoose (dats (F := F) m 0 c) (defs₀ (F := F)) 𝒱₀ () Set.univ := fun t => by
  rw [bigSep_W0, bigSep_W0, defs₀_row, Phi_succ]
  refine triple_restated (sound_body m c t) rfl .rfl fun _ => ?_
  unfold bodyPost
  iintro ⟨HP, Ho, H0, H1, H2, H3, H4, H5, H6, H7, H8, H9, H10, H11⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (post11 m c t)
  iexact H11

/-- What the pipeline hands over and takes back: the three scratches at some contents. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ ∃ d, owns (c : Thread nD τ) (Memref.whole cc0_scratch2) fullShare d) ∗ ∃ r, prngReg c r) := by
  unfold Pipeline.ΦA; rw [scopedRest0_eq]; simp only [owns_whole]

/-- The scratches at any contents keep the invariant before the first point. -/
theorem held_in (c : Dev nD) : Pipeline.ΦA spec0 c ⊢ (dats m 0 c).Φ 0 := by
  show _ ⊢ held m c 0
  rw [PhiA_eq]
  unfold held
  iintro ⟨⟨⟨%f0, H0⟩, ⟨%f1, H1⟩, ⟨%f2, H2⟩⟩, Hg⟩
  iexists f0; iexists f1; iexists f2
  isplitr; · ipureintro; exact inv_zero _ _ _ _
  isplitl [H0]; · iexact H0
  isplitl [H1]; · iexact H1
  isplitl [H2]; · iexact H2
  iexact Hg

/-- The last invariant gives back the scratches with some contents. -/
theorem held_out (c : Dev nD) : (dats m 0 c).Φ (Fin.last cfg0.N) ⊢ Pipeline.ΦA spec0 c := by
  dsimp only [dats]
  rw [PhiA_eq]
  unfold held
  iintro ⟨%h, %r, %a, -, H0, H1, H2, Hg⟩
  isplitl [H0 H1 H2]
  · isplitl [H0]; · iexists h; iexact H0
    isplitl [H1]; · iexists r; iexact H1
    iexists a; iexact H2
  iexact Hg

set_option backward.isDefEq.respectTransparency.types false in
/-- The call runs to its end: every array at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := body_obligation m) (hq := fun _ _ _ => rfl)
    (howed := fun _ _ => rfl) (V := V m) (hmain := hmain m 𝒱₀) (hA := A_eq m) (hin := held_in m) (hout := held_out m)

/-- The frame of the call, over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_with_sems (frame_of m ρ (dats m) (A_eq m)) (run_main m ρ)

end Cert.InnerClaims

end
-- ==== Proof.InnerPlaces.lean ====
module

public import proofs.«01_k».proof.Proof.InnerRun
public import Idealize.ShloMosaic.Lib.Pointwise

/-! # Which part of its array each window of the inner feed-forward call is at a grid point

Point `t` of the grid is row tile `t / 11` and column tile `t % 11`. -/

@[expose] public section

set_option maxRecDepth 16896

noncomputable section

namespace Cert.InnerClaims

open Cert.Kernel3Ideal Cert.Kernel3Ideal.Gen
open Idealize.ShloMosaic Idealize.ShloMosaic.TcCoe
open Idealize.ShloMosaic.Pipeline (Window Dat)

/-- The grid has 363 points. -/
theorem lt_points (t : Fin cfg0.N) : t.val < 363 := t.isLt

/-- The block of window 0 at a grid point. -/
theorem place0 : ∀ t : Fin grid0.N, win0_0.index t = ![0, 0] := by decide +kernel
/-- The block of window 1 at a grid point. -/
theorem place1 : ∀ t : Fin grid0.N, win0_1.index t = ![8 * (min (t.val / 11 + 1) 32) + min (t.val % 11) 7, 0] := by decide +kernel
/-- The block of window 2 at a grid point. -/
theorem place2 : ∀ t : Fin grid0.N, win0_2.index t = ![0, 0] := by decide +kernel
/-- The block of window 3 at a grid point. -/
theorem place3 : ∀ t : Fin grid0.N, win0_3.index t = ![t.val / 176, 0, 0] := by decide +kernel
/-- The block of window 4 at a grid point. -/
theorem place4 : ∀ t : Fin grid0.N, win0_4.index t = ![t.val / 176, 0, 0] := by decide +kernel
/-- The block of window 5 at a grid point. -/
theorem place5 : ∀ t : Fin grid0.N, win0_5.index t = ![(min (t.val / 11 + 1) 32) / 16, 0, 0] := by decide +kernel
/-- The block of window 6 at a grid point. -/
theorem place6 : ∀ t : Fin grid0.N, win0_6.index t = ![(min (t.val / 11 + 1) 32) / 16, 0, 0] := by decide +kernel
/-- The block of window 7 at a grid point. -/
theorem place7 : ∀ t : Fin grid0.N, win0_7.index t = ![t.val / 176, 0, 0] := by decide +kernel
/-- The block of window 8 at a grid point. -/
theorem place8 : ∀ t : Fin grid0.N, win0_8.index t = ![0, t.val % 11] := by decide +kernel
/-- The block of window 9 at a grid point. -/
theorem place9 : ∀ t : Fin grid0.N, win0_9.index t = ![0, t.val % 11] := by decide +kernel
/-- The block of window 10 at a grid point. -/
theorem place10 : ∀ t : Fin grid0.N, win0_10.index t = ![t.val % 11, 0] := by decide +kernel
/-- The block of window 11 at a grid point. -/
theorem place11 : ∀ t : Fin grid0.N, win0_11.index t = ![t.val / 11, 0] := by decide +kernel

/-- The first row tile. -/
theorem put0 (t : Fin cfg0.N) (p : Fin 512) (q : Fin 2048) : ((cfg0.win 0).blk t).view.emb (ix2 p q)
    = ix2 ⟨p, by omega⟩ q := by
  have hi := place0 t
  funext a
  apply Fin.ext
  refine (Window.rect_emb_val win0_0 t (ix2 p q) a).trans ?_
  fin_cases a
  · show win0_0.index t 0 * 512 + p.val = _; rw [hi]; show 0 * 512 + _ = _; simp
  · show win0_0.index t 1 * 2048 + q.val = _; rw [hi]; show 0 * 2048 + _ = _; simp

/-- An entry of the block that window 0 holds, in its array. -/
theorem take0 (t : Fin cfg0.N) (p : Fin 512) (q : Fin 2048) (A : S16896x2048.Idx → EReal) :
    ((cfg0.win 0).blk t).view.read (Elt Ideal) A (ix2 p q) = A (ix2 ⟨p, by omega⟩ q) := by
  rw [View.read_apply, put0]
  rfl

/-- The 64 rows being prepared. -/
theorem put1 (t : Fin cfg0.N) (p : Fin 64) (q : Fin 2048) : ((cfg0.win 1).blk t).view.emb (ix2 p q)
    = ix2 ⟨64 * (8 * (min (t.val / 11 + 1) 32) + min (t.val % 11) 7) + p, by have := lt_points t; omega⟩ q := by
  have hi := place1 t
  funext a
  apply Fin.ext
  refine (Window.rect_emb_val win0_1 t (ix2 p q) a).trans ?_
  fin_cases a
  · show win0_1.index t 0 * 64 + p.val = _; rw [hi]; exact congrArg (· + p.val) (Nat.mul_comm _ _)
  · show win0_1.index t 1 * 2048 + q.val = _; rw [hi]; show 0 * 2048 + _ = _; simp

/-- An entry of the block that window 1 holds, in its array. -/
theorem take1 (t : Fin cfg0.N) (p : Fin 64) (q : Fin 2048) (A : S16896x2048.Idx → EReal) :
    ((cfg0.win 1).blk t).view.read (Elt Ideal) A (ix2 p q) = A (ix2 ⟨64 * (8 * (min (t.val / 11 + 1) 32) + min (t.val % 11) 7) + p, by have := lt_points t; omega⟩ q) := by
  rw [View.read_apply, put1]
  rfl

/-- The norm's weights. -/
theorem put2 (t : Fin cfg0.N) (p : Fin 2048) : ((cfg0.win 2).blk t).view.emb (ix2 0 p)
    = ix2 0 p := by
  have hi := place2 t
  funext a
  apply Fin.ext
  refine (Window.rect_emb_val win0_2 t (ix2 0 p) a).trans ?_
  fin_cases a
  · show win0_2.index t 0 * 1 + 0 = _; rw [hi]; show 0 * 1 + _ = _; simp
  · show win0_2.index t 1 * 2048 + p.val = _; rw [hi]; show 0 * 2048 + _ = _; simp

/-- An entry of the block that window 2 holds, in its array. -/
theorem take2 (t : Fin cfg0.N) (p : Fin 2048) (A : S1x2048.Idx → EReal) :
    ((cfg0.win 2).blk t).view.read (Elt Ideal) A (ix2 0 p) = A (ix2 0 p) := by
  rw [View.read_apply, put2]
  rfl

/-- The shift of the tile's batch. -/
theorem put3 (t : Fin cfg0.N) (p : Fin 2048) : ((cfg0.win 3).blk t).view.emb (ix3 0 0 p)
    = ix3 ⟨t.val / 176, by have := lt_points t; omega⟩ 0 p := by
  have hi := place3 t
  funext a
  apply Fin.ext
  refine (Window.rect_emb_val win0_3 t (ix3 0 0 p) a).trans ?_
  fin_cases a
  · show win0_3.index t 0 * 1 + 0 = _; rw [hi]; show _ * 1 + 0 = _; simp
  · show win0_3.index t 1 * 1 + 0 = _; rw [hi]; show 0 * 1 + _ = _; simp
  · show win0_3.index t 2 * 2048 + p.val = _; rw [hi]; show 0 * 2048 + _ = _; simp

/-- An entry of the block that window 3 holds, in its array. -/
theorem take3 (t : Fin cfg0.N) (p : Fin 2048) (A : S3x1x2048.Idx → EReal) :
    ((cfg0.win 3).blk t).view.read (Elt Ideal) A (ix3 0 0 p) = A (ix3 ⟨t.val / 176, by have := lt_points t; omega⟩ 0 p) := by
  rw [View.read_apply, put3]
  rfl

/-- The scale of the tile's batch. -/
theorem put4 (t : Fin cfg0.N) (p : Fin 2048) : ((cfg0.win 4).blk t).view.emb (ix3 0 0 p)
    = ix3 ⟨t.val / 176, by have := lt_points t; omega⟩ 0 p := by
  have hi := place4 t
  funext a
  apply Fin.ext
  refine (Window.rect_emb_val win0_4 t (ix3 0 0 p) a).trans ?_
  fin_cases a
  · show win0_4.index t 0 * 1 + 0 = _; rw [hi]; show _ * 1 + 0 = _; simp
  · show win0_4.index t 1 * 1 + 0 = _; rw [hi]; show 0 * 1 + _ = _; simp
  · show win0_4.index t 2 * 2048 + p.val = _; rw [hi]; show 0 * 2048 + _ = _; simp

/-- An entry of the block that window 4 holds, in its array. -/
theorem take4 (t : Fin cfg0.N) (p : Fin 2048) (A : S3x1x2048.Idx → EReal) :
    ((cfg0.win 4).blk t).view.read (Elt Ideal) A (ix3 0 0 p) = A (ix3 ⟨t.val / 176, by have := lt_points t; omega⟩ 0 p) := by
  rw [View.read_apply, put4]
  rfl

/-- The shift of the next tile's batch. -/
theorem put5 (t : Fin cfg0.N) (p : Fin 2048) : ((cfg0.win 5).blk t).view.emb (ix3 0 0 p)
    = ix3 ⟨(min (t.val / 11 + 1) 32) / 16, by have := lt_points t; omega⟩ 0 p := by
  have hi := place5 t
  funext a
  apply Fin.ext
  refine (Window.rect_emb_val win0_5 t (ix3 0 0 p) a).trans ?_
  fin_cases a
  · show win0_5.index t 0 * 1 + 0 = _; rw [hi]; show _ * 1 + 0 = _; simp
  · show win0_5.index t 1 * 1 + 0 = _; rw [hi]; show 0 * 1 + _ = _; simp
  · show win0_5.index t 2 * 2048 + p.val = _; rw [hi]; show 0 * 2048 + _ = _; simp

/-- An entry of the block that window 5 holds, in its array. -/
theorem take5 (t : Fin cfg0.N) (p : Fin 2048) (A : S3x1x2048.Idx → EReal) :
    ((cfg0.win 5).blk t).view.read (Elt Ideal) A (ix3 0 0 p) = A (ix3 ⟨(min (t.val / 11 + 1) 32) / 16, by have := lt_points t; omega⟩ 0 p) := by
  rw [View.read_apply, put5]
  rfl

/-- The scale of the next tile's batch. -/
theorem put6 (t : Fin cfg0.N) (p : Fin 2048) : ((cfg0.win 6).blk t).view.emb (ix3 0 0 p)
    = ix3 ⟨(min (t.val / 11 + 1) 32) / 16, by have := lt_points t; omega⟩ 0 p := by
  have hi := place6 t
  funext a
  apply Fin.ext
  refine (Window.rect_emb_val win0_6 t (ix3 0 0 p) a).trans ?_
  fin_cases a
  · show win0_6.index t 0 * 1 + 0 = _; rw [hi]; show _ * 1 + 0 = _; simp
  · show win0_6.index t 1 * 1 + 0 = _; rw [hi]; show 0 * 1 + _ = _; simp
  · show win0_6.index t 2 * 2048 + p.val = _; rw [hi]; show 0 * 2048 + _ = _; simp

/-- An entry of the block that window 6 holds, in its array. -/
theorem take6 (t : Fin cfg0.N) (p : Fin 2048) (A : S3x1x2048.Idx → EReal) :
    ((cfg0.win 6).blk t).view.read (Elt Ideal) A (ix3 0 0 p) = A (ix3 ⟨(min (t.val / 11 + 1) 32) / 16, by have := lt_points t; omega⟩ 0 p) := by
  rw [View.read_apply, put6]
  rfl

/-- The gate of the tile's batch. -/
theorem put7 (t : Fin cfg0.N) (p : Fin 2048) : ((cfg0.win 7).blk t).view.emb (ix3 0 0 p)
    = ix3 ⟨t.val / 176, by have := lt_points t; omega⟩ 0 p := by
  have hi := place7 t
  funext a
  apply Fin.ext
  refine (Window.rect_emb_val win0_7 t (ix3 0 0 p) a).trans ?_
  fin_cases a
  · show win0_7.index t 0 * 1 + 0 = _; rw [hi]; show _ * 1 + 0 = _; simp
  · show win0_7.index t 1 * 1 + 0 = _; rw [hi]; show 0 * 1 + _ = _; simp
  · show win0_7.index t 2 * 2048 + p.val = _; rw [hi]; show 0 * 2048 + _ = _; simp

/-- An entry of the block that window 7 holds, in its array. -/
theorem take7 (t : Fin cfg0.N) (p : Fin 2048) (A : S3x1x2048.Idx → EReal) :
    ((cfg0.win 7).blk t).view.read (Elt Ideal) A (ix3 0 0 p) = A (ix3 ⟨t.val / 176, by have := lt_points t; omega⟩ 0 p) := by
  rw [View.read_apply, put7]
  rfl

/-- A column tile of the first weight. -/
theorem put8 (t : Fin cfg0.N) (p : Fin 2048) (q : Fin 512) : ((cfg0.win 8).blk t).view.emb (ix2 p q)
    = ix2 p ⟨512 * (t.val % 11) + q, by have := lt_points t; omega⟩ := by
  have hi := place8 t
  funext a
  apply Fin.ext
  refine (Window.rect_emb_val win0_8 t (ix2 p q) a).trans ?_
  fin_cases a
  · show win0_8.index t 0 * 2048 + p.val = _; rw [hi]; show 0 * 2048 + _ = _; simp
  · show win0_8.index t 1 * 512 + q.val = _; rw [hi]; exact congrArg (· + q.val) (Nat.mul_comm _ _)

/-- An entry of the block that window 8 holds, in its array. -/
theorem take8 (t : Fin cfg0.N) (p : Fin 2048) (q : Fin 512) (A : S2048x5632.Idx → EReal) :
    ((cfg0.win 8).blk t).view.read (Elt Ideal) A (ix2 p q) = A (ix2 p ⟨512 * (t.val % 11) + q, by have := lt_points t; omega⟩) := by
  rw [View.read_apply, put8]
  rfl

/-- A column tile of the third weight. -/
theorem put9 (t : Fin cfg0.N) (p : Fin 2048) (q : Fin 512) : ((cfg0.win 9).blk t).view.emb (ix2 p q)
    = ix2 p ⟨512 * (t.val % 11) + q, by have := lt_points t; omega⟩ := by
  have hi := place9 t
  funext a
  apply Fin.ext
  refine (Window.rect_emb_val win0_9 t (ix2 p q) a).trans ?_
  fin_cases a
  · show win0_9.index t 0 * 2048 + p.val = _; rw [hi]; show 0 * 2048 + _ = _; simp
  · show win0_9.index t 1 * 512 + q.val = _; rw [hi]; exact congrArg (· + q.val) (Nat.mul_comm _ _)

/-- An entry of the block that window 9 holds, in its array. -/
theorem take9 (t : Fin cfg0.N) (p : Fin 2048) (q : Fin 512) (A : S2048x5632.Idx → EReal) :
    ((cfg0.win 9).blk t).view.read (Elt Ideal) A (ix2 p q) = A (ix2 p ⟨512 * (t.val % 11) + q, by have := lt_points t; omega⟩) := by
  rw [View.read_apply, put9]
  rfl

/-- A row tile of the second weight. -/
theorem put10 (t : Fin cfg0.N) (p : Fin 512) (q : Fin 2048) : ((cfg0.win 10).blk t).view.emb (ix2 p q)
    = ix2 ⟨512 * (t.val % 11) + p, by have := lt_points t; omega⟩ q := by
  have hi := place10 t
  funext a
  apply Fin.ext
  refine (Window.rect_emb_val win0_10 t (ix2 p q) a).trans ?_
  fin_cases a
  · show win0_10.index t 0 * 512 + p.val = _; rw [hi]; exact congrArg (· + p.val) (Nat.mul_comm _ _)
  · show win0_10.index t 1 * 2048 + q.val = _; rw [hi]; show 0 * 2048 + _ = _; simp

/-- An entry of the block that window 10 holds, in its array. -/
theorem take10 (t : Fin cfg0.N) (p : Fin 512) (q : Fin 2048) (A : S5632x2048.Idx → EReal) :
    ((cfg0.win 10).blk t).view.read (Elt Ideal) A (ix2 p q) = A (ix2 ⟨512 * (t.val % 11) + p, by have := lt_points t; omega⟩ q) := by
  rw [View.read_apply, put10]
  rfl

/-- A row tile of the result. -/
theorem put11 (t : Fin cfg0.N) (p : Fin 512) (q : Fin 2048) : ((cfg0.win 11).blk t).view.emb (ix2 p q)
    = ix2 ⟨512 * (t.val / 11) + p, by have := lt_points t; omega⟩ q := by
  have hi := place11 t
  funext a
  apply Fin.ext
  refine (Window.rect_emb_val win0_11 t (ix2 p q) a).trans ?_
  fin_cases a
  · show win0_11.index t 0 * 512 + p.val = _; rw [hi]; exact congrArg (· + p.val) (Nat.mul_comm _ _)
  · show win0_11.index t 1 * 2048 + q.val = _; rw [hi]; show 0 * 2048 + _ = _; simp

end Cert.InnerClaims

end
-- ==== Proof.InnerRow.lean ====
module

public import proofs.«01_k».proof.Proof.InnerInv
public import proofs.«01_k».proof.Proof.FfnRow
public import Idealize.ShloMosaic.Lib.Pointwise

/-! # What the inner feed-forward call's block computations are, entry by entry, over the reals -/

@[expose] public section

set_option maxRecDepth 16384

noncomputable section

namespace Cert.InnerClaims

open Cert.Kernel3Ideal Cert.Kernel3Ideal.Gen
open Idealize.ShloMosaic Idealize.ShloMosaic.TcCoe
open Cert.FfnClaims (nrm modl gated)

/-- The modulated rows of the first row tile, entrywise. -/
theorem pay6_at (g : Vec Ideal S1x2048 .f32) (x : Vec Ideal S512x2048 .f32) (sh sc : Vec Ideal S1x1x2048 .f32) (p : Fin 512) (d : Fin 2048) :
    k0_pay6 g x sh sc (ix3 0 p d)
      = modl (fun e => x (ix2 p e)) (fun e => g (ix2 0 e)) (fun e => sh (ix3 0 0 e)) (fun e => sc (ix3 0 0 e)) d := by
  pointwise [k0_pay6, k0_pay4, k0_pay3, modl, nrm]

/-- The modulated rows of a prefetched chunk, entrywise. -/
theorem chunk_at (g : Vec Ideal S1x2048 .f32) (x : Vec Ideal S64x2048 .f32) (sh sc : Vec Ideal S1x1x2048 .f32) (p : Fin 64) (d : Fin 2048) :
    chunkH x g sh sc (ix3 0 p d)
      = modl (fun e => x (ix2 p e)) (fun e => g (ix2 0 e)) (fun e => sh (ix3 0 0 e)) (fun e => sc (ix3 0 0 e)) d := by
  pointwise [chunkH, k0_pay1, k0_pay3, k0_pay10, k0_pay12, k0_pay13, k0_pay14, modl, nrm]

/-- The residual rows of the first row tile, entrywise. -/
theorem pay5_at (x : Vec Ideal S512x2048 .f32) (p : Fin 512) (d : Fin 2048) : k0_pay5 x (ix3 0 p d) = x (ix2 p d) := by
  pointwise [k0_pay5, k0_pay4]

/-- The residual rows of a prefetched chunk, entrywise. -/
theorem pay11_at (x : Vec Ideal S64x2048 .f32) (p : Fin 64) (d : Fin 2048) : k0_pay11 x (ix3 0 p d) = x (ix2 p d) := by
  pointwise [k0_pay11, k0_pay10]

/-- The gated products of a column tile, entrywise. -/
theorem pay7_at (h : Vec Ideal S1x512x2048 .bf16) (w1 w3 : Vec Ideal S2048x512 .bf16) (p k : Fin 512) :
    k0_pay7 h w1 w3 (ix2 p k) = gated (fun e => h (ix3 0 p e)) (fun e => w1 (ix2 e k)) (fun e => w3 (ix2 e k)) := by
  pointwise [k0_pay7, gated]

/-- The accumulator after a column tile, entrywise. -/
theorem pay9_at (u : FVec Ideal S512x512 .bf16) (a : Vec Ideal S512x2048 .f32) (w2 : Vec Ideal S512x2048 .bf16) (p : Fin 512) (d : Fin 2048) :
    k0_pay9 u a w2 (ix2 p d) = a (ix2 p d) + ∑ k : Fin 512, u (ix2 p k) * w2 (ix2 k d) := by
  pointwise [k0_pay9]

/-- The finished rows, entrywise. -/
theorem pay2_at (x : Vec Ideal S1x512x2048 .f32) (gt : Vec Ideal S1x1x2048 .f32) (a : Vec Ideal S512x2048 .f32)
    (p : Fin 512) (d : Fin 2048) : k0_pay2 x gt a (ix2 p d)
      = x (ix3 0 p d) + Ideal.ofBits .f32 0x3F000000#32 * gt (ix3 0 0 d) * a (ix2 p d) := by
  pointwise [k0_pay2]

end Cert.InnerClaims

end
-- ==== Proof.InnerArrays.lean ====
module

public import proofs.«01_k».proof.Proof.InnerPlaces
public import proofs.«01_k».proof.Proof.InnerRow

/-! # What the inner feed-forward call's result array holds after the run -/

@[expose] public section

set_option maxRecDepth 16384

noncomputable section

namespace Cert.InnerClaims

open Cert.Kernel3Ideal Cert.Kernel3Ideal.Gen
open Idealize.ShloMosaic Idealize.ShloMosaic.TcCoe
open Cert.FfnClaims (nrm modl gated)
open Idealize.ShloMosaic.Pipeline (Window Dat)

/-! ## The layer as a function of the arrays -/

/-- A row of the input, normalised and modulated. -/
def rowH (X : S16896x2048.Idx → EReal) (g : S1x2048.Idx → EReal) (sh sc : S3x1x2048.Idx → EReal) (R : Fin 16896) : Fin 2048 → EReal :=
  modl (fun e => X (ix2 R e)) (fun e => g (ix2 0 e)) (fun e => sh (ix3 ⟨R.val / 8192, by omega⟩ 0 e)) (fun e => sc (ix3 ⟨R.val / 8192, by omega⟩ 0 e))

/-- Hidden unit `k`'s part of the second product of a row, at column `d`. -/
def term (h : Fin 2048 → EReal) (w1 w3 : S2048x5632.Idx → EReal) (w2 : S5632x2048.Idx → EReal) (d : Fin 2048) (k : Fin 5632) : EReal :=
  gated h (fun e => w1 (ix2 e k)) (fun e => w3 (ix2 e k)) * w2 (ix2 k d)

/-- The same on all the natural numbers, zero past the hidden units. -/
def termN (h : Fin 2048 → EReal) (w1 w3 : S2048x5632.Idx → EReal) (w2 : S5632x2048.Idx → EReal) (d : Fin 2048) (k : ℕ) : EReal :=
  if hk : k < 5632 then term h w1 w3 w2 d ⟨k, hk⟩ else 0

/-- An entry of the result. -/
def layer (X : S16896x2048.Idx → EReal) (g : S1x2048.Idx → EReal) (sh sc gt : S3x1x2048.Idx → EReal)
    (w1 w3 : S2048x5632.Idx → EReal) (w2 : S5632x2048.Idx → EReal) (R : Fin 16896) (d : Fin 2048) : EReal :=
  X (ix2 R d) + Ideal.ofBits .f32 0x3F000000#32 * gt (ix3 ⟨R.val / 8192, by omega⟩ 0 d) * ∑ k, term (rowH X g sh sc R) w1 w3 w2 d k

/-- The layer of one row, from its vectors and the weights. -/
def rowLayer (x g sh sc gt : Fin 2048 → EReal) (w1 w3 : S2048x5632.Idx → EReal) (w2 : S5632x2048.Idx → EReal) (d : Fin 2048) : EReal :=
  x d + Ideal.ofBits .f32 0x3F000000#32 * gt d * ∑ k, term (modl x g sh sc) w1 w3 w2 d k

/-- An entry of the result is an entry of its row's layer. -/
theorem layer_row (X : S16896x2048.Idx → EReal) (g : S1x2048.Idx → EReal) (sh sc gt : S3x1x2048.Idx → EReal)
    (w1 w3 : S2048x5632.Idx → EReal) (w2 : S5632x2048.Idx → EReal) (R : Fin 16896) (d : Fin 2048) : layer X g sh sc gt w1 w3 w2 R d
      = rowLayer (fun e => X (ix2 R e)) (fun e => g (ix2 0 e)) (fun e => sh (ix3 ⟨R.val / 8192, by omega⟩ 0 e))
          (fun e => sc (ix3 ⟨R.val / 8192, by omega⟩ 0 e)) (fun e => gt (ix3 ⟨R.val / 8192, by omega⟩ 0 e)) w1 w3 w2 d := rfl

/-! ## The blocks off the arrays -/

variable (m : (ℓ : Loc nD τ sig) → Buf (Elt Ideal) ℓ) (c : Dev nD)

/-- The position a number below the grid's size stands for. -/
theorem pt_val {t : ℕ} (ht : t < 363) : (pt t).val = t := Nat.mod_eq_of_lt ht

/-- A row read through an equal row number. -/
theorem row_congr {n k : ℕ} (A : (⟨2, ![n, k]⟩ : Shape).Idx → EReal) {a b : Fin n} (e : Fin k) (h : a.val = b.val) : A (ix2 a e) = A (ix2 b e) := by
  rw [Fin.ext h]

/-- A column read through an equal column number. -/
theorem col_congr {n k : ℕ} (A : (⟨2, ![n, k]⟩ : Shape).Idx → EReal) (e : Fin n) {a b : Fin k} (h : a.val = b.val) : A (ix2 e a) = A (ix2 e b) := by
  rw [Fin.ext h]

/-- A batch's vector read through an equal batch number. -/
theorem batch_congr {n k : ℕ} (A : (⟨3, ![n, 1, k]⟩ : Shape).Idx → EReal) {a b : Fin n} (e : Fin k) (h : a.val = b.val) :
    A (ix3 a 0 e) = A (ix3 b 0 e) := by
  rw [Fin.ext h]

/-- The first row tile's rows. -/
theorem x2_at (R : Fin 16896) (p : Fin 512) (hR : R.val = p.val) (e : Fin 2048) :
    (blocks m c).x2 0 (ix2 p e) = V m c main_v2 (ix2 R e) :=
  (take0 (pt 0) p e (V m c main_v2)).trans (row_congr (V m c main_v2) e hR.symm)

/-- The 64 rows being prepared. -/
theorem x3_at {t : ℕ} (ht : t < 363) (R : Fin 16896) (p : Fin 64)
    (hR : R.val = 64 * (8 * (min (t / 11 + 1) 32) + min (t % 11) 7) + p.val) (e : Fin 2048) :
    (blocks m c).x3 t (ix2 p e) = V m c main_v2 (ix2 R e) :=
  (take1 (pt t) p e (V m c main_v2)).trans (row_congr (V m c main_v2) e (by dsimp only; rw [pt_val ht]; exact hR.symm))

/-- The norm's weights. -/
theorem x4_at (t : ℕ) (e : Fin 2048) : (blocks m c).x4 t (ix2 0 e) = V m c main_v9 (ix2 0 e) :=
  take2 (pt t) e (V m c main_v9)

/-- The shift of the tile's batch. -/
theorem x5_at {t : ℕ} (ht : t < 363) (b : Fin 3) (hb : b.val = t / 176) (e : Fin 2048) :
    (blocks m c).x5 t (ix3 0 0 e) = V m c main_v3 (ix3 b 0 e) :=
  (take3 (pt t) e (V m c main_v3)).trans (batch_congr (V m c main_v3) e (by dsimp only; rw [pt_val ht]; exact hb.symm))

/-- The scale of the tile's batch. -/
theorem x6_at {t : ℕ} (ht : t < 363) (b : Fin 3) (hb : b.val = t / 176) (e : Fin 2048) :
    (blocks m c).x6 t (ix3 0 0 e) = V m c main_v4 (ix3 b 0 e) :=
  (take4 (pt t) e (V m c main_v4)).trans (batch_congr (V m c main_v4) e (by dsimp only; rw [pt_val ht]; exact hb.symm))

/-- The shift of the next tile's batch. -/
theorem x7_at {t : ℕ} (ht : t < 363) (b : Fin 3) (hb : b.val = min (t / 11 + 1) 32 / 16) (e : Fin 2048) :
    (blocks m c).x7 t (ix3 0 0 e) = V m c main_v3 (ix3 b 0 e) :=
  (take5 (pt t) e (V m c main_v3)).trans (batch_congr (V m c main_v3) e (by dsimp only; rw [pt_val ht]; exact hb.symm))

/-- The scale of the next tile's batch. -/
theorem x8_at {t : ℕ} (ht : t < 363) (b : Fin 3) (hb : b.val = min (t / 11 + 1) 32 / 16) (e : Fin 2048) :
    (blocks m c).x8 t (ix3 0 0 e) = V m c main_v4 (ix3 b 0 e) :=
  (take6 (pt t) e (V m c main_v4)).trans (batch_congr (V m c main_v4) e (by dsimp only; rw [pt_val ht]; exact hb.symm))

/-- The gate of the tile's batch. -/
theorem x9_at {t : ℕ} (ht : t < 363) (b : Fin 3) (hb : b.val = t / 176) (e : Fin 2048) :
    (blocks m c).x9 t (ix3 0 0 e) = V m c main_v5 (ix3 b 0 e) :=
  (take7 (pt t) e (V m c main_v5)).trans (batch_congr (V m c main_v5) e (by dsimp only; rw [pt_val ht]; exact hb.symm))

/-- A column of the first weight. -/
theorem x10_at {t : ℕ} (ht : t < 363) (k : Fin 5632) (q : Fin 512) (hk : k.val = 512 * (t % 11) + q.val) (e : Fin 2048) :
    (blocks m c).x10 t (ix2 e q) = V m c main_v6 (ix2 e k) :=
  (take8 (pt t) e q (V m c main_v6)).trans (col_congr (V m c main_v6) e (by dsimp only; rw [pt_val ht]; exact hk.symm))

/-- A column of the third weight. -/
theorem x11_at {t : ℕ} (ht : t < 363) (k : Fin 5632) (q : Fin 512) (hk : k.val = 512 * (t % 11) + q.val) (e : Fin 2048) :
    (blocks m c).x11 t (ix2 e q) = V m c main_v7 (ix2 e k) :=
  (take9 (pt t) e q (V m c main_v7)).trans (col_congr (V m c main_v7) e (by dsimp only; rw [pt_val ht]; exact hk.symm))

/-- A row of the second weight. -/
theorem x12_at {t : ℕ} (ht : t < 363) (k : Fin 5632) (q : Fin 512) (hk : k.val = 512 * (t % 11) + q.val) (e : Fin 2048) :
    (blocks m c).x12 t (ix2 q e) = V m c main_v8 (ix2 k e) :=
  (take10 (pt t) q e (V m c main_v8)).trans (row_congr (V m c main_v8) e (by dsimp only; rw [pt_val ht]; exact hk.symm))

/-! ## The rows a row tile computes with -/

/-- The residual of a row tile is its rows of the input. -/
theorem resid_at {i : ℕ} (hi : i < 33) (p : Fin 512) (R : Fin 16896) (hR : R.val = 512 * i + p.val) (d : Fin 2048) :
    resid (blocks m c) i (ix3 0 p d) = V m c main_v2 (ix2 R d) := by
  cases i with
  | zero => exact (pay5_at _ p d).trans (x2_at m c R p (by omega) d)
  | succ i =>
    rw [resid_succ]
    refine (pay11_at _ _ d).trans (x3_at m c (t := 11 * i + lastAt (p.val / 64)) ?_ R _ ?_ d)
    · unfold lastAt; split <;> omega
    · show R.val = _ + p.val % 64
      unfold lastAt; split <;> omega

/-- The rows a row tile multiplies are the input's, normalised and modulated. -/
theorem normed_at {i : ℕ} (hi : i < 33) (p : Fin 512) (R : Fin 16896) (hR : R.val = 512 * i + p.val) (d : Fin 2048) :
    normed (blocks m c) i (ix3 0 p d) = rowH (V m c main_v2) (V m c main_v9) (V m c main_v3) (V m c main_v4) R d := by
  cases i with
  | zero =>
    refine (pay6_at _ _ _ _ p d).trans ?_
    unfold rowH
    simp only [x2_at m c R p (by omega), x4_at m c 0, x5_at m c (t := 0) (by omega) ⟨R.val / 8192, by omega⟩ (by dsimp only; omega),
      x6_at m c (t := 0) (by omega) ⟨R.val / 8192, by omega⟩ (by dsimp only; omega)]
  | succ i =>
    have hl : 11 * i + lastAt (p.val / 64) < 363 := by unfold lastAt; split <;> omega
    have hq : (11 * i + lastAt (p.val / 64)) / 11 = i := by unfold lastAt; split <;> omega
    have hm : min ((11 * i + lastAt (p.val / 64)) % 11) 7 = p.val / 64 := by unfold lastAt; split <;> omega
    rw [normed_succ]
    refine (chunk_at _ _ _ _ _ d).trans ?_
    unfold rowH
    have h3 := x3_at m c hl R (⟨p.val % 64, by omega⟩ : Fin 64) (by rw [hq, hm]; dsimp only; omega)
    have h7 := x7_at m c hl ⟨R.val / 8192, by omega⟩ (by rw [hq]; dsimp only; omega)
    have h8 := x8_at m c hl ⟨R.val / 8192, by omega⟩ (by rw [hq]; dsimp only; omega)
    have h4 := x4_at m c (11 * i + lastAt (p.val / 64))
    show modl (fun e => (blocks m c).x3 (11 * i + lastAt (p.val / 64)) (ix2 (⟨p.val % 64, _⟩ : Fin 64) e))
      (fun e => (blocks m c).x4 (11 * i + lastAt (p.val / 64)) (ix2 0 e)) (fun e => (blocks m c).x7 (11 * i + lastAt (p.val / 64)) (ix3 0 0 e))
      (fun e => (blocks m c).x8 (11 * i + lastAt (p.val / 64)) (ix3 0 0 e)) d = _
    rw [funext h3, funext h4, funext h7, funext h8]

/-- The accumulator after `j` column tiles: the terms of the first `512 * j` hidden units. -/
theorem accum_at {i : ℕ} (hi : i < 33) (p : Fin 512) (R : Fin 16896) (hR : R.val = 512 * i + p.val) (d : Fin 2048) (j : ℕ) (hj : j ≤ 11) :
    accum (blocks m c) i j (ix2 p d)
      = ∑ k ∈ Finset.range (512 * j), termN (rowH (V m c main_v2) (V m c main_v9) (V m c main_v3) (V m c main_v4) R)
          (V m c main_v6) (V m c main_v7) (V m c main_v8) d k := by
  induction j with
  | zero =>
    show Ideal.ofBits .f32 0x00000000#32 = _
    simp [Ideal.ofBits, Ideal.ieee]
  | succ j ih =>
    have ht : 11 * i + j < 363 := by omega
    have hc : (11 * i + j) % 11 = j := by omega
    have h8 : k0_pay8 (co (11 * i + j)) (accum (blocks m c) i j) = accum (blocks m c) i j := by
      rw [pay8_of, co_col _ ht, hc]
      split
      · next h => subst h; rfl
      · rfl
    show accOf _ _ _ _ _ _ (ix2 p d) = _
    unfold accOf
    rw [h8, pay9_at, ih (by omega), Nat.mul_succ, Finset.sum_range_add, Finset.sum_range (n := 512)]
    refine congrArg (_ + ·) (Finset.sum_congr rfl fun q _ => ?_)
    have hk : 512 * j + q.val < 5632 := by omega
    rw [pay7_at, x12_at m c ht ⟨512 * j + q.val, hk⟩ q (by dsimp only; rw [hc])]
    unfold termN term
    rw [dif_pos hk, funext (normed_at m c hi p R hR), funext (x10_at m c ht ⟨512 * j + q.val, hk⟩ q (by dsimp only; rw [hc])),
      funext (x11_at m c ht ⟨512 * j + q.val, hk⟩ q (by dsimp only; rw [hc]))]

/-- After all the column tiles: the whole second product. -/
theorem accum_all {i : ℕ} (hi : i < 33) (p : Fin 512) (R : Fin 16896) (hR : R.val = 512 * i + p.val) (d : Fin 2048) :
    accum (blocks m c) i 11 (ix2 p d)
      = ∑ k, term (rowH (V m c main_v2) (V m c main_v9) (V m c main_v3) (V m c main_v4) R) (V m c main_v6) (V m c main_v7) (V m c main_v8) d k := by
  rw [accum_at m c hi p R hR d 11 le_rfl, Finset.sum_range (n := 512 * 11)]
  refine Finset.sum_congr rfl fun k _ => ?_
  unfold termN
  exact dif_pos k.isLt

/-- What a finished row tile writes is the layer's rows. -/
theorem finished_at {i : ℕ} (hi : i < 33) (p : Fin 512) (R : Fin 16896) (hR : R.val = 512 * i + p.val) (d : Fin 2048) :
    finished (blocks m c) (11 * i + 10) (ix2 p d)
      = layer (V m c main_v2) (V m c main_v9) (V m c main_v3) (V m c main_v4) (V m c main_v5) (V m c main_v6) (V m c main_v7) (V m c main_v8)  R d := by
  have hq : (11 * i + 10) / 11 = i := by omega
  unfold finished layer
  rw [hq, pay2_at, resid_at m c hi p R hR, accum_all m c hi p R hR, x9_at m c (by omega) ⟨R.val / 8192, by omega⟩ (by dsimp only; omega)]

/-- A place a block is put at lies in the block. -/
theorem mem_of_put {sg : RefSig} {κ : Kind} {sp : Space} {s : Shape} {e : EltTy} {v : View sg κ sp s e} {x : v.ty.Idx} (y : s.Idx)
    (h : x = v.emb y) : x ∈ v.set := h ▸ v.emb_mem_set y

/-- The result array. -/
theorem array11 : (dats m 0 c).arrAt 11 cfg0.N
    = fun x => layer (V m c main_v2) (V m c main_v9) (V m c main_v3) (V m c main_v4) (V m c main_v5) (V m c main_v6) (V m c main_v7)
        (V m c main_v8)  (x 0) (x 1) := by
  refine Dat.arrAt_eq_of_cover _ 11 _ (fun t hf => ?_) (fun x => ?_)
  · have ht := lt_points t
    have h10 : t.val % 11 = 10 := (flush0_11 t).1 hf
    funext y
    obtain ⟨r, d, rfl⟩ : ∃ (r : Fin 512) (d : Fin 2048), y = ix2 r d := ⟨y 0, y 1, by funext a; fin_cases a <;> rfl⟩
    rw [View.read_apply, put11]
    show finished (blocks m c) t.val (ix2 r d) = _
    have e : t.val = 11 * (t.val / 11) + 10 := by omega
    refine (congrArg (fun n => finished (blocks m c) n (ix2 r d)) e).trans ?_
    refine (finished_at m c (i := t.val / 11) (by omega) r ⟨512 * (t.val / 11) + r.val, by omega⟩ rfl d).trans ?_
    rfl
  · obtain ⟨R, C, rfl⟩ : ∃ (R : Fin 16896) (C : Fin 2048), x = ix2 R C := ⟨x 0, x 1, by funext a; fin_cases a <;> rfl⟩
    have hlt : 11 * (R.val / 512) + 10 < 363 := by omega
    refine ⟨⟨_, hlt.trans_eq N_0.symm⟩, (flush0_11 _).2 (by dsimp only; omega), mem_of_put (ix2 (⟨R.val % 512, by omega⟩ : Fin 512) C) ?_⟩
    rw [put11]
    congr 1
    apply Fin.ext
    show R.val = 512 * ((11 * (R.val / 512) + 10) / 11) + R.val % 512
    omega

end Cert.InnerClaims

end
-- ==== Proof.InnerLatent.lean ====
module

public import proofs.«01_k».proof.Proof.Gen.Reference3Ideal.Run
public import proofs.«01_k».proof.Proof.InnerArrays
public import Idealize.ShloMosaic.Lib.Pointwise

/-! # What the inner feed-forward reference computes on the latent rows, at an entry -/

@[expose] public section

set_option maxRecDepth 16384

noncomputable section

namespace Cert.Reference3Ideal.Latent

open Idealize.ShloMosaic Idealize.ShloMosaic.TcCoe Cert.Reference3Ideal Cert.Reference3Ideal.Gen

/-- Rows divided by their root mean square, times the weights. -/
def norms (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2
      (Host.rsqrt (addf (Host.divf (broadcastInDim S2x8192x1 ![0, 1] bcast_S2x8192_S2x8192x1_0_1
          (Host.reduceAdd (mulf x x) (constant S_ .f32 0x00000000#32) reducesTo_S2x8192x2048_S2x8192_d2 h_S_))
        (broadcastInDim S2x8192x1 ![] bcast_S_S2x8192x1 (constant S_ .f32 0x45000000#32)))
        (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))

/-- The normalised rows, scaled and shifted. -/
def modulated (x : FVec Ideal S2x8192x2048 .f32) (g : FVec Ideal S2048 .f32) (sh sc : FVec Ideal S2x1x2048 .f32) : FVec Ideal S2x8192x2048 .f32 :=
  addf (mulf (norms x g) (broadcastInDim S2x8192x2048 ![0, 1, 2] bcast_S2x1x2048_S2x8192x2048_0_1_2
      (addf (broadcastInDim S2x1x2048 ![] bcast_S_S2x1x2048 (constant S_ .f32 0x3F800000#32)) sc)))
    (broadcastInDim S2x8192x2048 ![0, 1, 2] bcast_S2x1x2048_S2x8192x2048_0_1_2 sh)

/-- The rows through a first weight. -/
def through (h : FVec Ideal S2x8192x2048 .f32) (w : FVec Ideal S2048x5632 .f32) : FVec Ideal S2x8192x5632 .f32 :=
  Host.dotGeneral dot_S2x8192x2048_S2048x5632_S2x8192x5632_2_0_01_1_n_n none h w

/-- The logistic-weighted activation. -/
def silu (a : FVec Ideal S2x8192x5632 .f32) : FVec Ideal S2x8192x5632 .f32 :=
  mulf a (Host.divf (broadcastInDim S2x8192x5632 ![] bcast_S_S2x8192x5632 (constant S_ .f32 0x3F800000#32))
    (addf (broadcastInDim S2x8192x5632 ![] bcast_S_S2x8192x5632 (constant S_ .f32 0x3F800000#32)) (Host.exp (Host.negf a))))

/-- The input and the gated feed-forward. -/
def added (x : FVec Ideal S2x8192x2048 .f32) (gt : FVec Ideal S2x1x2048 .f32) (u : FVec Ideal S2x8192x5632 .f32) (w2 : FVec Ideal S5632x2048 .f32) :
    FVec Ideal S2x8192x2048 .f32 :=
  addf x (mulf (broadcastInDim S2x8192x2048 ![0, 1, 2] bcast_S2x1x2048_S2x8192x2048_0_1_2
      (mulf (broadcastInDim S2x1x2048 ![] bcast_S_S2x1x2048 (constant S_ .f32 0x3F000000#32)) gt))
    (Host.dotGeneral dot_S2x8192x5632_S5632x2048_S2x8192x2048_2_0_01_1_n_n none u w2))

/-- The whole layer of these rows. -/
def layer (x : FVec Ideal S2x8192x2048 .f32) (g : FVec Ideal S2048 .f32) (sh sc gt : FVec Ideal S2x1x2048 .f32)
    (w1 w3 : FVec Ideal S2048x5632 .f32) (w2 : FVec Ideal S5632x2048 .f32) : FVec Ideal S2x8192x2048 .f32 :=
  added x gt (mulf (silu (through (modulated x g sh sc) w1)) (through (modulated x g sh sc) w3)) w2

section entries

variable (x : FVec Ideal S2x8192x2048 .f32) (g : FVec Ideal S2048 .f32) (sh sc gt : FVec Ideal S2x1x2048 .f32)
  (w1 w3 : FVec Ideal S2048x5632 .f32) (w2 : FVec Ideal S5632x2048 .f32) (b : Fin 2) (s : Fin 8192)

/-- A normalised row. -/
theorem norms_at (d : Fin 2048) : norms x g (ix3 b s d) = FfnClaims.nrm (fun e => x (ix3 b s e)) (fun e => g (ix1 e)) d := by
  pointwise [norms, FfnClaims.nrm]

/-- A modulated row. -/
theorem modulated_at (d : Fin 2048) : modulated x g sh sc (ix3 b s d)
    = FfnClaims.modl (fun e => x (ix3 b s e)) (fun e => g (ix1 e)) (fun e => sh (ix3 b 0 e)) (fun e => sc (ix3 b 0 e)) d := by
  have h := norms_at x g b s d
  unfold modulated FfnClaims.modl
  rw [← h]
  generalize norms x g = n
  pointwise

/-- An entry of a first product. -/
theorem through_at (h : FVec Ideal S2x8192x2048 .f32) (k : Fin 5632) : through h w1 (ix3 b s k) = ∑ e : Fin 2048, h (ix3 b s e) * w1 (ix2 e k) := by
  pointwise [through]

/-- An activation. -/
theorem silu_at (a : FVec Ideal S2x8192x5632 .f32) (k : Fin 5632) :
    silu a (ix3 b s k) = a (ix3 b s k) * Ideal.logistic (a (ix3 b s k)) := by
  unfold Ideal.logistic
  pointwise [silu]

/-- An entry of the sum of the input and the gated feed-forward. -/
theorem added_at (u : FVec Ideal S2x8192x5632 .f32) (d : Fin 2048) : added x gt u w2 (ix3 b s d)
    = x (ix3 b s d) + Ideal.ofBits .f32 0x3F000000#32 * gt (ix3 b 0 d) * ∑ k : Fin 5632, u (ix3 b s k) * w2 (ix2 k d) := by
  pointwise [added]

/-- A row of the flattened result is a row of its batch. -/
theorem flat_at (y : FVec Ideal S2x8192x2048 .f32) (R : Fin 16384) (d : Fin 2048) :
    shapeCast S16384x2048 y shapeCasts_S2x8192x2048_S16384x2048 (ix2 R d) = y (ix3 ⟨R.val / 8192, by omega⟩ ⟨R.val % 8192, by omega⟩ d) := by
  pointwise

/-- An entry of the layer is an entry of its row's layer. -/
theorem layer_at (d : Fin 2048) : layer x g sh sc gt w1 w3 w2 (ix3 b s d)
    = InnerClaims.rowLayer (fun e => x (ix3 b s e)) (fun e => g (ix1 e)) (fun e => sh (ix3 b 0 e)) (fun e => sc (ix3 b 0 e))
        (fun e => gt (ix3 b 0 e)) w1 w3 w2 d := by
  unfold layer InnerClaims.rowLayer
  rw [added_at]
  refine congrArg (_ + _ * ·) (Finset.sum_congr rfl fun k _ => ?_)
  unfold InnerClaims.term FfnClaims.gated
  rw [← funext (modulated_at x g sh sc b s), ← through_at, ← through_at, ← silu_at]
  rfl

end entries

end Cert.Reference3Ideal.Latent

end
-- ==== Proof.InnerContext.lean ====
module

public import proofs.«01_k».proof.Proof.Gen.Reference3Ideal.Run
public import proofs.«01_k».proof.Proof.InnerArrays
public import Idealize.ShloMosaic.Lib.Pointwise

/-! # What the inner feed-forward reference computes on the context rows, at an entry -/

@[expose] public section

set_option maxRecDepth 512

noncomputable section

namespace Cert.Reference3Ideal.Context

open Idealize.ShloMosaic Idealize.ShloMosaic.TcCoe Cert.Reference3Ideal Cert.Reference3Ideal.Gen

/-- Rows divided by their root mean square, times the weights. -/
def norms (x : FVec Ideal S2x256x2048 .f32) (g : FVec Ideal S2048 .f32) : FVec Ideal S2x256x2048 .f32 :=
  mulf (mulf x (broadcastInDim S2x256x2048 ![0, 1, 2] bcast_S2x256x1_S2x256x2048_0_1_2
      (Host.rsqrt (addf (Host.divf (broadcastInDim S2x256x1 ![0, 1] bcast_S2x256_S2x256x1_0_1
          (Host.reduceAdd (mulf x x) (constant S_ .f32 0x00000000#32) reducesTo_S2x256x2048_S2x256_d2 h_S_))
        (broadcastInDim S2x256x1 ![] bcast_S_S2x256x1 (constant S_ .f32 0x45000000#32)))
        (broadcastInDim S2x256x1 ![] bcast_S_S2x256x1 (constant S_ .f32 0x358637BD#32))))))
    (broadcastInDim S2x256x2048 ![0, 1, 2] bcast_S1x1x2048_S2x256x2048_0_1_2 (broadcastInDim S1x1x2048 ![2] bcast_S2048_S1x1x2048_2 g))

/-- The normalised rows, scaled and shifted. -/
def modulated (x : FVec Ideal S2x256x2048 .f32) (g : FVec Ideal S2048 .f32) (sh sc : FVec Ideal S1x1x2048 .f32) : FVec Ideal S2x256x2048 .f32 :=
  addf (mulf (norms x g) (broadcastInDim S2x256x2048 ![0, 1, 2] bcast_S1x1x2048_S2x256x2048_0_1_2
      (addf (broadcastInDim S1x1x2048 ![] bcast_S_S1x1x2048 (constant S_ .f32 0x3F800000#32)) sc)))
    (broadcastInDim S2x256x2048 ![0, 1, 2] bcast_S1x1x2048_S2x256x2048_0_1_2 sh)

/-- The rows through a first weight. -/
def through (h : FVec Ideal S2x256x2048 .f32) (w : FVec Ideal S2048x5632 .f32) : FVec Ideal S2x256x5632 .f32 :=
  Host.dotGeneral dot_S2x256x2048_S2048x5632_S2x256x5632_2_0_01_1_n_n none h w

/-- The logistic-weighted activation. -/
def silu (a : FVec Ideal S2x256x5632 .f32) : FVec Ideal S2x256x5632 .f32 :=
  mulf a (Host.divf (broadcastInDim S2x256x5632 ![] bcast_S_S2x256x5632 (constant S_ .f32 0x3F800000#32))
    (addf (broadcastInDim S2x256x5632 ![] bcast_S_S2x256x5632 (constant S_ .f32 0x3F800000#32)) (Host.exp (Host.negf a))))

/-- The input and the gated feed-forward. -/
def added (x : FVec Ideal S2x256x2048 .f32) (gt : FVec Ideal S1x1x2048 .f32) (u : FVec Ideal S2x256x5632 .f32) (w2 : FVec Ideal S5632x2048 .f32) :
    FVec Ideal S2x256x2048 .f32 :=
  addf x (mulf (broadcastInDim S2x256x2048 ![0, 1, 2] bcast_S1x1x2048_S2x256x2048_0_1_2
      (mulf (broadcastInDim S1x1x2048 ![] bcast_S_S1x1x2048 (constant S_ .f32 0x3F000000#32)) gt))
    (Host.dotGeneral dot_S2x256x5632_S5632x2048_S2x256x2048_2_0_01_1_n_n none u w2))

/-- The whole layer of these rows. -/
def layer (x : FVec Ideal S2x256x2048 .f32) (g : FVec Ideal S2048 .f32) (sh sc gt : FVec Ideal S1x1x2048 .f32)
    (w1 w3 : FVec Ideal S2048x5632 .f32) (w2 : FVec Ideal S5632x2048 .f32) : FVec Ideal S2x256x2048 .f32 :=
  added x gt (mulf (silu (through (modulated x g sh sc) w1)) (through (modulated x g sh sc) w3)) w2

section entries

variable (x : FVec Ideal S2x256x2048 .f32) (g : FVec Ideal S2048 .f32) (sh sc gt : FVec Ideal S1x1x2048 .f32)
  (w1 w3 : FVec Ideal S2048x5632 .f32) (w2 : FVec Ideal S5632x2048 .f32) (b : Fin 2) (s : Fin 256)

/-- A normalised row. -/
theorem norms_at (d : Fin 2048) : norms x g (ix3 b s d) = FfnClaims.nrm (fun e => x (ix3 b s e)) (fun e => g (ix1 e)) d := by
  pointwise [norms, FfnClaims.nrm]

/-- A modulated row. -/
theorem modulated_at (d : Fin 2048) : modulated x g sh sc (ix3 b s d)
    = FfnClaims.modl (fun e => x (ix3 b s e)) (fun e => g (ix1 e)) (fun e => sh (ix3 0 0 e)) (fun e => sc (ix3 0 0 e)) d := by
  have h := norms_at x g b s d
  unfold modulated FfnClaims.modl
  rw [← h]
  generalize norms x g = n
  pointwise

/-- An entry of a first product. -/
theorem through_at (h : FVec Ideal S2x256x2048 .f32) (k : Fin 5632) : through h w1 (ix3 b s k) = ∑ e : Fin 2048, h (ix3 b s e) * w1 (ix2 e k) := by
  pointwise [through]

/-- An activation. -/
theorem silu_at (a : FVec Ideal S2x256x5632 .f32) (k : Fin 5632) :
    silu a (ix3 b s k) = a (ix3 b s k) * Ideal.logistic (a (ix3 b s k)) := by
  unfold Ideal.logistic
  pointwise [silu]

/-- An entry of the sum of the input and the gated feed-forward. -/
theorem added_at (u : FVec Ideal S2x256x5632 .f32) (d : Fin 2048) : added x gt u w2 (ix3 b s d)
    = x (ix3 b s d) + Ideal.ofBits .f32 0x3F000000#32 * gt (ix3 0 0 d) * ∑ k : Fin 5632, u (ix3 b s k) * w2 (ix2 k d) := by
  pointwise [added]

/-- A row of the flattened result is a row of its batch. -/
theorem flat_at (y : FVec Ideal S2x256x2048 .f32) (R : Fin 512) (d : Fin 2048) :
    shapeCast S512x2048 y shapeCasts_S2x256x2048_S512x2048 (ix2 R d) = y (ix3 ⟨R.val / 256, by omega⟩ ⟨R.val % 256, by omega⟩ d) := by
  pointwise

/-- An entry of the layer is an entry of its row's layer. -/
theorem layer_at (d : Fin 2048) : layer x g sh sc gt w1 w3 w2 (ix3 b s d)
    = InnerClaims.rowLayer (fun e => x (ix3 b s e)) (fun e => g (ix1 e)) (fun e => sh (ix3 0 0 e)) (fun e => sc (ix3 0 0 e))
        (fun e => gt (ix3 0 0 e)) w1 w3 w2 d := by
  have hk : ∀ k : Fin 5632, mulf (silu (through (modulated x g sh sc) w1)) (through (modulated x g sh sc) w3) (ix3 b s k) * w2 (ix2 k d)
      = InnerClaims.term (FfnClaims.modl (fun e => x (ix3 b s e)) (fun e => g (ix1 e)) (fun e => sh (ix3 0 0 e)) (fun e => sc (ix3 0 0 e))) w1 w3 w2 d k := by
    intro k
    unfold InnerClaims.term FfnClaims.gated
    rw [← funext (modulated_at x g sh sc b s), ← through_at, ← through_at, ← silu_at]
    rfl
  unfold layer InnerClaims.rowLayer
  rw [added_at, Finset.sum_congr rfl fun k _ => hk k]

end entries

end Cert.Reference3Ideal.Context

end
-- ==== Proof.InnerReference.lean ====
module

public import proofs.«01_k».proof.Proof.InnerLatent
public import proofs.«01_k».proof.Proof.InnerContext

/-! # What the inner feed-forward reference computes -/

@[expose] public section

set_option maxRecDepth 16384

noncomputable section

namespace Cert.Reference3Ideal.Inner

open Idealize.ShloMosaic Idealize.ShloMosaic.TcCoe Cert.Reference3Ideal Cert.Reference3Ideal.Gen

/-- The latent rows and, after them, the context rows. -/
def joined (a : FVec Ideal S16384x2048 .f32) (b : FVec Ideal S512x2048 .f32) : FVec Ideal S16896x2048 .f32 :=
  concatenate S16896x2048 0 [⟨S16384x2048, a⟩, ⟨S512x2048, b⟩] concatenates_S16384x2048_S512x2048_S16896x2048_d0

/-- A row of the two, one after the other. -/
theorem joined_at (a : FVec Ideal S16384x2048 .f32) (b : FVec Ideal S512x2048 .f32) (R : Fin 16896) (d : Fin 2048) :
    joined a b (ix2 R d) = if h : R.val < 16384 then a (ix2 ⟨R.val, h⟩ d) else b (ix2 ⟨R.val - 16384, by omega⟩ d) := by
  pointwise [joined]

/-- The reference's result of its twelve arguments. -/
def out (x : FVec Ideal S2x8192x2048 .f32) (y : FVec Ideal S2x256x2048 .f32) (g : FVec Ideal S2048 .f32) (sh sc gt : FVec Ideal S2x1x2048 .f32)
    (csh csc cgt : FVec Ideal S1x1x2048 .f32) (w1 w3 : FVec Ideal S2048x5632 .f32) (w2 : FVec Ideal S5632x2048 .f32) : FVec Ideal S16896x2048 .f32 :=
  joined (shapeCast _ (Latent.layer x g sh sc gt w1 w3 w2) shapeCasts_S2x8192x2048_S16384x2048)
    (shapeCast _ (Context.layer y g csh csc cgt w1 w3 w2) shapeCasts_S2x256x2048_S512x2048)

/-- The generated run's term is this one. -/
theorem out_eq (m : (ℓ : Loc nD τ sig) → Buf (Elt Ideal) ℓ) (c : Dev nD) : Value.res_main_v60 m c
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Value.res_main_v60 out joined Latent.layer Latent.added Latent.silu Latent.through Latent.modulated Latent.norms
    Context.layer Context.added Context.silu Context.through Context.modulated Context.norms
  rfl

end Cert.Reference3Ideal.Inner

end
-- ==== Proof.InnerEquation.lean ====
module

public import proofs.«01_k».proof.Proof.InnerArrays
public import proofs.«01_k».proof.Proof.InnerReference

/-! # The inner feed-forward call's result is the reference's -/

@[expose] public section

set_option maxRecDepth 16384

noncomputable section

namespace Cert.InnerClaims

open Cert.Kernel3Ideal Cert.Kernel3Ideal.Gen
open Idealize.ShloMosaic Idealize.ShloMosaic.TcCoe

/-- The latents and, after them, the context, each with its batches flattened. -/
def rows (x : FVec Ideal S2x8192x2048 .f32) (y : FVec Ideal S2x256x2048 .f32) : FVec Ideal S16896x2048 .f32 :=
  concatenate S16896x2048 0 [⟨S16384x2048, shapeCast S16384x2048 x shapeCasts_S2x8192x2048_S16384x2048⟩,
    ⟨S512x2048, shapeCast S512x2048 y shapeCasts_S2x256x2048_S512x2048⟩] concatenates_S16384x2048_S512x2048_S16896x2048_d0

/-- The two batches' vectors and, after them, the context's. -/
def vectors (a : FVec Ideal S2x1x2048 .f32) (b : FVec Ideal S1x1x2048 .f32) : FVec Ideal S3x1x2048 .f32 :=
  concatenate S3x1x2048 0 [⟨S2x1x2048, a⟩, ⟨S1x1x2048, b⟩] concatenates_S2x1x2048_S1x1x2048_S3x1x2048_d0

section host

variable (m : (ℓ : Loc nD τ sig) → Buf (Elt Ideal) ℓ) (c : Dev nD)

/-- The call is handed the stacked rows. -/
theorem V_x : V m c main_v2 = rows (m ((c : Thread nD τ).loc main_arg0)) (m ((c : Thread nD τ).loc main_arg1)) := by
  dsimp only [V]
  after_results_simp
  rfl

/-- The call is handed the stacked shifts. -/
theorem V_sh : V m c main_v3 = vectors (m ((c : Thread nD τ).loc main_arg3)) (m ((c : Thread nD τ).loc main_arg6)) := by
  dsimp only [V]
  after_results_simp
  rfl

/-- The call is handed the stacked scales. -/
theorem V_sc : V m c main_v4 = vectors (m ((c : Thread nD τ).loc main_arg4)) (m ((c : Thread nD τ).loc main_arg7)) := by
  dsimp only [V]
  after_results_simp
  rfl

/-- The call is handed the stacked gates. -/
theorem V_gt : V m c main_v5 = vectors (m ((c : Thread nD τ).loc main_arg5)) (m ((c : Thread nD τ).loc main_arg8)) := by
  dsimp only [V]
  after_results_simp
  rfl

/-- The call is handed the first weight, narrowed. -/
theorem V_w1 : V m c main_v6 = truncf (F := Ideal) (s := S2048x5632) (φ := .f32) .bf16 (m ((c : Thread nD τ).loc main_arg9)) bitsLt_bf16_f32 := by
  dsimp only [V]
  after_results_simp

/-- The call is handed the third weight, narrowed. -/
theorem V_w3 : V m c main_v7 = truncf (F := Ideal) (s := S2048x5632) (φ := .f32) .bf16 (m ((c : Thread nD τ).loc main_arg10)) bitsLt_bf16_f32 := by
  dsimp only [V]
  after_results_simp

/-- The call is handed the second weight, narrowed. -/
theorem V_w2 : V m c main_v8 = truncf (F := Ideal) (s := S5632x2048) (φ := .f32) .bf16 (m ((c : Thread nD τ).loc main_arg11)) bitsLt_bf16_f32 := by
  dsimp only [V]
  after_results_simp

/-- The call is handed the norm's weights as a row. -/
theorem V_g : V m c main_v9 = shapeCast S1x2048 (m ((c : Thread nD τ).loc main_arg2)) shapeCasts_S2048_S1x2048 := by
  dsimp only [V]
  after_results_simp
  rfl

end host

section entries

variable (x : FVec Ideal S2x8192x2048 .f32) (y : FVec Ideal S2x256x2048 .f32) (g : FVec Ideal S2048 .f32) (sh sc gt : FVec Ideal S2x1x2048 .f32)
  (csh csc cgt : FVec Ideal S1x1x2048 .f32) (w1 w3 : FVec Ideal S2048x5632 .f32) (w2 : FVec Ideal S5632x2048 .f32)

/-- A stacked row. -/
theorem rows_at (R : Fin 16896) (e : Fin 2048) : rows x y (ix2 R e)
    = if h : R.val < 16384 then x (ix3 ⟨R.val / 8192, by omega⟩ ⟨R.val % 8192, by omega⟩ e)
      else y (ix3 ⟨(R.val - 16384) / 256, by omega⟩ ⟨(R.val - 16384) % 256, by omega⟩ e) := by
  pointwise [rows]

/-- A stacked vector. -/
theorem vectors_at (a : FVec Ideal S2x1x2048 .f32) (b : FVec Ideal S1x1x2048 .f32) (r : Fin 3) (e : Fin 2048) :
    vectors a b (ix3 r 0 e) = if h : r.val < 2 then a (ix3 ⟨r.val, h⟩ 0 e) else b (ix3 0 0 e) := by
  unfold vectors
  by_cases h : r.val < 2
  · rw [dif_pos h]
    refine concatenate_pair_apply_left (t := S3x1x2048) 0 a b _ (ix3 r 0 e) rfl (ix3 ⟨r.val, h⟩ 0 e) (fun k => ?_)
    fin_cases k <;> rfl
  · rw [dif_neg h]
    have hr := r.isLt
    refine concatenate_pair_apply_right (t := S3x1x2048) 0 a b _ (ix3 r 0 e) rfl rfl (ix3 0 0 e) (fun k hk => ?_) ?_
    · fin_cases k
      · exact absurd rfl hk
      · rfl
      · rfl
    · show 0 + 2 = r.val
      omega

/-- A vector as a row. -/
theorem vector_row (e : Fin 2048) : shapeCast S1x2048 g shapeCasts_S2048_S1x2048 (ix2 0 e) = g (ix1 e) := by
  pointwise

/-- The layer is the reference, entry by entry. -/
theorem layer_eq (R : Fin 16896) (d : Fin 2048) :
    layer (rows x y) (shapeCast S1x2048 g shapeCasts_S2048_S1x2048) (vectors sh csh) (vectors sc csc) (vectors gt cgt) w1 w3 w2 R d
      = Cert.Reference3Ideal.Inner.out x y g sh sc gt csh csc cgt w1 w3 w2 (ix2 R d) := by
  rw [layer_row]
  simp only [rows_at, vectors_at, vector_row]
  unfold Cert.Reference3Ideal.Inner.out
  rw [Cert.Reference3Ideal.Inner.joined_at]
  by_cases h : R.val < 16384
  · have hb : R.val / 8192 < 2 := by omega
    simp only [dif_pos h, dif_pos hb]
    refine Eq.trans ?_ (Cert.Reference3Ideal.Latent.flat_at _ ⟨R.val, h⟩ d).symm
    exact (Cert.Reference3Ideal.Latent.layer_at x g sh sc gt w1 w3 w2 _ _ d).symm
  · have hb : ¬ R.val / 8192 < 2 := by omega
    simp only [dif_neg h, dif_neg hb]
    refine Eq.trans ?_ (Cert.Reference3Ideal.Context.flat_at _ ⟨R.val - 16384, by omega⟩ d).symm
    exact (Cert.Reference3Ideal.Context.layer_at y g csh csc cgt w1 w3 w2 _ _ d).symm

end entries

variable (m : (ℓ : Loc nD τ sig) → Buf (Elt Ideal) ℓ) (c : Dev nD)

/-- The array the call leaves is the reference's result. -/
theorem array_eq : (dats m 0 c).arrAt 11 cfg0.N
    = Cert.Reference3Ideal.Inner.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [array11, V_x, V_g, V_w1, V_w2, V_w3, V_sh, V_sc, V_gt]
  funext x
  obtain ⟨r, d, rfl⟩ : ∃ (r : Fin 16896) (d : Fin 2048), x = ix2 r d := ⟨x 0, x 1, by funext a; fin_cases a <;> rfl⟩
  exact layer_eq _ _ _ _ _ _ _ _ _ _ _ _ r d

end Cert.InnerClaims

end
-- ==== Proof.InnerTwin.lean ====
/- The feed-forward kernel's frame from its idealized twin's. -/
module

public import proofs.«01_k».proof.Defs
public import proofs.«01_k».proof.Proof.Gen.Kernel3Ideal
public import proofs.«01_k».proof.Proof.Gen.Kernel3
public import Idealize.ShloMosaic.Lib.Tactic

@[expose] public section

set_option maxRecDepth 65536

noncomputable section

namespace Cert.InnerClaims

open Idealize.ShloMosaic Idealize.ShloMosaic.TcCoe Idealize.SL.Sem

attribute [local instance] Cert.Kernel3.Gen.facts Cert.Kernel3Ideal.Gen.facts

/-- The printed kernel and the idealized one have the same text: a frame of the second, at any values, is one of the first. -/
theorem twin
    (h : ∀ (m : (ℓ : Loc Cert.Kernel3Ideal.nD Cert.Kernel3Ideal.τ Cert.Kernel3Ideal.sig) → Buf (Elt Bits) ℓ) (g : Dev Cert.Kernel3Ideal.nD → PrngReg),
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)) : Cert.quiescent_Kernel3 := by
  intro m g _
  refine Eq.mp ?_ (h m g)
  sl_kernel_rfl

end Cert.InnerClaims

end
-- ==== Proof.InnerForward.lean ====
module

public import proofs.«01_k».proof.Defs
public import proofs.«01_k».proof.Proof.InnerEquation
public import proofs.«01_k».proof.Proof.InnerTwin
public import Idealize.ShloMosaic.Adequacy
public import Idealize.ShloMosaic.Lib.Claim
public import Idealize.ShloMosaic.Init

/-! # The claims about the inner feed-forward call -/

@[expose] public section

set_option maxRecDepth 16384

noncomputable section

namespace Cert.InnerClaims

open Idealize.ShloMosaic Idealize.ShloMosaic.TcCoe Idealize.SL.Sem

section Kernel

open Cert.Kernel3Ideal Cert.Kernel3Ideal.Gen

/-- What the kernel leaves: its result array, and its arguments. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h.1.1 c).1 11, h.2.1 c⟩) (θ_run_and (run_main m ρ) (frame_any m ρ))

end Kernel

section Reference

open Cert.Reference3Ideal Cert.Reference3Ideal.Gen

/-- What the reference leaves, by name. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = Inner.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (Inner.out_eq m c), (h c).2⟩) (Value.run m ρ)

end Reference

/-! ## The claims -/

/-- The kernel leaves its arguments and ends quiescent. -/
theorem frame_p : Cert.quiescent_Kernel3 := twin fun m g => frame_any m g

/-- So does the idealized kernel. -/
theorem frame_pi : Cert.quiescent_Kernel3Ideal := fun m ρ _ => frame_any m ρ

/-- So does the reference. -/
theorem frame_ri : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run m ρ)

/-- The idealized kernel is the kernel's own text. -/
theorem preserves : Cert.preserves_Kernel3_Kernel3Ideal := trivial

/-- Equal arguments give equal results of the reference. -/
theorem out_congr {x x' : FVec Ideal Cert.Reference3Ideal.S2x8192x2048 .f32} {y y' : FVec Ideal Cert.Reference3Ideal.S2x256x2048 .f32} {g g' : FVec Ideal Cert.Reference3Ideal.S2048 .f32}
    {sh sh' sc sc' gt gt' : FVec Ideal Cert.Reference3Ideal.S2x1x2048 .f32} {csh csh' csc csc' cgt cgt' : FVec Ideal Cert.Reference3Ideal.S1x1x2048 .f32}
    {w1 w1' w3 w3' : FVec Ideal Cert.Reference3Ideal.S2048x5632 .f32} {w2 w2' : FVec Ideal Cert.Reference3Ideal.S5632x2048 .f32}
    (h0 : x = x') (h1 : y = y') (h2 : g = g') (h3 : sh = sh') (h4 : sc = sc') (h5 : gt = gt')
    (h6 : csh = csh') (h7 : csc = csc') (h8 : cgt = cgt') (h9 : w1 = w1') (h10 : w3 = w3') (h11 : w2 = w2') :
    Cert.Reference3Ideal.Inner.out x y g sh sc gt csh csc cgt w1 w3 w2 = Cert.Reference3Ideal.Inner.out x' y' g' sh' sc' gt' csh' csc' cgt' w1' w3' w2' := by
  subst h0 h1 h2 h3 h4 h5 h6 h7 h8 h9 h10 h11; rfl

/-- Over the reals the kernel's result is the reference's. -/
theorem algebraic : Cert.algebraic_Kernel3Ideal_Reference3Ideal := by
  intro m ρ m' ρ' _ hag
  refine ⟨fun c => (dats m 0 c).arrAt 11 Cert.Kernel3Ideal.cfg0.N, run_kernel m ρ,
    (θ_run Cert.Reference3Ideal.defs _ _).mono (fun r h c => ?_) (run_reference m' ρ')⟩
  obtain ⟨h0, hk⟩ := h c
  obtain ⟨a0, a1, a2, a3, a4, a5, a6, a7, a8, a9, a10, a11⟩ := hag c
  exact ⟨h0.trans ((out_congr a0 a1 a2 a3 a4 a5 a6 a7 a8 a9 a10 a11).trans (array_eq m c).symm), hk⟩

end Cert.InnerClaims

end
-- ==== Proof.lean ====
module

public import proofs.«01_k».proof.Defs
public import proofs.«01_k».proof.Proof.Attention
public import proofs.«01_k».proof.Proof.Feedforward
public import proofs.«01_k».proof.Proof.InnerForward

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite_scores.Mla.facts,
    MlaClaims.frame_p, MlaClaims.frame_pi, MlaClaims.frame_pi_pre, MlaClaims.frame_ri, MlaClaims.frame_ri_pre,
    FfnClaims.frame_p, FfnClaims.frame_pi, FfnClaims.frame_ri,
    InnerClaims.frame_p, InnerClaims.frame_pi, InnerClaims.frame_ri,
    MlaClaims.preserves, MlaClaims.algebraic, FfnClaims.preserves, FfnClaims.algebraic,
    InnerClaims.preserves, InnerClaims.algebraic⟩

end Cert.Proof

end
